-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite [hPre_finite : Cert.Pre_finite.Facts] (m : (ℓ : Loc Cert.RetIdeal.nD Cert.RetIdeal.τ Cert.RetIdeal.sig) → Buf (Elt Ideal) ℓ) : Prop :=
  ∀ c : Dev Cert.RetIdeal.nD,
    (Cert.Pre_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite [hPre_finite : Cert.Pre_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Smp (m : (ℓ : Loc Cert.Smp.nD Cert.Smp.τ Cert.Smp.sig) → Buf (Elt Bits) ℓ) : Prop :=
  True

def Pre_SmpIdeal (m : (ℓ : Loc Cert.SmpIdeal.nD Cert.SmpIdeal.τ Cert.SmpIdeal.sig) → Buf (Elt Ideal) ℓ) : Prop :=
  True

def Pre_SmpRefIdeal (m : (ℓ : Loc Cert.SmpRefIdeal.nD Cert.SmpRefIdeal.τ Cert.SmpRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_SmpIn (m : (ℓ : Loc Cert.SmpIn.nD Cert.SmpIn.τ Cert.SmpIn.sig) → Buf (Elt Bits) ℓ) : Prop :=
  True

def Pre_SmpInIdeal (m : (ℓ : Loc Cert.SmpInIdeal.nD Cert.SmpInIdeal.τ Cert.SmpInIdeal.sig) → Buf (Elt Ideal) ℓ) : Prop :=
  True

def Pre_SmpInRefIdeal (m : (ℓ : Loc Cert.SmpInRefIdeal.nD Cert.SmpInRefIdeal.τ Cert.SmpInRefIdeal.sig) → Buf (Elt Ideal) ℓ) : Prop :=
  True

def Pre_SmpRet (m : (ℓ : Loc Cert.SmpRet.nD Cert.SmpRet.τ Cert.SmpRet.sig) → Buf (Elt Bits) ℓ) : Prop :=
  True

def Pre_SmpRetIdeal (m : (ℓ : Loc Cert.SmpRetIdeal.nD Cert.SmpRetIdeal.τ Cert.SmpRetIdeal.sig) → Buf (Elt Ideal) ℓ) : Prop :=
  True

def Pre_SmpRetIdeal_finite_sample [hPre_finite_sample : Cert.Pre_finite_sample.Facts] (m : (ℓ : Loc Cert.SmpRetIdeal.nD Cert.SmpRetIdeal.τ Cert.SmpRetIdeal.sig) → Buf (Elt Ideal) ℓ) : Prop :=
  ∀ c : Dev Cert.SmpRetIdeal.nD,
    (Cert.Pre_finite_sample.fn (F := Ideal) (m ((c.tc : Thread Cert.SmpRetIdeal.nD Cert.SmpRetIdeal.τ).loc Cert.SmpRetIdeal.main_arg0)) (m ((c.tc : Thread Cert.SmpRetIdeal.nD Cert.SmpRetIdeal.τ).loc Cert.SmpRetIdeal.main_arg1)) (m ((c.tc : Thread Cert.SmpRetIdeal.nD Cert.SmpRetIdeal.τ).loc Cert.SmpRetIdeal.main_arg2))) = (fun _ => 1#1)

def Pre_SmpRetRefIdeal (m : (ℓ : Loc Cert.SmpRetRefIdeal.nD Cert.SmpRetRefIdeal.τ Cert.SmpRetRefIdeal.sig) → Buf (Elt Ideal) ℓ) : Prop :=
  True

def Pre_SmpRetRefIdeal_finite_sample [hPre_finite_sample : Cert.Pre_finite_sample.Facts] (m : (ℓ : Loc Cert.SmpRetRefIdeal.nD Cert.SmpRetRefIdeal.τ Cert.SmpRetRefIdeal.sig) → Buf (Elt Ideal) ℓ) : Prop :=
  ∀ c : Dev Cert.SmpRetRefIdeal.nD,
    (Cert.Pre_finite_sample.fn (F := Ideal) (m ((c.tc : Thread Cert.SmpRetRefIdeal.nD Cert.SmpRetRefIdeal.τ).loc Cert.SmpRetRefIdeal.main_arg0)) (m ((c.tc : Thread Cert.SmpRetRefIdeal.nD Cert.SmpRetRefIdeal.τ).loc Cert.SmpRetRefIdeal.main_arg1)) (m ((c.tc : Thread Cert.SmpRetRefIdeal.nD Cert.SmpRetRefIdeal.τ).loc Cert.SmpRetRefIdeal.main_arg2))) = (fun _ => 1#1)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetIdeal_pre_finite [hRetIdeal : Cert.RetIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_RetRefIdeal_pre_finite [hRetRefIdeal : Cert.RetRefIdeal.Facts] [hPre_finite : Cert.Pre_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Smp [hSmp : Cert.Smp.Facts] : Prop :=
  ∀ (m : (ℓ : Loc Cert.Smp.nD Cert.Smp.τ Cert.Smp.sig) → Buf (Elt Bits) ℓ) (g : Dev Cert.Smp.nD → PrngReg), Pre_Smp m →
    θ_run (Cert.Smp.defs (F := Bits)) (onTc (τ := Cert.Smp.τ) (Cert.Smp.main (F := Bits))) ⟨m, fun _ => 0, g⟩ (fun r => (∀ c : Dev Cert.Smp.nD,
      r.2.mem ((c.tc : Thread Cert.Smp.nD Cert.Smp.τ).loc Cert.Smp.main_arg0) = m ((c.tc : Thread Cert.Smp.nD Cert.Smp.τ).loc Cert.Smp.main_arg0)
      ∧ r.2.mem ((c.tc : Thread Cert.Smp.nD Cert.Smp.τ).loc Cert.Smp.main_arg1) = m ((c.tc : Thread Cert.Smp.nD Cert.Smp.τ).loc Cert.Smp.main_arg1)
      ∧ r.2.mem ((c.tc : Thread Cert.Smp.nD Cert.Smp.τ).loc Cert.Smp.main_arg2) = m ((c.tc : Thread Cert.Smp.nD Cert.Smp.τ).loc Cert.Smp.main_arg2)
      ∧ r.2.mem ((c.tc : Thread Cert.Smp.nD Cert.Smp.τ).loc Cert.Smp.main_arg3) = m ((c.tc : Thread Cert.Smp.nD Cert.Smp.τ).loc Cert.Smp.main_arg3)
      ∧ r.2.mem ((c.tc : Thread Cert.Smp.nD Cert.Smp.τ).loc Cert.Smp.main_arg4) = m ((c.tc : Thread Cert.Smp.nD Cert.Smp.τ).loc Cert.Smp.main_arg4)
      ∧ r.2.mem ((c.tc : Thread Cert.Smp.nD Cert.Smp.τ).loc Cert.Smp.main_arg5) = m ((c.tc : Thread Cert.Smp.nD Cert.Smp.τ).loc Cert.Smp.main_arg5)
      ∧ r.2.mem ((c.tc : Thread Cert.Smp.nD Cert.Smp.τ).loc Cert.Smp.main_arg6) = m ((c.tc : Thread Cert.Smp.nD Cert.Smp.τ).loc Cert.Smp.main_arg6)
      ∧ r.2.mem ((c.tc : Thread Cert.Smp.nD Cert.Smp.τ).loc Cert.Smp.main_arg7) = m ((c.tc : Thread Cert.Smp.nD Cert.Smp.τ).loc Cert.Smp.main_arg7)
      ∧ r.2.mem ((c.tc : Thread Cert.Smp.nD Cert.Smp.τ).loc Cert.Smp.main_arg8) = m ((c.tc : Thread Cert.Smp.nD Cert.Smp.τ).loc Cert.Smp.main_arg8)
      ∧ r.2.mem ((c.tc : Thread Cert.Smp.nD Cert.Smp.τ).loc Cert.Smp.main_arg9) = m ((c.tc : Thread Cert.Smp.nD Cert.Smp.τ).loc Cert.Smp.main_arg9)
      ∧ r.2.mem ((c.tc : Thread Cert.Smp.nD Cert.Smp.τ).loc Cert.Smp.main_arg10) = m ((c.tc : Thread Cert.Smp.nD Cert.Smp.τ).loc Cert.Smp.main_arg10))
      ∧ r.2.sem = fun _ => 0)

def quiescent_SmpIdeal [hSmpIdeal : Cert.SmpIdeal.Facts] : Prop :=
  ∀ (m : (ℓ : Loc Cert.SmpIdeal.nD Cert.SmpIdeal.τ Cert.SmpIdeal.sig) → Buf (Elt Ideal) ℓ) (g : Dev Cert.SmpIdeal.nD → PrngReg), Pre_SmpIdeal m →
    θ_run (Cert.SmpIdeal.defs (F := Ideal)) (onTc (τ := Cert.SmpIdeal.τ) (Cert.SmpIdeal.main (F := Ideal))) ⟨m, fun _ => 0, g⟩ (fun r => (∀ c : Dev Cert.SmpIdeal.nD,
      r.2.mem ((c.tc : Thread Cert.SmpIdeal.nD Cert.SmpIdeal.τ).loc Cert.SmpIdeal.main_arg0) = m ((c.tc : Thread Cert.SmpIdeal.nD Cert.SmpIdeal.τ).loc Cert.SmpIdeal.main_arg0)
      ∧ r.2.mem ((c.tc : Thread Cert.SmpIdeal.nD Cert.SmpIdeal.τ).loc Cert.SmpIdeal.main_arg1) = m ((c.tc : Thread Cert.SmpIdeal.nD Cert.SmpIdeal.τ).loc Cert.SmpIdeal.main_arg1)
      ∧ r.2.mem ((c.tc : Thread Cert.SmpIdeal.nD Cert.SmpIdeal.τ).loc Cert.SmpIdeal.main_arg2) = m ((c.tc : Thread Cert.SmpIdeal.nD Cert.SmpIdeal.τ).loc Cert.SmpIdeal.main_arg2)
      ∧ r.2.mem ((c.tc : Thread Cert.SmpIdeal.nD Cert.SmpIdeal.τ).loc Cert.SmpIdeal.main_arg3) = m ((c.tc : Thread Cert.SmpIdeal.nD Cert.SmpIdeal.τ).loc Cert.SmpIdeal.main_arg3)
      ∧ r.2.mem ((c.tc : Thread Cert.SmpIdeal.nD Cert.SmpIdeal.τ).loc Cert.SmpIdeal.main_arg4) = m ((c.tc : Thread Cert.SmpIdeal.nD Cert.SmpIdeal.τ).loc Cert.SmpIdeal.main_arg4)
      ∧ r.2.mem ((c.tc : Thread Cert.SmpIdeal.nD Cert.SmpIdeal.τ).loc Cert.SmpIdeal.main_arg5) = m ((c.tc : Thread Cert.SmpIdeal.nD Cert.SmpIdeal.τ).loc Cert.SmpIdeal.main_arg5)
      ∧ r.2.mem ((c.tc : Thread Cert.SmpIdeal.nD Cert.SmpIdeal.τ).loc Cert.SmpIdeal.main_arg6) = m ((c.tc : Thread Cert.SmpIdeal.nD Cert.SmpIdeal.τ).loc Cert.SmpIdeal.main_arg6)
      ∧ r.2.mem ((c.tc : Thread Cert.SmpIdeal.nD Cert.SmpIdeal.τ).loc Cert.SmpIdeal.main_arg7) = m ((c.tc : Thread Cert.SmpIdeal.nD Cert.SmpIdeal.τ).loc Cert.SmpIdeal.main_arg7)
      ∧ r.2.mem ((c.tc : Thread Cert.SmpIdeal.nD Cert.SmpIdeal.τ).loc Cert.SmpIdeal.main_arg8) = m ((c.tc : Thread Cert.SmpIdeal.nD Cert.SmpIdeal.τ).loc Cert.SmpIdeal.main_arg8)
      ∧ r.2.mem ((c.tc : Thread Cert.SmpIdeal.nD Cert.SmpIdeal.τ).loc Cert.SmpIdeal.main_arg9) = m ((c.tc : Thread Cert.SmpIdeal.nD Cert.SmpIdeal.τ).loc Cert.SmpIdeal.main_arg9)
      ∧ r.2.mem ((c.tc : Thread Cert.SmpIdeal.nD Cert.SmpIdeal.τ).loc Cert.SmpIdeal.main_arg10) = m ((c.tc : Thread Cert.SmpIdeal.nD Cert.SmpIdeal.τ).loc Cert.SmpIdeal.main_arg10))
      ∧ r.2.sem = fun _ => 0)

def quiescent_SmpRefIdeal [hSmpRefIdeal : Cert.SmpRefIdeal.Facts] : Prop :=
  ∀ (m : (ℓ : Loc Cert.SmpRefIdeal.nD Cert.SmpRefIdeal.τ Cert.SmpRefIdeal.sig) → Buf (Elt Ideal) ℓ) (g : Dev Cert.SmpRefIdeal.nD → PrngReg), Pre_SmpRefIdeal m →
    θ_run (Cert.SmpRefIdeal.defs (F := Ideal)) (onTc (τ := Cert.SmpRefIdeal.τ) (Cert.SmpRefIdeal.main (F := Ideal))) ⟨m, fun _ => 0, g⟩ (fun r => (∀ c : Dev Cert.SmpRefIdeal.nD,
      r.2.mem ((c.tc : Thread Cert.SmpRefIdeal.nD Cert.SmpRefIdeal.τ).loc Cert.SmpRefIdeal.main_arg0) = m ((c.tc : Thread Cert.SmpRefIdeal.nD Cert.SmpRefIdeal.τ).loc Cert.SmpRefIdeal.main_arg0)
      ∧ r.2.mem ((c.tc : Thread Cert.SmpRefIdeal.nD Cert.SmpRefIdeal.τ).loc Cert.SmpRefIdeal.main_arg1) = m ((c.tc : Thread Cert.SmpRefIdeal.nD Cert.SmpRefIdeal.τ).loc Cert.SmpRefIdeal.main_arg1)
      ∧ r.2.mem ((c.tc : Thread Cert.SmpRefIdeal.nD Cert.SmpRefIdeal.τ).loc Cert.SmpRefIdeal.main_arg2) = m ((c.tc : Thread Cert.SmpRefIdeal.nD Cert.SmpRefIdeal.τ).loc Cert.SmpRefIdeal.main_arg2)
      ∧ r.2.mem ((c.tc : Thread Cert.SmpRefIdeal.nD Cert.SmpRefIdeal.τ).loc Cert.SmpRefIdeal.main_arg3) = m ((c.tc : Thread Cert.SmpRefIdeal.nD Cert.SmpRefIdeal.τ).loc Cert.SmpRefIdeal.main_arg3)
      ∧ r.2.mem ((c.tc : Thread Cert.SmpRefIdeal.nD Cert.SmpRefIdeal.τ).loc Cert.SmpRefIdeal.main_arg4) = m ((c.tc : Thread Cert.SmpRefIdeal.nD Cert.SmpRefIdeal.τ).loc Cert.SmpRefIdeal.main_arg4)
      ∧ r.2.mem ((c.tc : Thread Cert.SmpRefIdeal.nD Cert.SmpRefIdeal.τ).loc Cert.SmpRefIdeal.main_arg5) = m ((c.tc : Thread Cert.SmpRefIdeal.nD Cert.SmpRefIdeal.τ).loc Cert.SmpRefIdeal.main_arg5)
      ∧ r.2.mem ((c.tc : Thread Cert.SmpRefIdeal.nD Cert.SmpRefIdeal.τ).loc Cert.SmpRefIdeal.main_arg6) = m ((c.tc : Thread Cert.SmpRefIdeal.nD Cert.SmpRefIdeal.τ).loc Cert.SmpRefIdeal.main_arg6)
      ∧ r.2.mem ((c.tc : Thread Cert.SmpRefIdeal.nD Cert.SmpRefIdeal.τ).loc Cert.SmpRefIdeal.main_arg7) = m ((c.tc : Thread Cert.SmpRefIdeal.nD Cert.SmpRefIdeal.τ).loc Cert.SmpRefIdeal.main_arg7)
      ∧ r.2.mem ((c.tc : Thread Cert.SmpRefIdeal.nD Cert.SmpRefIdeal.τ).loc Cert.SmpRefIdeal.main_arg8) = m ((c.tc : Thread Cert.SmpRefIdeal.nD Cert.SmpRefIdeal.τ).loc Cert.SmpRefIdeal.main_arg8)
      ∧ r.2.mem ((c.tc : Thread Cert.SmpRefIdeal.nD Cert.SmpRefIdeal.τ).loc Cert.SmpRefIdeal.main_arg9) = m ((c.tc : Thread Cert.SmpRefIdeal.nD Cert.SmpRefIdeal.τ).loc Cert.SmpRefIdeal.main_arg9)
      ∧ r.2.mem ((c.tc : Thread Cert.SmpRefIdeal.nD Cert.SmpRefIdeal.τ).loc Cert.SmpRefIdeal.main_arg10) = m ((c.tc : Thread Cert.SmpRefIdeal.nD Cert.SmpRefIdeal.τ).loc Cert.SmpRefIdeal.main_arg10))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_SmpIn [hSmpIn : Cert.SmpIn.Facts] : Prop :=
  ∀ (m : (ℓ : Loc Cert.SmpIn.nD Cert.SmpIn.τ Cert.SmpIn.sig) → Buf (Elt Bits) ℓ) (g : Dev Cert.SmpIn.nD → PrngReg), Pre_SmpIn m →
    θ_run (Cert.SmpIn.defs (F := Bits)) (onTc (τ := Cert.SmpIn.τ) (Cert.SmpIn.main (F := Bits))) ⟨m, fun _ => 0, g⟩ (fun r => (∀ c : Dev Cert.SmpIn.nD,
      r.2.mem ((c.tc : Thread Cert.SmpIn.nD Cert.SmpIn.τ).loc Cert.SmpIn.main_arg0) = m ((c.tc : Thread Cert.SmpIn.nD Cert.SmpIn.τ).loc Cert.SmpIn.main_arg0)
      ∧ r.2.mem ((c.tc : Thread Cert.SmpIn.nD Cert.SmpIn.τ).loc Cert.SmpIn.main_arg1) = m ((c.tc : Thread Cert.SmpIn.nD Cert.SmpIn.τ).loc Cert.SmpIn.main_arg1)
      ∧ r.2.mem ((c.tc : Thread Cert.SmpIn.nD Cert.SmpIn.τ).loc Cert.SmpIn.main_arg2) = m ((c.tc : Thread Cert.SmpIn.nD Cert.SmpIn.τ).loc Cert.SmpIn.main_arg2)
      ∧ r.2.mem ((c.tc : Thread Cert.SmpIn.nD Cert.SmpIn.τ).loc Cert.SmpIn.main_arg3) = m ((c.tc : Thread Cert.SmpIn.nD Cert.SmpIn.τ).loc Cert.SmpIn.main_arg3)
      ∧ r.2.mem ((c.tc : Thread Cert.SmpIn.nD Cert.SmpIn.τ).loc Cert.SmpIn.main_arg4) = m ((c.tc : Thread Cert.SmpIn.nD Cert.SmpIn.τ).loc Cert.SmpIn.main_arg4))
      ∧ r.2.sem = fun _ => 0)

def quiescent_SmpInIdeal [hSmpInIdeal : Cert.SmpInIdeal.Facts] : Prop :=
  ∀ (m : (ℓ : Loc Cert.SmpInIdeal.nD Cert.SmpInIdeal.τ Cert.SmpInIdeal.sig) → Buf (Elt Ideal) ℓ) (g : Dev Cert.SmpInIdeal.nD → PrngReg), Pre_SmpInIdeal m →
    θ_run (Cert.SmpInIdeal.defs (F := Ideal)) (onTc (τ := Cert.SmpInIdeal.τ) (Cert.SmpInIdeal.main (F := Ideal))) ⟨m, fun _ => 0, g⟩ (fun r => (∀ c : Dev Cert.SmpInIdeal.nD,
      r.2.mem ((c.tc : Thread Cert.SmpInIdeal.nD Cert.SmpInIdeal.τ).loc Cert.SmpInIdeal.main_arg0) = m ((c.tc : Thread Cert.SmpInIdeal.nD Cert.SmpInIdeal.τ).loc Cert.SmpInIdeal.main_arg0)
      ∧ r.2.mem ((c.tc : Thread Cert.SmpInIdeal.nD Cert.SmpInIdeal.τ).loc Cert.SmpInIdeal.main_arg1) = m ((c.tc : Thread Cert.SmpInIdeal.nD Cert.SmpInIdeal.τ).loc Cert.SmpInIdeal.main_arg1)
      ∧ r.2.mem ((c.tc : Thread Cert.SmpInIdeal.nD Cert.SmpInIdeal.τ).loc Cert.SmpInIdeal.main_arg2) = m ((c.tc : Thread Cert.SmpInIdeal.nD Cert.SmpInIdeal.τ).loc Cert.SmpInIdeal.main_arg2)
      ∧ r.2.mem ((c.tc : Thread Cert.SmpInIdeal.nD Cert.SmpInIdeal.τ).loc Cert.SmpInIdeal.main_arg3) = m ((c.tc : Thread Cert.SmpInIdeal.nD Cert.SmpInIdeal.τ).loc Cert.SmpInIdeal.main_arg3)
      ∧ r.2.mem ((c.tc : Thread Cert.SmpInIdeal.nD Cert.SmpInIdeal.τ).loc Cert.SmpInIdeal.main_arg4) = m ((c.tc : Thread Cert.SmpInIdeal.nD Cert.SmpInIdeal.τ).loc Cert.SmpInIdeal.main_arg4))
      ∧ r.2.sem = fun _ => 0)

def quiescent_SmpInRefIdeal [hSmpInRefIdeal : Cert.SmpInRefIdeal.Facts] : Prop :=
  ∀ (m : (ℓ : Loc Cert.SmpInRefIdeal.nD Cert.SmpInRefIdeal.τ Cert.SmpInRefIdeal.sig) → Buf (Elt Ideal) ℓ) (g : Dev Cert.SmpInRefIdeal.nD → PrngReg), Pre_SmpInRefIdeal m →
    θ_run (Cert.SmpInRefIdeal.defs (F := Ideal)) (onTc (τ := Cert.SmpInRefIdeal.τ) (Cert.SmpInRefIdeal.main (F := Ideal))) ⟨m, fun _ => 0, g⟩ (fun r => (∀ c : Dev Cert.SmpInRefIdeal.nD,
      r.2.mem ((c.tc : Thread Cert.SmpInRefIdeal.nD Cert.SmpInRefIdeal.τ).loc Cert.SmpInRefIdeal.main_arg0) = m ((c.tc : Thread Cert.SmpInRefIdeal.nD Cert.SmpInRefIdeal.τ).loc Cert.SmpInRefIdeal.main_arg0)
      ∧ r.2.mem ((c.tc : Thread Cert.SmpInRefIdeal.nD Cert.SmpInRefIdeal.τ).loc Cert.SmpInRefIdeal.main_arg1) = m ((c.tc : Thread Cert.SmpInRefIdeal.nD Cert.SmpInRefIdeal.τ).loc Cert.SmpInRefIdeal.main_arg1)
      ∧ r.2.mem ((c.tc : Thread Cert.SmpInRefIdeal.nD Cert.SmpInRefIdeal.τ).loc Cert.SmpInRefIdeal.main_arg2) = m ((c.tc : Thread Cert.SmpInRefIdeal.nD Cert.SmpInRefIdeal.τ).loc Cert.SmpInRefIdeal.main_arg2)
      ∧ r.2.mem ((c.tc : Thread Cert.SmpInRefIdeal.nD Cert.SmpInRefIdeal.τ).loc Cert.SmpInRefIdeal.main_arg3) = m ((c.tc : Thread Cert.SmpInRefIdeal.nD Cert.SmpInRefIdeal.τ).loc Cert.SmpInRefIdeal.main_arg3)
      ∧ r.2.mem ((c.tc : Thread Cert.SmpInRefIdeal.nD Cert.SmpInRefIdeal.τ).loc Cert.SmpInRefIdeal.main_arg4) = m ((c.tc : Thread Cert.SmpInRefIdeal.nD Cert.SmpInRefIdeal.τ).loc Cert.SmpInRefIdeal.main_arg4))
      ∧ r.2.sem = fun _ => 0)

def quiescent_SmpRet [hSmpRet : Cert.SmpRet.Facts] : Prop :=
  ∀ (m : (ℓ : Loc Cert.SmpRet.nD Cert.SmpRet.τ Cert.SmpRet.sig) → Buf (Elt Bits) ℓ) (g : Dev Cert.SmpRet.nD → PrngReg), Pre_SmpRet m →
    θ_run (Cert.SmpRet.defs (F := Bits)) (onTc (τ := Cert.SmpRet.τ) (Cert.SmpRet.main (F := Bits))) ⟨m, fun _ => 0, g⟩ (fun r => (∀ c : Dev Cert.SmpRet.nD,
      r.2.mem ((c.tc : Thread Cert.SmpRet.nD Cert.SmpRet.τ).loc Cert.SmpRet.main_arg0) = m ((c.tc : Thread Cert.SmpRet.nD Cert.SmpRet.τ).loc Cert.SmpRet.main_arg0)
      ∧ r.2.mem ((c.tc : Thread Cert.SmpRet.nD Cert.SmpRet.τ).loc Cert.SmpRet.main_arg1) = m ((c.tc : Thread Cert.SmpRet.nD Cert.SmpRet.τ).loc Cert.SmpRet.main_arg1)
      ∧ r.2.mem ((c.tc : Thread Cert.SmpRet.nD Cert.SmpRet.τ).loc Cert.SmpRet.main_arg2) = m ((c.tc : Thread Cert.SmpRet.nD Cert.SmpRet.τ).loc Cert.SmpRet.main_arg2))
      ∧ r.2.sem = fun _ => 0)

def quiescent_SmpRetIdeal [hSmpRetIdeal : Cert.SmpRetIdeal.Facts] : Prop :=
  ∀ (m : (ℓ : Loc Cert.SmpRetIdeal.nD Cert.SmpRetIdeal.τ Cert.SmpRetIdeal.sig) → Buf (Elt Ideal) ℓ) (g : Dev Cert.SmpRetIdeal.nD → PrngReg), Pre_SmpRetIdeal m →
    θ_run (Cert.SmpRetIdeal.defs (F := Ideal)) (onTc (τ := Cert.SmpRetIdeal.τ) (Cert.SmpRetIdeal.main (F := Ideal))) ⟨m, fun _ => 0, g⟩ (fun r => (∀ c : Dev Cert.SmpRetIdeal.nD,
      r.2.mem ((c.tc : Thread Cert.SmpRetIdeal.nD Cert.SmpRetIdeal.τ).loc Cert.SmpRetIdeal.main_arg0) = m ((c.tc : Thread Cert.SmpRetIdeal.nD Cert.SmpRetIdeal.τ).loc Cert.SmpRetIdeal.main_arg0)
      ∧ r.2.mem ((c.tc : Thread Cert.SmpRetIdeal.nD Cert.SmpRetIdeal.τ).loc Cert.SmpRetIdeal.main_arg1) = m ((c.tc : Thread Cert.SmpRetIdeal.nD Cert.SmpRetIdeal.τ).loc Cert.SmpRetIdeal.main_arg1)
      ∧ r.2.mem ((c.tc : Thread Cert.SmpRetIdeal.nD Cert.SmpRetIdeal.τ).loc Cert.SmpRetIdeal.main_arg2) = m ((c.tc : Thread Cert.SmpRetIdeal.nD Cert.SmpRetIdeal.τ).loc Cert.SmpRetIdeal.main_arg2))
      ∧ r.2.sem = fun _ => 0)

def quiescent_SmpRetIdeal_pre_finite_sample [hSmpRetIdeal : Cert.SmpRetIdeal.Facts] [hPre_finite_sample : Cert.Pre_finite_sample.Facts] : Prop :=
  ∀ (m : (ℓ : Loc Cert.SmpRetIdeal.nD Cert.SmpRetIdeal.τ Cert.SmpRetIdeal.sig) → Buf (Elt Ideal) ℓ) (g : Dev Cert.SmpRetIdeal.nD → PrngReg), Pre_SmpRetIdeal_finite_sample m →
    θ_run (Cert.SmpRetIdeal.defs (F := Ideal)) (onTc (τ := Cert.SmpRetIdeal.τ) (Cert.SmpRetIdeal.main (F := Ideal))) ⟨m, fun _ => 0, g⟩ (fun r => (∀ c : Dev Cert.SmpRetIdeal.nD,
      r.2.mem ((c.tc : Thread Cert.SmpRetIdeal.nD Cert.SmpRetIdeal.τ).loc Cert.SmpRetIdeal.main_arg0) = m ((c.tc : Thread Cert.SmpRetIdeal.nD Cert.SmpRetIdeal.τ).loc Cert.SmpRetIdeal.main_arg0)
      ∧ r.2.mem ((c.tc : Thread Cert.SmpRetIdeal.nD Cert.SmpRetIdeal.τ).loc Cert.SmpRetIdeal.main_arg1) = m ((c.tc : Thread Cert.SmpRetIdeal.nD Cert.SmpRetIdeal.τ).loc Cert.SmpRetIdeal.main_arg1)
      ∧ r.2.mem ((c.tc : Thread Cert.SmpRetIdeal.nD Cert.SmpRetIdeal.τ).loc Cert.SmpRetIdeal.main_arg2) = m ((c.tc : Thread Cert.SmpRetIdeal.nD Cert.SmpRetIdeal.τ).loc Cert.SmpRetIdeal.main_arg2))
      ∧ r.2.sem = fun _ => 0)

def quiescent_SmpRetRefIdeal [hSmpRetRefIdeal : Cert.SmpRetRefIdeal.Facts] : Prop :=
  ∀ (m : (ℓ : Loc Cert.SmpRetRefIdeal.nD Cert.SmpRetRefIdeal.τ Cert.SmpRetRefIdeal.sig) → Buf (Elt Ideal) ℓ) (g : Dev Cert.SmpRetRefIdeal.nD → PrngReg), Pre_SmpRetRefIdeal m →
    θ_run (Cert.SmpRetRefIdeal.defs (F := Ideal)) (onTc (τ := Cert.SmpRetRefIdeal.τ) (Cert.SmpRetRefIdeal.main (F := Ideal))) ⟨m, fun _ => 0, g⟩ (fun r => (∀ c : Dev Cert.SmpRetRefIdeal.nD,
      r.2.mem ((c.tc : Thread Cert.SmpRetRefIdeal.nD Cert.SmpRetRefIdeal.τ).loc Cert.SmpRetRefIdeal.main_arg0) = m ((c.tc : Thread Cert.SmpRetRefIdeal.nD Cert.SmpRetRefIdeal.τ).loc Cert.SmpRetRefIdeal.main_arg0)
      ∧ r.2.mem ((c.tc : Thread Cert.SmpRetRefIdeal.nD Cert.SmpRetRefIdeal.τ).loc Cert.SmpRetRefIdeal.main_arg1) = m ((c.tc : Thread Cert.SmpRetRefIdeal.nD Cert.SmpRetRefIdeal.τ).loc Cert.SmpRetRefIdeal.main_arg1)
      ∧ r.2.mem ((c.tc : Thread Cert.SmpRetRefIdeal.nD Cert.SmpRetRefIdeal.τ).loc Cert.SmpRetRefIdeal.main_arg2) = m ((c.tc : Thread Cert.SmpRetRefIdeal.nD Cert.SmpRetRefIdeal.τ).loc Cert.SmpRetRefIdeal.main_arg2))
      ∧ r.2.sem = fun _ => 0)

def quiescent_SmpRetRefIdeal_pre_finite_sample [hSmpRetRefIdeal : Cert.SmpRetRefIdeal.Facts] [hPre_finite_sample : Cert.Pre_finite_sample.Facts] : Prop :=
  ∀ (m : (ℓ : Loc Cert.SmpRetRefIdeal.nD Cert.SmpRetRefIdeal.τ Cert.SmpRetRefIdeal.sig) → Buf (Elt Ideal) ℓ) (g : Dev Cert.SmpRetRefIdeal.nD → PrngReg), Pre_SmpRetRefIdeal_finite_sample m →
    θ_run (Cert.SmpRetRefIdeal.defs (F := Ideal)) (onTc (τ := Cert.SmpRetRefIdeal.τ) (Cert.SmpRetRefIdeal.main (F := Ideal))) ⟨m, fun _ => 0, g⟩ (fun r => (∀ c : Dev Cert.SmpRetRefIdeal.nD,
      r.2.mem ((c.tc : Thread Cert.SmpRetRefIdeal.nD Cert.SmpRetRefIdeal.τ).loc Cert.SmpRetRefIdeal.main_arg0) = m ((c.tc : Thread Cert.SmpRetRefIdeal.nD Cert.SmpRetRefIdeal.τ).loc Cert.SmpRetRefIdeal.main_arg0)
      ∧ r.2.mem ((c.tc : Thread Cert.SmpRetRefIdeal.nD Cert.SmpRetRefIdeal.τ).loc Cert.SmpRetRefIdeal.main_arg1) = m ((c.tc : Thread Cert.SmpRetRefIdeal.nD Cert.SmpRetRefIdeal.τ).loc Cert.SmpRetRefIdeal.main_arg1)
      ∧ r.2.mem ((c.tc : Thread Cert.SmpRetRefIdeal.nD Cert.SmpRetRefIdeal.τ).loc Cert.SmpRetRefIdeal.main_arg2) = m ((c.tc : Thread Cert.SmpRetRefIdeal.nD Cert.SmpRetRefIdeal.τ).loc Cert.SmpRetRefIdeal.main_arg2))
      ∧ r.2.sem = fun _ => 0)

def preserves_Ret_RetIdeal : Prop :=
  True

def algebraic_RetIdeal_RetRefIdeal_pre_finite [hRetIdeal : Cert.RetIdeal.Facts] [hRetRefIdeal : Cert.RetRefIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)) →
    ∃ (v0 : (c : Dev Cert.RetIdeal.nD) → Buf (Elt Ideal) ((c.tc : Thread Cert.RetIdeal.nD Cert.RetIdeal.τ).loc Cert.RetIdeal.main_v127)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v127) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v98) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v86) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Smp_SmpIdeal : Prop :=
  True

def algebraic_SmpIdeal_SmpRefIdeal [hSmpIdeal : Cert.SmpIdeal.Facts] [hSmpRefIdeal : Cert.SmpRefIdeal.Facts] : Prop :=
  ∀ (m : (ℓ : Loc Cert.SmpIdeal.nD Cert.SmpIdeal.τ Cert.SmpIdeal.sig) → Buf (Elt Ideal) ℓ) (g : Dev Cert.SmpIdeal.nD → PrngReg)
    (m' : (ℓ : Loc Cert.SmpRefIdeal.nD Cert.SmpRefIdeal.τ Cert.SmpRefIdeal.sig) → Buf (Elt Ideal) ℓ) (g' : Dev Cert.SmpRefIdeal.nD → PrngReg), Pre_SmpIdeal m →
    (∀ c : Dev Cert.SmpIdeal.nD,
      m' ((c.tc : Thread Cert.SmpRefIdeal.nD Cert.SmpRefIdeal.τ).loc Cert.SmpRefIdeal.main_arg0) = m ((c.tc : Thread Cert.SmpIdeal.nD Cert.SmpIdeal.τ).loc Cert.SmpIdeal.main_arg0)
      ∧ m' ((c.tc : Thread Cert.SmpRefIdeal.nD Cert.SmpRefIdeal.τ).loc Cert.SmpRefIdeal.main_arg1) = m ((c.tc : Thread Cert.SmpIdeal.nD Cert.SmpIdeal.τ).loc Cert.SmpIdeal.main_arg1)
      ∧ m' ((c.tc : Thread Cert.SmpRefIdeal.nD Cert.SmpRefIdeal.τ).loc Cert.SmpRefIdeal.main_arg2) = m ((c.tc : Thread Cert.SmpIdeal.nD Cert.SmpIdeal.τ).loc Cert.SmpIdeal.main_arg2)
      ∧ m' ((c.tc : Thread Cert.SmpRefIdeal.nD Cert.SmpRefIdeal.τ).loc Cert.SmpRefIdeal.main_arg3) = m ((c.tc : Thread Cert.SmpIdeal.nD Cert.SmpIdeal.τ).loc Cert.SmpIdeal.main_arg3)
      ∧ m' ((c.tc : Thread Cert.SmpRefIdeal.nD Cert.SmpRefIdeal.τ).loc Cert.SmpRefIdeal.main_arg4) = m ((c.tc : Thread Cert.SmpIdeal.nD Cert.SmpIdeal.τ).loc Cert.SmpIdeal.main_arg4)
      ∧ m' ((c.tc : Thread Cert.SmpRefIdeal.nD Cert.SmpRefIdeal.τ).loc Cert.SmpRefIdeal.main_arg5) = m ((c.tc : Thread Cert.SmpIdeal.nD Cert.SmpIdeal.τ).loc Cert.SmpIdeal.main_arg5)
      ∧ m' ((c.tc : Thread Cert.SmpRefIdeal.nD Cert.SmpRefIdeal.τ).loc Cert.SmpRefIdeal.main_arg6) = m ((c.tc : Thread Cert.SmpIdeal.nD Cert.SmpIdeal.τ).loc Cert.SmpIdeal.main_arg6)
      ∧ m' ((c.tc : Thread Cert.SmpRefIdeal.nD Cert.SmpRefIdeal.τ).loc Cert.SmpRefIdeal.main_arg7) = m ((c.tc : Thread Cert.SmpIdeal.nD Cert.SmpIdeal.τ).loc Cert.SmpIdeal.main_arg7)
      ∧ m' ((c.tc : Thread Cert.SmpRefIdeal.nD Cert.SmpRefIdeal.τ).loc Cert.SmpRefIdeal.main_arg8) = m ((c.tc : Thread Cert.SmpIdeal.nD Cert.SmpIdeal.τ).loc Cert.SmpIdeal.main_arg8)
      ∧ m' ((c.tc : Thread Cert.SmpRefIdeal.nD Cert.SmpRefIdeal.τ).loc Cert.SmpRefIdeal.main_arg9) = m ((c.tc : Thread Cert.SmpIdeal.nD Cert.SmpIdeal.τ).loc Cert.SmpIdeal.main_arg9)
      ∧ m' ((c.tc : Thread Cert.SmpRefIdeal.nD Cert.SmpRefIdeal.τ).loc Cert.SmpRefIdeal.main_arg10) = m ((c.tc : Thread Cert.SmpIdeal.nD Cert.SmpIdeal.τ).loc Cert.SmpIdeal.main_arg10)) →
    ∃ (v0 : (c : Dev Cert.SmpIdeal.nD) → Buf (Elt Ideal) ((c.tc : Thread Cert.SmpIdeal.nD Cert.SmpIdeal.τ).loc Cert.SmpIdeal.main_v18)),
      θ_run (Cert.SmpIdeal.defs (F := Ideal)) (onTc (τ := Cert.SmpIdeal.τ) (Cert.SmpIdeal.main (F := Ideal))) ⟨m, fun _ => 0, g⟩ (fun r => ∀ c : Dev Cert.SmpIdeal.nD,
          r.2.mem ((c.tc : Thread Cert.SmpIdeal.nD Cert.SmpIdeal.τ).loc Cert.SmpIdeal.main_v18) = v0 c
          ∧ r.2.mem ((c.tc : Thread Cert.SmpIdeal.nD Cert.SmpIdeal.τ).loc Cert.SmpIdeal.main_arg0) = m ((c.tc : Thread Cert.SmpIdeal.nD Cert.SmpIdeal.τ).loc Cert.SmpIdeal.main_arg0)
          ∧ r.2.mem ((c.tc : Thread Cert.SmpIdeal.nD Cert.SmpIdeal.τ).loc Cert.SmpIdeal.main_arg1) = m ((c.tc : Thread Cert.SmpIdeal.nD Cert.SmpIdeal.τ).loc Cert.SmpIdeal.main_arg1)
          ∧ r.2.mem ((c.tc : Thread Cert.SmpIdeal.nD Cert.SmpIdeal.τ).loc Cert.SmpIdeal.main_arg2) = m ((c.tc : Thread Cert.SmpIdeal.nD Cert.SmpIdeal.τ).loc Cert.SmpIdeal.main_arg2)
          ∧ r.2.mem ((c.tc : Thread Cert.SmpIdeal.nD Cert.SmpIdeal.τ).loc Cert.SmpIdeal.main_arg3) = m ((c.tc : Thread Cert.SmpIdeal.nD Cert.SmpIdeal.τ).loc Cert.SmpIdeal.main_arg3)
          ∧ r.2.mem ((c.tc : Thread Cert.SmpIdeal.nD Cert.SmpIdeal.τ).loc Cert.SmpIdeal.main_arg4) = m ((c.tc : Thread Cert.SmpIdeal.nD Cert.SmpIdeal.τ).loc Cert.SmpIdeal.main_arg4)
          ∧ r.2.mem ((c.tc : Thread Cert.SmpIdeal.nD Cert.SmpIdeal.τ).loc Cert.SmpIdeal.main_arg5) = m ((c.tc : Thread Cert.SmpIdeal.nD Cert.SmpIdeal.τ).loc Cert.SmpIdeal.main_arg5)
          ∧ r.2.mem ((c.tc : Thread Cert.SmpIdeal.nD Cert.SmpIdeal.τ).loc Cert.SmpIdeal.main_arg6) = m ((c.tc : Thread Cert.SmpIdeal.nD Cert.SmpIdeal.τ).loc Cert.SmpIdeal.main_arg6)
          ∧ r.2.mem ((c.tc : Thread Cert.SmpIdeal.nD Cert.SmpIdeal.τ).loc Cert.SmpIdeal.main_arg7) = m ((c.tc : Thread Cert.SmpIdeal.nD Cert.SmpIdeal.τ).loc Cert.SmpIdeal.main_arg7)
          ∧ r.2.mem ((c.tc : Thread Cert.SmpIdeal.nD Cert.SmpIdeal.τ).loc Cert.SmpIdeal.main_arg8) = m ((c.tc : Thread Cert.SmpIdeal.nD Cert.SmpIdeal.τ).loc Cert.SmpIdeal.main_arg8)
          ∧ r.2.mem ((c.tc : Thread Cert.SmpIdeal.nD Cert.SmpIdeal.τ).loc Cert.SmpIdeal.main_arg9) = m ((c.tc : Thread Cert.SmpIdeal.nD Cert.SmpIdeal.τ).loc Cert.SmpIdeal.main_arg9)
          ∧ r.2.mem ((c.tc : Thread Cert.SmpIdeal.nD Cert.SmpIdeal.τ).loc Cert.SmpIdeal.main_arg10) = m ((c.tc : Thread Cert.SmpIdeal.nD Cert.SmpIdeal.τ).loc Cert.SmpIdeal.main_arg10))
      ∧ θ_run (Cert.SmpRefIdeal.defs (F := Ideal)) (onTc (τ := Cert.SmpRefIdeal.τ) (Cert.SmpRefIdeal.main (F := Ideal))) ⟨m', fun _ => 0, g'⟩ (fun r => ∀ c : Dev Cert.SmpRefIdeal.nD,
          r.2.mem ((c.tc : Thread Cert.SmpRefIdeal.nD Cert.SmpRefIdeal.τ).loc Cert.SmpRefIdeal.main_v86) = v0 c
          ∧ r.2.mem ((c.tc : Thread Cert.SmpRefIdeal.nD Cert.SmpRefIdeal.τ).loc Cert.SmpRefIdeal.main_arg0) = m' ((c.tc : Thread Cert.SmpRefIdeal.nD Cert.SmpRefIdeal.τ).loc Cert.SmpRefIdeal.main_arg0)
          ∧ r.2.mem ((c.tc : Thread Cert.SmpRefIdeal.nD Cert.SmpRefIdeal.τ).loc Cert.SmpRefIdeal.main_arg1) = m' ((c.tc : Thread Cert.SmpRefIdeal.nD Cert.SmpRefIdeal.τ).loc Cert.SmpRefIdeal.main_arg1)
          ∧ r.2.mem ((c.tc : Thread Cert.SmpRefIdeal.nD Cert.SmpRefIdeal.τ).loc Cert.SmpRefIdeal.main_arg2) = m' ((c.tc : Thread Cert.SmpRefIdeal.nD Cert.SmpRefIdeal.τ).loc Cert.SmpRefIdeal.main_arg2)
          ∧ r.2.mem ((c.tc : Thread Cert.SmpRefIdeal.nD Cert.SmpRefIdeal.τ).loc Cert.SmpRefIdeal.main_arg3) = m' ((c.tc : Thread Cert.SmpRefIdeal.nD Cert.SmpRefIdeal.τ).loc Cert.SmpRefIdeal.main_arg3)
          ∧ r.2.mem ((c.tc : Thread Cert.SmpRefIdeal.nD Cert.SmpRefIdeal.τ).loc Cert.SmpRefIdeal.main_arg4) = m' ((c.tc : Thread Cert.SmpRefIdeal.nD Cert.SmpRefIdeal.τ).loc Cert.SmpRefIdeal.main_arg4)
          ∧ r.2.mem ((c.tc : Thread Cert.SmpRefIdeal.nD Cert.SmpRefIdeal.τ).loc Cert.SmpRefIdeal.main_arg5) = m' ((c.tc : Thread Cert.SmpRefIdeal.nD Cert.SmpRefIdeal.τ).loc Cert.SmpRefIdeal.main_arg5)
          ∧ r.2.mem ((c.tc : Thread Cert.SmpRefIdeal.nD Cert.SmpRefIdeal.τ).loc Cert.SmpRefIdeal.main_arg6) = m' ((c.tc : Thread Cert.SmpRefIdeal.nD Cert.SmpRefIdeal.τ).loc Cert.SmpRefIdeal.main_arg6)
          ∧ r.2.mem ((c.tc : Thread Cert.SmpRefIdeal.nD Cert.SmpRefIdeal.τ).loc Cert.SmpRefIdeal.main_arg7) = m' ((c.tc : Thread Cert.SmpRefIdeal.nD Cert.SmpRefIdeal.τ).loc Cert.SmpRefIdeal.main_arg7)
          ∧ r.2.mem ((c.tc : Thread Cert.SmpRefIdeal.nD Cert.SmpRefIdeal.τ).loc Cert.SmpRefIdeal.main_arg8) = m' ((c.tc : Thread Cert.SmpRefIdeal.nD Cert.SmpRefIdeal.τ).loc Cert.SmpRefIdeal.main_arg8)
          ∧ r.2.mem ((c.tc : Thread Cert.SmpRefIdeal.nD Cert.SmpRefIdeal.τ).loc Cert.SmpRefIdeal.main_arg9) = m' ((c.tc : Thread Cert.SmpRefIdeal.nD Cert.SmpRefIdeal.τ).loc Cert.SmpRefIdeal.main_arg9)
          ∧ r.2.mem ((c.tc : Thread Cert.SmpRefIdeal.nD Cert.SmpRefIdeal.τ).loc Cert.SmpRefIdeal.main_arg10) = m' ((c.tc : Thread Cert.SmpRefIdeal.nD Cert.SmpRefIdeal.τ).loc Cert.SmpRefIdeal.main_arg10))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v33_0)) (v1 : (c : Dev Cert.InpIdeal.nD) → Buf (Elt Ideal) ((c.tc : Thread Cert.InpIdeal.nD Cert.InpIdeal.τ).loc Cert.InpIdeal.main_v33_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v33_0) = v0 c
          ∧ r.2.mem ((c.tc : Thread Cert.InpIdeal.nD Cert.InpIdeal.τ).loc Cert.InpIdeal.main_v33_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v117) = v0 c
          ∧ r.2.mem ((c.tc : Thread Cert.InpRefIdeal.nD Cert.InpRefIdeal.τ).loc Cert.InpRefIdeal.main_v118) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_SmpIn_SmpInIdeal : Prop :=
  True

def algebraic_SmpInIdeal_SmpInRefIdeal [hSmpInIdeal : Cert.SmpInIdeal.Facts] [hSmpInRefIdeal : Cert.SmpInRefIdeal.Facts] : Prop :=
  ∀ (m : (ℓ : Loc Cert.SmpInIdeal.nD Cert.SmpInIdeal.τ Cert.SmpInIdeal.sig) → Buf (Elt Ideal) ℓ) (g : Dev Cert.SmpInIdeal.nD → PrngReg)
    (m' : (ℓ : Loc Cert.SmpInRefIdeal.nD Cert.SmpInRefIdeal.τ Cert.SmpInRefIdeal.sig) → Buf (Elt Ideal) ℓ) (g' : Dev Cert.SmpInRefIdeal.nD → PrngReg), Pre_SmpInIdeal m →
    (∀ c : Dev Cert.SmpInIdeal.nD,
      m' ((c.tc : Thread Cert.SmpInRefIdeal.nD Cert.SmpInRefIdeal.τ).loc Cert.SmpInRefIdeal.main_arg0) = m ((c.tc : Thread Cert.SmpInIdeal.nD Cert.SmpInIdeal.τ).loc Cert.SmpInIdeal.main_arg0)
      ∧ m' ((c.tc : Thread Cert.SmpInRefIdeal.nD Cert.SmpInRefIdeal.τ).loc Cert.SmpInRefIdeal.main_arg1) = m ((c.tc : Thread Cert.SmpInIdeal.nD Cert.SmpInIdeal.τ).loc Cert.SmpInIdeal.main_arg1)
      ∧ m' ((c.tc : Thread Cert.SmpInRefIdeal.nD Cert.SmpInRefIdeal.τ).loc Cert.SmpInRefIdeal.main_arg2) = m ((c.tc : Thread Cert.SmpInIdeal.nD Cert.SmpInIdeal.τ).loc Cert.SmpInIdeal.main_arg2)
      ∧ m' ((c.tc : Thread Cert.SmpInRefIdeal.nD Cert.SmpInRefIdeal.τ).loc Cert.SmpInRefIdeal.main_arg3) = m ((c.tc : Thread Cert.SmpInIdeal.nD Cert.SmpInIdeal.τ).loc Cert.SmpInIdeal.main_arg3)
      ∧ m' ((c.tc : Thread Cert.SmpInRefIdeal.nD Cert.SmpInRefIdeal.τ).loc Cert.SmpInRefIdeal.main_arg4) = m ((c.tc : Thread Cert.SmpInIdeal.nD Cert.SmpInIdeal.τ).loc Cert.SmpInIdeal.main_arg4)) →
    ∃ (v0 : (c : Dev Cert.SmpInIdeal.nD) → Buf (Elt Ideal) ((c.tc : Thread Cert.SmpInIdeal.nD Cert.SmpInIdeal.τ).loc Cert.SmpInIdeal.main_v33_0)) (v1 : (c : Dev Cert.SmpInIdeal.nD) → Buf (Elt Ideal) ((c.tc : Thread Cert.SmpInIdeal.nD Cert.SmpInIdeal.τ).loc Cert.SmpInIdeal.main_v33_1)),
      θ_run (Cert.SmpInIdeal.defs (F := Ideal)) (onTc (τ := Cert.SmpInIdeal.τ) (Cert.SmpInIdeal.main (F := Ideal))) ⟨m, fun _ => 0, g⟩ (fun r => ∀ c : Dev Cert.SmpInIdeal.nD,
          r.2.mem ((c.tc : Thread Cert.SmpInIdeal.nD Cert.SmpInIdeal.τ).loc Cert.SmpInIdeal.main_v33_0) = v0 c
          ∧ r.2.mem ((c.tc : Thread Cert.SmpInIdeal.nD Cert.SmpInIdeal.τ).loc Cert.SmpInIdeal.main_v33_1) = v1 c
          ∧ r.2.mem ((c.tc : Thread Cert.SmpInIdeal.nD Cert.SmpInIdeal.τ).loc Cert.SmpInIdeal.main_arg0) = m ((c.tc : Thread Cert.SmpInIdeal.nD Cert.SmpInIdeal.τ).loc Cert.SmpInIdeal.main_arg0)
          ∧ r.2.mem ((c.tc : Thread Cert.SmpInIdeal.nD Cert.SmpInIdeal.τ).loc Cert.SmpInIdeal.main_arg1) = m ((c.tc : Thread Cert.SmpInIdeal.nD Cert.SmpInIdeal.τ).loc Cert.SmpInIdeal.main_arg1)
          ∧ r.2.mem ((c.tc : Thread Cert.SmpInIdeal.nD Cert.SmpInIdeal.τ).loc Cert.SmpInIdeal.main_arg2) = m ((c.tc : Thread Cert.SmpInIdeal.nD Cert.SmpInIdeal.τ).loc Cert.SmpInIdeal.main_arg2)
          ∧ r.2.mem ((c.tc : Thread Cert.SmpInIdeal.nD Cert.SmpInIdeal.τ).loc Cert.SmpInIdeal.main_arg3) = m ((c.tc : Thread Cert.SmpInIdeal.nD Cert.SmpInIdeal.τ).loc Cert.SmpInIdeal.main_arg3)
          ∧ r.2.mem ((c.tc : Thread Cert.SmpInIdeal.nD Cert.SmpInIdeal.τ).loc Cert.SmpInIdeal.main_arg4) = m ((c.tc : Thread Cert.SmpInIdeal.nD Cert.SmpInIdeal.τ).loc Cert.SmpInIdeal.main_arg4))
      ∧ θ_run (Cert.SmpInRefIdeal.defs (F := Ideal)) (onTc (τ := Cert.SmpInRefIdeal.τ) (Cert.SmpInRefIdeal.main (F := Ideal))) ⟨m', fun _ => 0, g'⟩ (fun r => ∀ c : Dev Cert.SmpInRefIdeal.nD,
          r.2.mem ((c.tc : Thread Cert.SmpInRefIdeal.nD Cert.SmpInRefIdeal.τ).loc Cert.SmpInRefIdeal.main_v117) = v0 c
          ∧ r.2.mem ((c.tc : Thread Cert.SmpInRefIdeal.nD Cert.SmpInRefIdeal.τ).loc Cert.SmpInRefIdeal.main_v118) = v1 c
          ∧ r.2.mem ((c.tc : Thread Cert.SmpInRefIdeal.nD Cert.SmpInRefIdeal.τ).loc Cert.SmpInRefIdeal.main_arg0) = m' ((c.tc : Thread Cert.SmpInRefIdeal.nD Cert.SmpInRefIdeal.τ).loc Cert.SmpInRefIdeal.main_arg0)
          ∧ r.2.mem ((c.tc : Thread Cert.SmpInRefIdeal.nD Cert.SmpInRefIdeal.τ).loc Cert.SmpInRefIdeal.main_arg1) = m' ((c.tc : Thread Cert.SmpInRefIdeal.nD Cert.SmpInRefIdeal.τ).loc Cert.SmpInRefIdeal.main_arg1)
          ∧ r.2.mem ((c.tc : Thread Cert.SmpInRefIdeal.nD Cert.SmpInRefIdeal.τ).loc Cert.SmpInRefIdeal.main_arg2) = m' ((c.tc : Thread Cert.SmpInRefIdeal.nD Cert.SmpInRefIdeal.τ).loc Cert.SmpInRefIdeal.main_arg2)
          ∧ r.2.mem ((c.tc : Thread Cert.SmpInRefIdeal.nD Cert.SmpInRefIdeal.τ).loc Cert.SmpInRefIdeal.main_arg3) = m' ((c.tc : Thread Cert.SmpInRefIdeal.nD Cert.SmpInRefIdeal.τ).loc Cert.SmpInRefIdeal.main_arg3)
          ∧ r.2.mem ((c.tc : Thread Cert.SmpInRefIdeal.nD Cert.SmpInRefIdeal.τ).loc Cert.SmpInRefIdeal.main_arg4) = m' ((c.tc : Thread Cert.SmpInRefIdeal.nD Cert.SmpInRefIdeal.τ).loc Cert.SmpInRefIdeal.main_arg4))

def preserves_SmpRet_SmpRetIdeal : Prop :=
  True

def algebraic_SmpRetIdeal_SmpRetRefIdeal_pre_finite_sample [hSmpRetIdeal : Cert.SmpRetIdeal.Facts] [hSmpRetRefIdeal : Cert.SmpRetRefIdeal.Facts] [hPre_finite_sample : Cert.Pre_finite_sample.Facts] : Prop :=
  ∀ (m : (ℓ : Loc Cert.SmpRetIdeal.nD Cert.SmpRetIdeal.τ Cert.SmpRetIdeal.sig) → Buf (Elt Ideal) ℓ) (g : Dev Cert.SmpRetIdeal.nD → PrngReg)
    (m' : (ℓ : Loc Cert.SmpRetRefIdeal.nD Cert.SmpRetRefIdeal.τ Cert.SmpRetRefIdeal.sig) → Buf (Elt Ideal) ℓ) (g' : Dev Cert.SmpRetRefIdeal.nD → PrngReg), Pre_SmpRetIdeal_finite_sample m →
    (∀ c : Dev Cert.SmpRetIdeal.nD,
      m' ((c.tc : Thread Cert.SmpRetRefIdeal.nD Cert.SmpRetRefIdeal.τ).loc Cert.SmpRetRefIdeal.main_arg0) = m ((c.tc : Thread Cert.SmpRetIdeal.nD Cert.SmpRetIdeal.τ).loc Cert.SmpRetIdeal.main_arg0)
      ∧ m' ((c.tc : Thread Cert.SmpRetRefIdeal.nD Cert.SmpRetRefIdeal.τ).loc Cert.SmpRetRefIdeal.main_arg1) = m ((c.tc : Thread Cert.SmpRetIdeal.nD Cert.SmpRetIdeal.τ).loc Cert.SmpRetIdeal.main_arg1)
      ∧ m' ((c.tc : Thread Cert.SmpRetRefIdeal.nD Cert.SmpRetRefIdeal.τ).loc Cert.SmpRetRefIdeal.main_arg2) = m ((c.tc : Thread Cert.SmpRetIdeal.nD Cert.SmpRetIdeal.τ).loc Cert.SmpRetIdeal.main_arg2)) →
    ∃ (v0 : (c : Dev Cert.SmpRetIdeal.nD) → Buf (Elt Ideal) ((c.tc : Thread Cert.SmpRetIdeal.nD Cert.SmpRetIdeal.τ).loc Cert.SmpRetIdeal.main_v127)),
      θ_run (Cert.SmpRetIdeal.defs (F := Ideal)) (onTc (τ := Cert.SmpRetIdeal.τ) (Cert.SmpRetIdeal.main (F := Ideal))) ⟨m, fun _ => 0, g⟩ (fun r => ∀ c : Dev Cert.SmpRetIdeal.nD,
          r.2.mem ((c.tc : Thread Cert.SmpRetIdeal.nD Cert.SmpRetIdeal.τ).loc Cert.SmpRetIdeal.main_v127) = v0 c
          ∧ r.2.mem ((c.tc : Thread Cert.SmpRetIdeal.nD Cert.SmpRetIdeal.τ).loc Cert.SmpRetIdeal.main_arg0) = m ((c.tc : Thread Cert.SmpRetIdeal.nD Cert.SmpRetIdeal.τ).loc Cert.SmpRetIdeal.main_arg0)
          ∧ r.2.mem ((c.tc : Thread Cert.SmpRetIdeal.nD Cert.SmpRetIdeal.τ).loc Cert.SmpRetIdeal.main_arg1) = m ((c.tc : Thread Cert.SmpRetIdeal.nD Cert.SmpRetIdeal.τ).loc Cert.SmpRetIdeal.main_arg1)
          ∧ r.2.mem ((c.tc : Thread Cert.SmpRetIdeal.nD Cert.SmpRetIdeal.τ).loc Cert.SmpRetIdeal.main_arg2) = m ((c.tc : Thread Cert.SmpRetIdeal.nD Cert.SmpRetIdeal.τ).loc Cert.SmpRetIdeal.main_arg2))
      ∧ θ_run (Cert.SmpRetRefIdeal.defs (F := Ideal)) (onTc (τ := Cert.SmpRetRefIdeal.τ) (Cert.SmpRetRefIdeal.main (F := Ideal))) ⟨m', fun _ => 0, g'⟩ (fun r => ∀ c : Dev Cert.SmpRetRefIdeal.nD,
          r.2.mem ((c.tc : Thread Cert.SmpRetRefIdeal.nD Cert.SmpRetRefIdeal.τ).loc Cert.SmpRetRefIdeal.main_v98) = v0 c
          ∧ r.2.mem ((c.tc : Thread Cert.SmpRetRefIdeal.nD Cert.SmpRetRefIdeal.τ).loc Cert.SmpRetRefIdeal.main_arg0) = m' ((c.tc : Thread Cert.SmpRetRefIdeal.nD Cert.SmpRetRefIdeal.τ).loc Cert.SmpRetRefIdeal.main_arg0)
          ∧ r.2.mem ((c.tc : Thread Cert.SmpRetRefIdeal.nD Cert.SmpRetRefIdeal.τ).loc Cert.SmpRetRefIdeal.main_arg1) = m' ((c.tc : Thread Cert.SmpRetRefIdeal.nD Cert.SmpRetRefIdeal.τ).loc Cert.SmpRetRefIdeal.main_arg1)
          ∧ r.2.mem ((c.tc : Thread Cert.SmpRetRefIdeal.nD Cert.SmpRetRefIdeal.τ).loc Cert.SmpRetRefIdeal.main_arg2) = m' ((c.tc : Thread Cert.SmpRetRefIdeal.nD Cert.SmpRetRefIdeal.τ).loc Cert.SmpRetRefIdeal.main_arg2))

def Claim : Prop :=
  ∃ (hRet : Cert.Ret.Facts) (hRetIdeal : Cert.RetIdeal.Facts) (hRetRefIdeal : Cert.RetRefIdeal.Facts) (hFfn : Cert.Ffn.Facts) (hFfnIdeal : Cert.FfnIdeal.Facts) (hFfnRefIdeal : Cert.FfnRefIdeal.Facts) (hSmp : Cert.Smp.Facts) (hSmpIdeal : Cert.SmpIdeal.Facts) (hSmpRefIdeal : Cert.SmpRefIdeal.Facts) (hInp : Cert.Inp.Facts) (hInpIdeal : Cert.InpIdeal.Facts) (hInpRefIdeal : Cert.InpRefIdeal.Facts) (hSmpIn : Cert.SmpIn.Facts) (hSmpInIdeal : Cert.SmpInIdeal.Facts) (hSmpInRefIdeal : Cert.SmpInRefIdeal.Facts) (hSmpRet : Cert.SmpRet.Facts) (hSmpRetIdeal : Cert.SmpRetIdeal.Facts) (hSmpRetRefIdeal : Cert.SmpRetRefIdeal.Facts) (hPre_finite : Cert.Pre_finite.Facts) (hPre_finite_sample : Cert.Pre_finite_sample.Facts),
    quiescent_Ret (hRet := hRet)
    ∧ quiescent_RetIdeal (hRetIdeal := hRetIdeal)
    ∧ quiescent_RetIdeal_pre_finite (hRetIdeal := hRetIdeal) (hPre_finite := hPre_finite)
    ∧ quiescent_RetRefIdeal (hRetRefIdeal := hRetRefIdeal)
    ∧ quiescent_RetRefIdeal_pre_finite (hRetRefIdeal := hRetRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Smp (hSmp := hSmp)
    ∧ quiescent_SmpIdeal (hSmpIdeal := hSmpIdeal)
    ∧ quiescent_SmpRefIdeal (hSmpRefIdeal := hSmpRefIdeal)
    ∧ quiescent_Inp (hInp := hInp)
    ∧ quiescent_InpIdeal (hInpIdeal := hInpIdeal)
    ∧ quiescent_InpRefIdeal (hInpRefIdeal := hInpRefIdeal)
    ∧ quiescent_SmpIn (hSmpIn := hSmpIn)
    ∧ quiescent_SmpInIdeal (hSmpInIdeal := hSmpInIdeal)
    ∧ quiescent_SmpInRefIdeal (hSmpInRefIdeal := hSmpInRefIdeal)
    ∧ quiescent_SmpRet (hSmpRet := hSmpRet)
    ∧ quiescent_SmpRetIdeal (hSmpRetIdeal := hSmpRetIdeal)
    ∧ quiescent_SmpRetIdeal_pre_finite_sample (hSmpRetIdeal := hSmpRetIdeal) (hPre_finite_sample := hPre_finite_sample)
    ∧ quiescent_SmpRetRefIdeal (hSmpRetRefIdeal := hSmpRetRefIdeal)
    ∧ quiescent_SmpRetRefIdeal_pre_finite_sample (hSmpRetRefIdeal := hSmpRetRefIdeal) (hPre_finite_sample := hPre_finite_sample)
    ∧ preserves_Ret_RetIdeal
    ∧ algebraic_RetIdeal_RetRefIdeal_pre_finite (hRetIdeal := hRetIdeal) (hRetRefIdeal := hRetRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Smp_SmpIdeal
    ∧ algebraic_SmpIdeal_SmpRefIdeal (hSmpIdeal := hSmpIdeal) (hSmpRefIdeal := hSmpRefIdeal)
    ∧ preserves_Inp_InpIdeal
    ∧ algebraic_InpIdeal_InpRefIdeal (hInpIdeal := hInpIdeal) (hInpRefIdeal := hInpRefIdeal)
    ∧ preserves_SmpIn_SmpInIdeal
    ∧ algebraic_SmpInIdeal_SmpInRefIdeal (hSmpInIdeal := hSmpInIdeal) (hSmpInRefIdeal := hSmpInRefIdeal)
    ∧ preserves_SmpRet_SmpRetIdeal
    ∧ algebraic_SmpRetIdeal_SmpRetRefIdeal_pre_finite_sample (hSmpRetIdeal := hSmpRetIdeal) (hSmpRetRefIdeal := hSmpRetRefIdeal) (hPre_finite_sample := hPre_finite_sample)
-- ==== Pre_finite.lean ====
abbrev S8x4096x2048 : Shape := ⟨3, ![8, 4096, 2048]⟩
abbrev S512 : Shape := ⟨1, ![512]⟩
abbrev S8x4096x1536 : Shape := ⟨3, ![8, 4096, 1536]⟩
abbrev S_ : Shape := ⟨0, ![]⟩

class Facts : Prop where
  slices_S8x4096x2048_S8x4096x1536_0_0_0 : S8x4096x2048.Slices ![0, 0, 0] S8x4096x1536
  bitsLt_bf16_f32 : FTy.bits .bf16 < FTy.bits .f32
  bcast_S_S8x4096x1536 : S_.BroadcastsInDim S8x4096x1536 (![] : Fin 0 → Fin S8x4096x1536.rank)

variable [Facts]

def fn {F : FTy → Type} [FloatOps F] (main_arg0 : FVec F S8x4096x2048 .bf16) (main_arg1 : FVec F S512 .f32) (main_arg2 : FVec F S512 .f32) : IVec S8x4096x1536 1 :=
  let main_v0 : FVec F S8x4096x1536 .bf16 := (extractStridedSlice S8x4096x1536 ![0, 0, 0] · slices_S8x4096x2048_S8x4096x1536_0_0_0) main_arg0
  let main_v1 : FVec F S8x4096x1536 .f32 := (extf .f32 · bitsLt_bf16_f32) main_v0
  let main_v2 : FVec F S8x4096x1536 .f32 := Host.absf main_v1
  let main_cst : FVec F S_ .f32 := constant S_ .f32 0x7F800000#32
  let main_v3 : FVec F S8x4096x1536 .f32 := broadcastInDim S8x4096x1536 ![] bcast_S_S8x4096x1536 main_cst
  let main_v4 : IVec S8x4096x1536 1 := cmpf .olt main_v2 main_v3
  main_v4
-- ==== Pre_finite_sample.lean ====
abbrev S4x4096x2048 : Shape := ⟨3, ![4, 4096, 2048]⟩
abbrev S512 : Shape := ⟨1, ![512]⟩
abbrev S4x4096x1536 : Shape := ⟨3, ![4, 4096, 1536]⟩
abbrev S_ : Shape := ⟨0, ![]⟩

class Facts : Prop where
  slices_S4x4096x2048_S4x4096x1536_0_0_0 : S4x4096x2048.Slices ![0, 0, 0] S4x4096x1536
  bitsLt_bf16_f32 : FTy.bits .bf16 < FTy.bits .f32
  bcast_S_S4x4096x1536 : S_.BroadcastsInDim S4x4096x1536 (![] : Fin 0 → Fin S4x4096x1536.rank)

variable [Facts]

def fn {F : FTy → Type} [FloatOps F] (main_arg0 : FVec F S4x4096x2048 .bf16) (main_arg1 : FVec F S512 .f32) (main_arg2 : FVec F S512 .f32) : IVec S4x4096x1536 1 :=
  let main_v0 : FVec F S4x4096x1536 .bf16 := (extractStridedSlice S4x4096x1536 ![0, 0, 0] · slices_S4x4096x2048_S4x4096x1536_0_0_0) main_arg0
  let main_v1 : FVec F S4x4096x1536 .f32 := (extf .f32 · bitsLt_bf16_f32) main_v0
  let main_v2 : FVec F S4x4096x1536 .f32 := Host.absf main_v1
  let main_cst : FVec F S_ .f32 := constant S_ .f32 0x7F800000#32
  let main_v3 : FVec F S4x4096x1536 .f32 := broadcastInDim S4x4096x1536 ![] bcast_S_S4x4096x1536 main_cst
  let main_v4 : IVec S4x4096x1536 1 := cmpf .olt main_v2 main_v3
  main_v4
-- ==== Ret.lean ====
abbrev S8x4096x2048 : Shape := ⟨3, ![8, 4096, 2048]⟩
abbrev S512 : Shape := ⟨1, ![512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S4x512x256 : Shape := ⟨3, ![4, 512, 256]⟩
abbrev S8x1 : Shape := ⟨2, ![8, 1]⟩
abbrev S8x256 : Shape := ⟨2, ![8, 256]⟩
abbrev S8x256x1 : Shape := ⟨3, ![8, 256, 1]⟩
abbrev S8x256x64 : Shape := ⟨3, ![8, 256, 64]⟩
abbrev S4x2x256x64 : Shape := ⟨4, ![4, 2, 256, 64]⟩
abbrev S4x256x2x64 : Shape := ⟨4, ![4, 256, 2, 64]⟩
abbrev S4x256x128 : Shape := ⟨3, ![4, 256, 128]⟩
abbrev S8x1x64 : Shape := ⟨3, ![8, 1, 64]⟩
abbrev S4x2x1x64 : Shape := ⟨4, ![4, 2, 1, 64]⟩
abbrev S4x1x2x64 : Shape := ⟨4, ![4, 1, 2, 64]⟩
abbrev S4x1x128 : Shape := ⟨3, ![4, 1, 128]⟩
abbrev S1x512 : Shape := ⟨2, ![1, 512]⟩
abbrev S8x4096x512 : Shape := ⟨3, ![8, 4096, 512]⟩
abbrev S1x4096x256 : Shape := ⟨3, ![1, 4096, 256]⟩
abbrev S2x512x256 : Shape := ⟨3, ![2, 512, 256]⟩
abbrev S2x256x128 : Shape := ⟨3, ![2, 256, 128]⟩
abbrev S2x1x128 : Shape := ⟨3, ![2, 1, 128]⟩
abbrev S4096x256 : Shape := ⟨2, ![4096, 256]⟩
abbrev S16x2x256x128 : Shape := ⟨4, ![16, 2, 256, 128]⟩
abbrev S16x2x128x128 : Shape := ⟨4, ![16, 2, 128, 128]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1x256x128 : Shape := ⟨4, ![1, 1, 256, 128]⟩
abbrev S1x1x128x128 : Shape := ⟨4, ![1, 1, 128, 128]⟩
abbrev S1x1x128 : Shape := ⟨3, ![1, 1, 128]⟩
abbrev S512x128 : Shape := ⟨2, ![512, 128]⟩
abbrev S512x256 : Shape := ⟨2, ![512, 256]⟩
abbrev S1x512x256 : Shape := ⟨3, ![1, 512, 256]⟩
abbrev S256x768 : Shape := ⟨2, ![256, 768]⟩
abbrev S768x128 : Shape := ⟨2, ![768, 128]⟩

abbrev nBuf : Space → Nat
  | .hbm => 175
  | .vmem => 32
  | .smem => 0
  | _ => 0

abbrev hbmTy0_0 (i : Nat) : BufTy := match i % 128 with
  | 0 => ⟨S8x4096x2048, .bf16⟩
  | 1 => ⟨S512, .f32⟩
  | 2 => ⟨S512, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S256, .f32⟩
  | 25 => ⟨S256x1, .f32⟩
  | 26 => ⟨S1x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .i1⟩
  | 33 => ⟨S1x256x256, .i1⟩
  | 34 => ⟨S_, .f32⟩
  | 35 => ⟨S_, .f32⟩
  | 36 => ⟨S256x256, .f32⟩
  | 37 => ⟨S256x256, .f32⟩
  | 38 => ⟨S1x256x256, .f32⟩
  | 39 => ⟨S8x1x1, .f32⟩
  | 40 => ⟨S8x256x256, .f32⟩
  | 41 => ⟨S8x256x256, .f32⟩
  | 42 => ⟨S8x256x256, .f32⟩
  | 43 => ⟨S8x256x256, .f32⟩
  | 44 => ⟨S_, .f32⟩
  | 45 => ⟨S_, .f32⟩
  | 46 => ⟨S8x256x256, .i1⟩
  | 47 => ⟨S8x256x256, .f32⟩
  | 48 => ⟨S8x256x256, .f32⟩
  | 49 => ⟨S1x256x256, .i1⟩
  | 50 => ⟨S1x256x256, .i1⟩
  | 51 => ⟨S256x256, .i1⟩
  | 52 => ⟨S256x256, .f32⟩
  | 53 => ⟨S_, .f32⟩
  | 54 => ⟨S_, .f32⟩
  | 55 => ⟨S256x256, .f32⟩
  | 56 => ⟨S256x256, .f32⟩
  | 57 => ⟨S1x256x256, .f32⟩
  | 58 => ⟨S8x1x1, .f32⟩
  | 59 => ⟨S8x256x256, .f32⟩
  | 60 => ⟨S8x256x256, .f32⟩
  | 61 => ⟨S8x256x256, .f32⟩
  | 62 => ⟨S8x256x256, .f32⟩
  | 63 => ⟨S_, .f32⟩
  | 64 => ⟨S_, .f32⟩
  | 65 => ⟨S8x256x256, .i1⟩
  | 66 => ⟨S8x256x256, .f32⟩
  | 67 => ⟨S8x256x256, .f32⟩
  | 68 => ⟨S8x256x256, .f32⟩
  | 69 => ⟨S4x512x256, .f32⟩
  | 70 => ⟨S_, .f32⟩
  | 71 => ⟨S256, .f32⟩
  | 72 => ⟨S256, .f32⟩
  | 73 => ⟨S1x256, .f32⟩
  | 74 => ⟨S8x1, .f32⟩
  | 75 => ⟨S8x256, .f32⟩
  | 76 => ⟨S8x256, .f32⟩
  | 77 => ⟨S8x256, .f32⟩
  | 78 => ⟨S8x256, .f32⟩
  | 79 => ⟨S8x256x1, .f32⟩
  | 80 => ⟨S8x256x64, .f32⟩
  | 81 => ⟨S4x2x256x64, .f32⟩
  | 82 => ⟨S4x256x2x64, .f32⟩
  | 83 => ⟨S4x256x128, .f32⟩
  | 84 => ⟨S_, .f32⟩
  | 85 => ⟨S256, .f32⟩
  | 86 => ⟨S256, .f32⟩
  | 87 => ⟨S1x256, .f32⟩
  | 88 => ⟨S8x1, .f32⟩
  | 89 => ⟨S8x256, .f32⟩
  | 90 => ⟨S8x256, .f32⟩
  | 91 => ⟨S8x256, .f32⟩
  | 92 => ⟨S8x256, .f32⟩
  | 93 => ⟨S8x256x1, .f32⟩
  | 94 => ⟨S8x256x64, .f32⟩
  | 95 => ⟨S4x2x256x64, .f32⟩
  | 96 => ⟨S4x256x2x64, .f32⟩
  | 97 => ⟨S4x256x128, .f32⟩
  | 98 => ⟨S_, .f32⟩
  | 99 => ⟨S256, .f32⟩
  | 100 => ⟨S256, .f32⟩
  | 101 => ⟨S1x256, .f32⟩
  | 102 => ⟨S8x1, .f32⟩
  | 103 => ⟨S8x256, .f32⟩
  | 104 => ⟨S8x256, .f32⟩
  | 105 => ⟨S8x256, .f32⟩
  | 106 => ⟨S8x256, .f32⟩
  | 107 => ⟨S8x256x1, .f32⟩
  | 108 => ⟨S8x256x64, .f32⟩
  | 109 => ⟨S4x2x256x64, .f32⟩
  | 110 => ⟨S4x256x2x64, .f32⟩
  | 111 => ⟨S4x256x128, .f32⟩
  | 112 => ⟨S1x256, .f32⟩
  | 113 => ⟨S8x1, .f32⟩
  | 114 => ⟨S8x256, .f32⟩
  | 115 => ⟨S8x256, .f32⟩
  | 116 => ⟨S8x256, .f32⟩
  | 117 => ⟨S8x256, .f32⟩
  | 118 => ⟨S8x256x1, .f32⟩
  | 119 => ⟨S8x256x64, .f32⟩
  | 120 => ⟨S4x2x256x64, .f32⟩
  | 121 => ⟨S4x256x2x64, .f32⟩
  | 122 => ⟨S4x256x128, .f32⟩
  | 123 => ⟨S_, .f32⟩
  | 124 => ⟨S8, .f32⟩
  | 125 => ⟨S8, .f32⟩
  | 126 => ⟨S8, .f32⟩
  | 127 => ⟨S8x1, .f32⟩
  | _ => ⟨S8x4096x2048, .bf16⟩

abbrev hbmTy0_1 (i : Nat) : BufTy := match i % 128 with
  | 0 => ⟨S8x1x1, .f32⟩
  | 1 => ⟨S8x1x64, .f32⟩
  | 2 => ⟨S4x2x1x64, .f32⟩
  | 3 => ⟨S4x1x2x64, .f32⟩
  | 4 => ⟨S4x1x128, .f32⟩
  | 5 => ⟨S_, .f32⟩
  | 6 => ⟨S8, .f32⟩
  | 7 => ⟨S8, .f32⟩
  | 8 => ⟨S8, .f32⟩
  | 9 => ⟨S8x1, .f32⟩
  | 10 => ⟨S8x1x1, .f32⟩
  | 11 => ⟨S8x1x64, .f32⟩
  | 12 => ⟨S4x2x1x64, .f32⟩
  | 13 => ⟨S4x1x2x64, .f32⟩
  | 14 => ⟨S4x1x128, .f32⟩
  | 15 => ⟨S256, .i32⟩
  | 16 => ⟨S_, .i32⟩
  | 17 => ⟨S_, .i32⟩
  | 18 => ⟨S256, .i32⟩
  | 19 => ⟨S256, .i32⟩
  | 20 => ⟨S256, .i32⟩
  | 21 => ⟨S_, .i32⟩
  | 22 => ⟨S256, .i32⟩
  | 23 => ⟨S256, .i1⟩
  | 24 => ⟨S256, .i32⟩
  | 25 => ⟨S256, .i32⟩
  | 26 => ⟨S_, .i32⟩
  | 27 => ⟨S256, .i32⟩
  | 28 => ⟨S256, .i1⟩
  | 29 => ⟨S256, .i1⟩
  | 30 => ⟨S_, .i32⟩
  | 31 => ⟨S256, .i32⟩
  | 32 => ⟨S256, .i32⟩
  | 33 => ⟨S256, .i32⟩
  | 34 => ⟨S256x1, .i32⟩
  | 35 => ⟨S1x256, .i32⟩
  | 36 => ⟨S256x256, .i32⟩
  | 37 => ⟨S256x256, .i32⟩
  | 38 => ⟨S256x256, .i1⟩
  | 39 => ⟨S256x256, .f32⟩
  | 40 => ⟨S_, .f32⟩
  | 41 => ⟨S256x256, .f32⟩
  | 42 => ⟨S256x256, .f32⟩
  | 43 => ⟨S256x256, .bf16⟩
  | 44 => ⟨S1x512, .f32⟩
  | 45 => ⟨S1x512, .f32⟩
  | 46 => ⟨S8x4096x512, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S2x512x256, .f32⟩
  | .local _ .vmem, ⟨9, _⟩ => ⟨S2x512x256, .f32⟩
  | .local _ .vmem, ⟨10, _⟩ => ⟨S2x256x128, .f32⟩
  | .local _ .vmem, ⟨11, _⟩ => ⟨S2x256x128, .f32⟩
  | .local _ .vmem, ⟨12, _⟩ => ⟨S2x256x128, .f32⟩
  | .local _ .vmem, ⟨13, _⟩ => ⟨S2x256x128, .f32⟩
  | .local _ .vmem, ⟨14, _⟩ => ⟨S2x256x128, .f32⟩
  | .local _ .vmem, ⟨15, _⟩ => ⟨S2x256x128, .f32⟩
  | .local _ .vmem, ⟨16, _⟩ => ⟨S2x256x128, .f32⟩
  | .local _ .vmem, ⟨17, _⟩ => ⟨S2x256x128, .f32⟩
  | .local _ .vmem, ⟨18, _⟩ => ⟨S2x1x128, .f32⟩
  | .local _ .vmem, ⟨19, _⟩ => ⟨S2x1x128, .f32⟩
  | .local _ .vmem, ⟨20, _⟩ => ⟨S2x1x128, .f32⟩
  | .local _ .vmem, ⟨21, _⟩ => ⟨S2x1x128, .f32⟩
  | .local _ .vmem, ⟨22, _⟩ => ⟨S256x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x4096x256, .bf16⟩
  | .local _ .vmem, ⟨28, _⟩ => ⟨S1x4096x256, .bf16⟩
  | .local _ .vmem, ⟨29, _⟩ => ⟨S4096x256, .f32⟩
  | .local _ .vmem, ⟨30, _⟩ => ⟨S16x2x256x128, .f32⟩
  | .local _ .vmem, ⟨31, _⟩ => ⟨S16x2x128x128, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_13 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_14 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_15 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  v23
def k0_off1 (k0_t1 : Fin k0_t1_loop.trips) : Fin 3 → Nat :=
  let c0_18 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off2 (k0_t1 : Fin k0_t1_loop.trips) : Fin 4 → Nat :=
  let c0_i32 : BitVec 32 := 0#32
  let c1_i32 : BitVec 32 := 1#32
  let arg20 : BitVec 32 := Scf.iv c0_i32 c1_i32 k0_t1
  let v45 : Index := Scalar.indexCast arg20
  let c0_29 : Index := 0#32
  let c0_30 : Index := 0#32
  let c0_31 : Index := 0#32
  ![v45.toNat, 0, 0, 0]
def k0_off3 (k0_t1 : Fin k0_t1_loop.trips) : Fin 3 → Nat :=
  let c0_32 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v49 : Index := Scalar.indexCast v24
  let c128 : Index := 128#32
  ![0, v49.toNat, 128]
def k0_off4 (k0_t1 : Fin k0_t1_loop.trips) : Fin 4 → Nat :=
  let c0_i32 : BitVec 32 := 0#32
  let c1_i32 : BitVec 32 := 1#32
  let arg20 : BitVec 32 := Scf.iv c0_i32 c1_i32 k0_t1
  let v69 : Index := Scalar.indexCast arg20
  let c1_41 : Index := 1#32
  let c0_42 : Index := 0#32
  let c0_43 : Index := 0#32
  ![v69.toNat, 1, 0, 0]
@[reducible] def k0_t2_loop : Scf.Loop 32 :=
  let c0_i32_5 : BitVec 32 := 0#32
  let c16_i32_6 : BitVec 32 := 16#32
  let v16 : BitVec 32 := Scalar.addi c0_i32_5 c16_i32_6
  let c1_i32_7 : BitVec 32 := 1#32
  ⟨c0_i32_5, v16, c1_i32_7⟩
def k0_off5 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v25 : Index := Scalar.indexCast v23
  let c0_18 : Index := 0#32
  let c0_19 : Index := 0#32
  let c0_20 : Index := 0#32
  ![v25.toNat, 0, 0, 0]
def k0_off6 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v33 : Index := Scalar.indexCast v23
  let c0_24 : Index := 0#32
  let c128 : Index := 128#32
  let c0_25 : Index := 0#32
  ![v33.toNat, 0, 128, 0]
def k0_off7 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v38 : Index := Scalar.indexCast v23
  let c1 : Index := 1#32
  let c0_26 : Index := 0#32
  let c0_27 : Index := 0#32
  ![v38.toNat, 1, 0, 0]
def k0_off8 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v46 : Index := Scalar.indexCast v23
  let c1_31 : Index := 1#32
  let c128_32 : Index := 128#32
  let c0_33 : Index := 0#32
  ![v46.toNat, 1, 128, 0]
@[reducible] def k0_t3_loop : Scf.Loop 32 :=
  let c0_i32_10 : BitVec 32 := 0#32
  let c16_i32_11 : BitVec 32 := 16#32
  let v18 : BitVec 32 := Scalar.addi c0_i32_10 c16_i32_11
  let c1_i32_12 : BitVec 32 := 1#32
  ⟨c0_i32_10, v18, c1_i32_12⟩
def k0_mult2 (k0_t3 : Fin k0_t3_loop.trips) : BitVec 32 :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  v23
def k0_off9 (k0_t3 : Fin k0_t3_loop.trips) : Fin 3 → Nat :=
  let c0_18 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off10 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v71 : Index := Scalar.indexCast arg20
  let c0_34 : Index := 0#32
  let c0_35 : Index := 0#32
  let c0_36 : Index := 0#32
  ![v71.toNat, 0, 0, 0]
def k0_off11 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v76 : Index := Scalar.indexCast v24
  let c0_38 : Index := 0#32
  ![v76.toNat, 0]
def k0_off12 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v84 : Index := Scalar.indexCast arg20
  let c0_42 : Index := 0#32
  let c0_43 : Index := 0#32
  let c0_44 : Index := 0#32
  ![v84.toNat, 0, 0, 0]
def k0_off13 (k0_t3 : Fin k0_t3_loop.trips) : Fin 3 → Nat :=
  let c0_45 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v88 : Index := Scalar.indexCast v24
  let c128 : Index := 128#32
  ![0, v88.toNat, 128]
def k0_off14 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v134 : Index := Scalar.indexCast arg20
  let c1_59 : Index := 1#32
  let c0_60 : Index := 0#32
  let c0_61 : Index := 0#32
  ![v134.toNat, 1, 0, 0]
def k0_off15 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v139 : Index := Scalar.indexCast v24
  let c128_63 : Index := 128#32
  ![v139.toNat, 128]
def k0_off16 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v147 : Index := Scalar.indexCast arg20
  let c1_67 : Index := 1#32
  let c0_68 : Index := 0#32
  let c0_69 : Index := 0#32
  ![v147.toNat, 1, 0, 0]
@[reducible] def k0_t4_loop : Scf.Loop 32 :=
  let c0_i32_15 : BitVec 32 := 0#32
  let c8_i32 : BitVec 32 := 8#32
  let v22 : BitVec 32 := Scalar.addi c0_i32_15 c8_i32
  let c1_i32_16 : BitVec 32 := 1#32
  ⟨c0_i32_15, v22, c1_i32_16⟩
def k0_mult3 (k0_t4 : Fin k0_t4_loop.trips) : BitVec 32 :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  v23
def k0_off17 (k0_t4 : Fin k0_t4_loop.trips) : Fin 2 → Nat :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v25 : Index := Scalar.indexCast v24
  let c0_18 : Index := 0#32
  ![v25.toNat, 0]
def k0_off18 (k0_t4 : Fin k0_t4_loop.trips) : Fin 3 → Nat :=
  let c0_27 : Index := 0#32
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v50 : Index := Scalar.indexCast v24
  let c0_28 : Index := 0#32
  ![0, v50.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4096x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RetIdeal.lean ====
abbrev S8x4096x2048 : Shape := ⟨3, ![8, 4096, 2048]⟩
abbrev S512 : Shape := ⟨1, ![512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S4x512x256 : Shape := ⟨3, ![4, 512, 256]⟩
abbrev S8x1 : Shape := ⟨2, ![8, 1]⟩
abbrev S8x256 : Shape := ⟨2, ![8, 256]⟩
abbrev S8x256x1 : Shape := ⟨3, ![8, 256, 1]⟩
abbrev S8x256x64 : Shape := ⟨3, ![8, 256, 64]⟩
abbrev S4x2x256x64 : Shape := ⟨4, ![4, 2, 256, 64]⟩
abbrev S4x256x2x64 : Shape := ⟨4, ![4, 256, 2, 64]⟩
abbrev S4x256x128 : Shape := ⟨3, ![4, 256, 128]⟩
abbrev S8x1x64 : Shape := ⟨3, ![8, 1, 64]⟩
abbrev S4x2x1x64 : Shape := ⟨4, ![4, 2, 1, 64]⟩
abbrev S4x1x2x64 : Shape := ⟨4, ![4, 1, 2, 64]⟩
abbrev S4x1x128 : Shape := ⟨3, ![4, 1, 128]⟩
abbrev S1x512 : Shape := ⟨2, ![1, 512]⟩
abbrev S8x4096x512 : Shape := ⟨3, ![8, 4096, 512]⟩
abbrev S1x4096x256 : Shape := ⟨3, ![1, 4096, 256]⟩
abbrev S2x512x256 : Shape := ⟨3, ![2, 512, 256]⟩
abbrev S2x256x128 : Shape := ⟨3, ![2, 256, 128]⟩
abbrev S2x1x128 : Shape := ⟨3, ![2, 1, 128]⟩
abbrev S4096x256 : Shape := ⟨2, ![4096, 256]⟩
abbrev S16x2x256x128 : Shape := ⟨4, ![16, 2, 256, 128]⟩
abbrev S16x2x128x128 : Shape := ⟨4, ![16, 2, 128, 128]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1x256x128 : Shape := ⟨4, ![1, 1, 256, 128]⟩
abbrev S1x1x128x128 : Shape := ⟨4, ![1, 1, 128, 128]⟩
abbrev S1x1x128 : Shape := ⟨3, ![1, 1, 128]⟩
abbrev S512x128 : Shape := ⟨2, ![512, 128]⟩
abbrev S512x256 : Shape := ⟨2, ![512, 256]⟩
abbrev S1x512x256 : Shape := ⟨3, ![1, 512, 256]⟩
abbrev S256x768 : Shape := ⟨2, ![256, 768]⟩
abbrev S768x128 : Shape := ⟨2, ![768, 128]⟩

abbrev nBuf : Space → Nat
  | .hbm => 175
  | .vmem => 32
  | .smem => 0
  | _ => 0

abbrev hbmTy0_0 (i : Nat) : BufTy := match i % 128 with
  | 0 => ⟨S8x4096x2048, .bf16⟩
  | 1 => ⟨S512, .f32⟩
  | 2 => ⟨S512, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S256, .f32⟩
  | 25 => ⟨S256x1, .f32⟩
  | 26 => ⟨S1x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .i1⟩
  | 33 => ⟨S1x256x256, .i1⟩
  | 34 => ⟨S_, .f32⟩
  | 35 => ⟨S_, .f32⟩
  | 36 => ⟨S256x256, .f32⟩
  | 37 => ⟨S256x256, .f32⟩
  | 38 => ⟨S1x256x256, .f32⟩
  | 39 => ⟨S8x1x1, .f32⟩
  | 40 => ⟨S8x256x256, .f32⟩
  | 41 => ⟨S8x256x256, .f32⟩
  | 42 => ⟨S8x256x256, .f32⟩
  | 43 => ⟨S8x256x256, .f32⟩
  | 44 => ⟨S_, .f32⟩
  | 45 => ⟨S_, .f32⟩
  | 46 => ⟨S8x256x256, .i1⟩
  | 47 => ⟨S8x256x256, .f32⟩
  | 48 => ⟨S8x256x256, .f32⟩
  | 49 => ⟨S1x256x256, .i1⟩
  | 50 => ⟨S1x256x256, .i1⟩
  | 51 => ⟨S256x256, .i1⟩
  | 52 => ⟨S256x256, .f32⟩
  | 53 => ⟨S_, .f32⟩
  | 54 => ⟨S_, .f32⟩
  | 55 => ⟨S256x256, .f32⟩
  | 56 => ⟨S256x256, .f32⟩
  | 57 => ⟨S1x256x256, .f32⟩
  | 58 => ⟨S8x1x1, .f32⟩
  | 59 => ⟨S8x256x256, .f32⟩
  | 60 => ⟨S8x256x256, .f32⟩
  | 61 => ⟨S8x256x256, .f32⟩
  | 62 => ⟨S8x256x256, .f32⟩
  | 63 => ⟨S_, .f32⟩
  | 64 => ⟨S_, .f32⟩
  | 65 => ⟨S8x256x256, .i1⟩
  | 66 => ⟨S8x256x256, .f32⟩
  | 67 => ⟨S8x256x256, .f32⟩
  | 68 => ⟨S8x256x256, .f32⟩
  | 69 => ⟨S4x512x256, .f32⟩
  | 70 => ⟨S_, .f32⟩
  | 71 => ⟨S256, .f32⟩
  | 72 => ⟨S256, .f32⟩
  | 73 => ⟨S1x256, .f32⟩
  | 74 => ⟨S8x1, .f32⟩
  | 75 => ⟨S8x256, .f32⟩
  | 76 => ⟨S8x256, .f32⟩
  | 77 => ⟨S8x256, .f32⟩
  | 78 => ⟨S8x256, .f32⟩
  | 79 => ⟨S8x256x1, .f32⟩
  | 80 => ⟨S8x256x64, .f32⟩
  | 81 => ⟨S4x2x256x64, .f32⟩
  | 82 => ⟨S4x256x2x64, .f32⟩
  | 83 => ⟨S4x256x128, .f32⟩
  | 84 => ⟨S_, .f32⟩
  | 85 => ⟨S256, .f32⟩
  | 86 => ⟨S256, .f32⟩
  | 87 => ⟨S1x256, .f32⟩
  | 88 => ⟨S8x1, .f32⟩
  | 89 => ⟨S8x256, .f32⟩
  | 90 => ⟨S8x256, .f32⟩
  | 91 => ⟨S8x256, .f32⟩
  | 92 => ⟨S8x256, .f32⟩
  | 93 => ⟨S8x256x1, .f32⟩
  | 94 => ⟨S8x256x64, .f32⟩
  | 95 => ⟨S4x2x256x64, .f32⟩
  | 96 => ⟨S4x256x2x64, .f32⟩
  | 97 => ⟨S4x256x128, .f32⟩
  | 98 => ⟨S_, .f32⟩
  | 99 => ⟨S256, .f32⟩
  | 100 => ⟨S256, .f32⟩
  | 101 => ⟨S1x256, .f32⟩
  | 102 => ⟨S8x1, .f32⟩
  | 103 => ⟨S8x256, .f32⟩
  | 104 => ⟨S8x256, .f32⟩
  | 105 => ⟨S8x256, .f32⟩
  | 106 => ⟨S8x256, .f32⟩
  | 107 => ⟨S8x256x1, .f32⟩
  | 108 => ⟨S8x256x64, .f32⟩
  | 109 => ⟨S4x2x256x64, .f32⟩
  | 110 => ⟨S4x256x2x64, .f32⟩
  | 111 => ⟨S4x256x128, .f32⟩
  | 112 => ⟨S1x256, .f32⟩
  | 113 => ⟨S8x1, .f32⟩
  | 114 => ⟨S8x256, .f32⟩
  | 115 => ⟨S8x256, .f32⟩
  | 116 => ⟨S8x256, .f32⟩
  | 117 => ⟨S8x256, .f32⟩
  | 118 => ⟨S8x256x1, .f32⟩
  | 119 => ⟨S8x256x64, .f32⟩
  | 120 => ⟨S4x2x256x64, .f32⟩
  | 121 => ⟨S4x256x2x64, .f32⟩
  | 122 => ⟨S4x256x128, .f32⟩
  | 123 => ⟨S_, .f32⟩
  | 124 => ⟨S8, .f32⟩
  | 125 => ⟨S8, .f32⟩
  | 126 => ⟨S8, .f32⟩
  | 127 => ⟨S8x1, .f32⟩
  | _ => ⟨S8x4096x2048, .bf16⟩

abbrev hbmTy0_1 (i : Nat) : BufTy := match i % 128 with
  | 0 => ⟨S8x1x1, .f32⟩
  | 1 => ⟨S8x1x64, .f32⟩
  | 2 => ⟨S4x2x1x64, .f32⟩
  | 3 => ⟨S4x1x2x64, .f32⟩
  | 4 => ⟨S4x1x128, .f32⟩
  | 5 => ⟨S_, .f32⟩
  | 6 => ⟨S8, .f32⟩
  | 7 => ⟨S8, .f32⟩
  | 8 => ⟨S8, .f32⟩
  | 9 => ⟨S8x1, .f32⟩
  | 10 => ⟨S8x1x1, .f32⟩
  | 11 => ⟨S8x1x64, .f32⟩
  | 12 => ⟨S4x2x1x64, .f32⟩
  | 13 => ⟨S4x1x2x64, .f32⟩
  | 14 => ⟨S4x1x128, .f32⟩
  | 15 => ⟨S256, .i32⟩
  | 16 => ⟨S_, .i32⟩
  | 17 => ⟨S_, .i32⟩
  | 18 => ⟨S256, .i32⟩
  | 19 => ⟨S256, .i32⟩
  | 20 => ⟨S256, .i32⟩
  | 21 => ⟨S_, .i32⟩
  | 22 => ⟨S256, .i32⟩
  | 23 => ⟨S256, .i1⟩
  | 24 => ⟨S256, .i32⟩
  | 25 => ⟨S256, .i32⟩
  | 26 => ⟨S_, .i32⟩
  | 27 => ⟨S256, .i32⟩
  | 28 => ⟨S256, .i1⟩
  | 29 => ⟨S256, .i1⟩
  | 30 => ⟨S_, .i32⟩
  | 31 => ⟨S256, .i32⟩
  | 32 => ⟨S256, .i32⟩
  | 33 => ⟨S256, .i32⟩
  | 34 => ⟨S256x1, .i32⟩
  | 35 => ⟨S1x256, .i32⟩
  | 36 => ⟨S256x256, .i32⟩
  | 37 => ⟨S256x256, .i32⟩
  | 38 => ⟨S256x256, .i1⟩
  | 39 => ⟨S256x256, .f32⟩
  | 40 => ⟨S_, .f32⟩
  | 41 => ⟨S256x256, .f32⟩
  | 42 => ⟨S256x256, .f32⟩
  | 43 => ⟨S256x256, .bf16⟩
  | 44 => ⟨S1x512, .f32⟩
  | 45 => ⟨S1x512, .f32⟩
  | 46 => ⟨S8x4096x512, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S2x512x256, .f32⟩
  | .local _ .vmem, ⟨9, _⟩ => ⟨S2x512x256, .f32⟩
  | .local _ .vmem, ⟨10, _⟩ => ⟨S2x256x128, .f32⟩
  | .local _ .vmem, ⟨11, _⟩ => ⟨S2x256x128, .f32⟩
  | .local _ .vmem, ⟨12, _⟩ => ⟨S2x256x128, .f32⟩
  | .local _ .vmem, ⟨13, _⟩ => ⟨S2x256x128, .f32⟩
  | .local _ .vmem, ⟨14, _⟩ => ⟨S2x256x128, .f32⟩
  | .local _ .vmem, ⟨15, _⟩ => ⟨S2x256x128, .f32⟩
  | .local _ .vmem, ⟨16, _⟩ => ⟨S2x256x128, .f32⟩
  | .local _ .vmem, ⟨17, _⟩ => ⟨S2x256x128, .f32⟩
  | .local _ .vmem, ⟨18, _⟩ => ⟨S2x1x128, .f32⟩
  | .local _ .vmem, ⟨19, _⟩ => ⟨S2x1x128, .f32⟩
  | .local _ .vmem, ⟨20, _⟩ => ⟨S2x1x128, .f32⟩
  | .local _ .vmem, ⟨21, _⟩ => ⟨S2x1x128, .f32⟩
  | .local _ .vmem, ⟨22, _⟩ => ⟨S256x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x4096x256, .bf16⟩
  | .local _ .vmem, ⟨28, _⟩ => ⟨S1x4096x256, .bf16⟩
  | .local _ .vmem, ⟨29, _⟩ => ⟨S4096x256, .f32⟩
  | .local _ .vmem, ⟨30, _⟩ => ⟨S16x2x256x128, .f32⟩
  | .local _ .vmem, ⟨31, _⟩ => ⟨S16x2x128x128, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_13 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_14 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_15 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  v23
def k0_off1 (k0_t1 : Fin k0_t1_loop.trips) : Fin 3 → Nat :=
  let c0_18 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off2 (k0_t1 : Fin k0_t1_loop.trips) : Fin 4 → Nat :=
  let c0_i32 : BitVec 32 := 0#32
  let c1_i32 : BitVec 32 := 1#32
  let arg20 : BitVec 32 := Scf.iv c0_i32 c1_i32 k0_t1
  let v45 : Index := Scalar.indexCast arg20
  let c0_29 : Index := 0#32
  let c0_30 : Index := 0#32
  let c0_31 : Index := 0#32
  ![v45.toNat, 0, 0, 0]
def k0_off3 (k0_t1 : Fin k0_t1_loop.trips) : Fin 3 → Nat :=
  let c0_32 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v49 : Index := Scalar.indexCast v24
  let c128 : Index := 128#32
  ![0, v49.toNat, 128]
def k0_off4 (k0_t1 : Fin k0_t1_loop.trips) : Fin 4 → Nat :=
  let c0_i32 : BitVec 32 := 0#32
  let c1_i32 : BitVec 32 := 1#32
  let arg20 : BitVec 32 := Scf.iv c0_i32 c1_i32 k0_t1
  let v69 : Index := Scalar.indexCast arg20
  let c1_41 : Index := 1#32
  let c0_42 : Index := 0#32
  let c0_43 : Index := 0#32
  ![v69.toNat, 1, 0, 0]
@[reducible] def k0_t2_loop : Scf.Loop 32 :=
  let c0_i32_5 : BitVec 32 := 0#32
  let c16_i32_6 : BitVec 32 := 16#32
  let v16 : BitVec 32 := Scalar.addi c0_i32_5 c16_i32_6
  let c1_i32_7 : BitVec 32 := 1#32
  ⟨c0_i32_5, v16, c1_i32_7⟩
def k0_off5 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v25 : Index := Scalar.indexCast v23
  let c0_18 : Index := 0#32
  let c0_19 : Index := 0#32
  let c0_20 : Index := 0#32
  ![v25.toNat, 0, 0, 0]
def k0_off6 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v33 : Index := Scalar.indexCast v23
  let c0_24 : Index := 0#32
  let c128 : Index := 128#32
  let c0_25 : Index := 0#32
  ![v33.toNat, 0, 128, 0]
def k0_off7 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v38 : Index := Scalar.indexCast v23
  let c1 : Index := 1#32
  let c0_26 : Index := 0#32
  let c0_27 : Index := 0#32
  ![v38.toNat, 1, 0, 0]
def k0_off8 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v46 : Index := Scalar.indexCast v23
  let c1_31 : Index := 1#32
  let c128_32 : Index := 128#32
  let c0_33 : Index := 0#32
  ![v46.toNat, 1, 128, 0]
@[reducible] def k0_t3_loop : Scf.Loop 32 :=
  let c0_i32_10 : BitVec 32 := 0#32
  let c16_i32_11 : BitVec 32 := 16#32
  let v18 : BitVec 32 := Scalar.addi c0_i32_10 c16_i32_11
  let c1_i32_12 : BitVec 32 := 1#32
  ⟨c0_i32_10, v18, c1_i32_12⟩
def k0_mult2 (k0_t3 : Fin k0_t3_loop.trips) : BitVec 32 :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  v23
def k0_off9 (k0_t3 : Fin k0_t3_loop.trips) : Fin 3 → Nat :=
  let c0_18 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off10 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v71 : Index := Scalar.indexCast arg20
  let c0_34 : Index := 0#32
  let c0_35 : Index := 0#32
  let c0_36 : Index := 0#32
  ![v71.toNat, 0, 0, 0]
def k0_off11 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v76 : Index := Scalar.indexCast v24
  let c0_38 : Index := 0#32
  ![v76.toNat, 0]
def k0_off12 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v84 : Index := Scalar.indexCast arg20
  let c0_42 : Index := 0#32
  let c0_43 : Index := 0#32
  let c0_44 : Index := 0#32
  ![v84.toNat, 0, 0, 0]
def k0_off13 (k0_t3 : Fin k0_t3_loop.trips) : Fin 3 → Nat :=
  let c0_45 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v88 : Index := Scalar.indexCast v24
  let c128 : Index := 128#32
  ![0, v88.toNat, 128]
def k0_off14 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v134 : Index := Scalar.indexCast arg20
  let c1_59 : Index := 1#32
  let c0_60 : Index := 0#32
  let c0_61 : Index := 0#32
  ![v134.toNat, 1, 0, 0]
def k0_off15 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v139 : Index := Scalar.indexCast v24
  let c128_63 : Index := 128#32
  ![v139.toNat, 128]
def k0_off16 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v147 : Index := Scalar.indexCast arg20
  let c1_67 : Index := 1#32
  let c0_68 : Index := 0#32
  let c0_69 : Index := 0#32
  ![v147.toNat, 1, 0, 0]
@[reducible] def k0_t4_loop : Scf.Loop 32 :=
  let c0_i32_15 : BitVec 32 := 0#32
  let c8_i32 : BitVec 32 := 8#32
  let v22 : BitVec 32 := Scalar.addi c0_i32_15 c8_i32
  let c1_i32_16 : BitVec 32 := 1#32
  ⟨c0_i32_15, v22, c1_i32_16⟩
def k0_mult3 (k0_t4 : Fin k0_t4_loop.trips) : BitVec 32 :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  v23
def k0_off17 (k0_t4 : Fin k0_t4_loop.trips) : Fin 2 → Nat :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v25 : Index := Scalar.indexCast v24
  let c0_18 : Index := 0#32
  ![v25.toNat, 0]
def k0_off18 (k0_t4 : Fin k0_t4_loop.trips) : Fin 3 → Nat :=
  let c0_27 : Index := 0#32
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v50 : Index := Scalar.indexCast v24
  let c0_28 : Index := 0#32
  ![0, v50.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4096x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RetRefIdeal.lean ====
abbrev S8x4096x2048 : Shape := ⟨3, ![8, 4096, 2048]⟩
abbrev S512 : Shape := ⟨1, ![512]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S1x1x512 : Shape := ⟨3, ![1, 1, 512]⟩

abbrev nBuf : Space → Nat
  | .hbm => 137
  | .vmem => 0
  | .smem => 0
  | _ => 0

abbrev hbmTy0_0 (i : Nat) : BufTy := match i % 128 with
  | 0 => ⟨S8x4096x2048, .bf16⟩
  | 1 => ⟨S512, .f32⟩
  | 2 => ⟨S512, .f32⟩
  | 3 => ⟨S8x4096x2048, .f32⟩
  | 4 => ⟨S8x4096x512, .f32⟩
  | 5 => ⟨S8x4096x512, .f32⟩
  | 6 => ⟨S8x4096x512, .f32⟩
  | 7 => ⟨S8x4096x512, .f32⟩
  | 8 => ⟨S8x4096x8x64, .f32⟩
  | 9 => ⟨S8x8x4096x64, .f32⟩
  | 10 => ⟨S8x4096x8x64, .f32⟩
  | 11 => ⟨S8x8x4096x64, .f32⟩
  | 12 => ⟨S8x4096x8x64, .f32⟩
  | 13 => ⟨S8x8x4096x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S4096, .f32⟩
  | 26 => ⟨S4096x1, .f32⟩
  | 27 => ⟨S1x4096, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S1x4096x4096, .i1⟩
  | 35 => ⟨S_, .f32⟩
  | 36 => ⟨S_, .f32⟩
  | 37 => ⟨S4096x4096, .f32⟩
  | 38 => ⟨S4096x4096, .f32⟩
  | 39 => ⟨S1x4096x4096, .f32⟩
  | 40 => ⟨S8x1x1, .f32⟩
  | 41 => ⟨S8x4096x4096, .f32⟩
  | 42 => ⟨S8x4096x4096, .f32⟩
  | 43 => ⟨S8x4096x4096, .f32⟩
  | 44 => ⟨S8x4096x4096, .f32⟩
  | 45 => ⟨S_, .f32⟩
  | 46 => ⟨S_, .f32⟩
  | 47 => ⟨S8x4096x4096, .i1⟩
  | 48 => ⟨S8x4096x4096, .f32⟩
  | 49 => ⟨S8x4096x4096, .f32⟩
  | 50 => ⟨S8x8x4096x4096, .f32⟩
  | 51 => ⟨S1x8x4096x4096, .f32⟩
  | 52 => ⟨S8x8x4096x4096, .f32⟩
  | 53 => ⟨S8x8x4096x4096, .f32⟩
  | 54 => ⟨S8x8x4096x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S4096, .f32⟩
  | 67 => ⟨S1x4096, .f32⟩
  | 68 => ⟨S4096x1, .f32⟩
  | 69 => ⟨S4096x4096, .f32⟩
  | 70 => ⟨S4096x4096, .f32⟩
  | 71 => ⟨S4096x4096, .f32⟩
  | 72 => ⟨S_, .f32⟩
  | 73 => ⟨S4096x4096, .f32⟩
  | 74 => ⟨S4096x4096, .i1⟩
  | 75 => ⟨S1x4096x4096, .i1⟩
  | 76 => ⟨S_, .f32⟩
  | 77 => ⟨S_, .f32⟩
  | 78 => ⟨S4096x4096, .f32⟩
  | 79 => ⟨S4096x4096, .f32⟩
  | 80 => ⟨S1x4096x4096, .f32⟩
  | 81 => ⟨S8x1x1, .f32⟩
  | 82 => ⟨S8x4096x4096, .f32⟩
  | 83 => ⟨S8x4096x4096, .f32⟩
  | 84 => ⟨S8x4096x4096, .f32⟩
  | 85 => ⟨S8x4096x4096, .f32⟩
  | 86 => ⟨S_, .f32⟩
  | 87 => ⟨S_, .f32⟩
  | 88 => ⟨S8x4096x4096, .i1⟩
  | 89 => ⟨S8x4096x4096, .f32⟩
  | 90 => ⟨S8x4096x4096, .f32⟩
  | 91 => ⟨S8x8x4096x4096, .f32⟩
  | 92 => ⟨S1x8x4096x4096, .f32⟩
  | 93 => ⟨S8x8x4096x4096, .f32⟩
  | 94 => ⟨S8x8x4096x4096, .f32⟩
  | 95 => ⟨S8x8x4096x64, .f32⟩
  | 96 => ⟨S8x8x4096x64, .f32⟩
  | 97 => ⟨S_, .f32⟩
  | 98 => ⟨S8x8x4096, .f32⟩
  | 99 => ⟨S8x8x4096x1, .f32⟩
  | 100 => ⟨S_, .f32⟩
  | 101 => ⟨S8x8x4096x1, .f32⟩
  | 102 => ⟨S8x8x4096x1, .f32⟩
  | 103 => ⟨S8x8x4096x64, .f32⟩
  | 104 => ⟨S8x8x4096x64, .f32⟩
  | 105 => ⟨S8x8x4096x64, .f32⟩
  | 106 => ⟨S_, .f32⟩
  | 107 => ⟨S8x8x4096, .f32⟩
  | 108 => ⟨S8x8x4096x1, .f32⟩
  | 109 => ⟨S_, .f32⟩
  | 110 => ⟨S8x8x4096x1, .f32⟩
  | 111 => ⟨S8x8x4096x1, .f32⟩
  | 112 => ⟨S_, .f32⟩
  | 113 => ⟨S8x8x4096x1, .f32⟩
  | 114 => ⟨S8x8x4096x1, .f32⟩
  | 115 => ⟨S8x8x4096x1, .f32⟩
  | 116 => ⟨S8x8x4096x64, .f32⟩
  | 117 => ⟨S8x8x4096x64, .f32⟩
  | 118 => ⟨S8x4096x8x64, .f32⟩
  | 119 => ⟨S8x4096x512, .f32⟩
  | 120 => ⟨S1x1x512, .f32⟩
  | 121 => ⟨S8x4096x512, .f32⟩
  | 122 => ⟨S8x4096x512, .f32⟩
  | 123 => ⟨S1x1x512, .f32⟩
  | 124 => ⟨S8x4096x512, .f32⟩
  | 125 => ⟨S8x4096x512, .f32⟩
  | 126 => ⟨S8x4096x512, .f32⟩
  | 127 => ⟨S8x4096x512, .f32⟩
  | _ => ⟨S8x4096x2048, .bf16⟩

abbrev hbmTy0_1 (i : Nat) : BufTy := match i % 128 with
  | 0 => ⟨S_, .f32⟩
  | 1 => ⟨S8x4096x512, .f32⟩
  | 2 => ⟨S8x4096x512, .f32⟩
  | 3 => ⟨S_, .f32⟩
  | 4 => ⟨S8x4096x512, .f32⟩
  | 5 => ⟨S8x4096x512, .f32⟩
  | 6 => ⟨S8x4096x512, .f32⟩
  | 7 => ⟨S8x4096x512, .f32⟩
  | 8 => ⟨S8x4096x512, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== Ffn.lean ====
abbrev S8x4096x1024 : Shape := ⟨3, ![8, 4096, 1024]⟩
abbrev S8x4096x512 : Shape := ⟨3, ![8, 4096, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512 : Shape := ⟨2, ![1, 512]⟩
abbrev S512x1024 : Shape := ⟨2, ![512, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S1x2816 : Shape := ⟨2, ![1, 2816]⟩
abbrev S1x16x1024 : Shape := ⟨3, ![1, 16, 1024]⟩
abbrev S1x512x1024 : Shape := ⟨3, ![1, 512, 1024]⟩
abbrev S1x16x512 : Shape := ⟨3, ![1, 16, 512]⟩
abbrev S1x512x512 : Shape := ⟨3, ![1, 512, 512]⟩
abbrev S528x2816 : Shape := ⟨2, ![528, 2816]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S528 : Shape := ⟨1, ![528]⟩
abbrev S528x1 : Shape := ⟨2, ![528, 1]⟩
abbrev S16x1024 : Shape := ⟨2, ![16, 1024]⟩
abbrev S8x1024 : Shape := ⟨2, ![8, 1024]⟩
abbrev S528x1024 : Shape := ⟨2, ![528, 1024]⟩
abbrev S512x2816 : Shape := ⟨2, ![512, 2816]⟩
abbrev S512x1 : Shape := ⟨2, ![512, 1]⟩

abbrev nBuf : Space → Nat
  | .hbm => 30
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S3x2816, .f32⟩
  | .hbm, ⟨22, _⟩ => ⟨S3x2816, .f32⟩
  | .hbm, ⟨23, _⟩ => ⟨S2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S2816x1024, .bf16⟩
  | .hbm, ⟨28, _⟩ => ⟨S1x1024, .f32⟩
  | .hbm, ⟨29, _⟩ => ⟨S8x4096x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S3x2816, .f32⟩
  | .local _ .vmem, ⟨25, _⟩ => ⟨S3x2816, .f32⟩
  | .local _ .vmem, ⟨26, _⟩ => ⟨S1x2816, .f32⟩
  | .local _ .vmem, ⟨27, _⟩ => ⟨S1x2816, .f32⟩
  | .local _ .vmem, ⟨28, _⟩ => ⟨S2816x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S528x2816, .f32⟩
  | .local _ .vmem, ⟨33, _⟩ => ⟨S528x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== FfnIdeal.lean ====
abbrev S8x4096x1024 : Shape := ⟨3, ![8, 4096, 1024]⟩
abbrev S8x4096x512 : Shape := ⟨3, ![8, 4096, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512 : Shape := ⟨2, ![1, 512]⟩
abbrev S512x1024 : Shape := ⟨2, ![512, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S1x2816 : Shape := ⟨2, ![1, 2816]⟩
abbrev S1x16x1024 : Shape := ⟨3, ![1, 16, 1024]⟩
abbrev S1x512x1024 : Shape := ⟨3, ![1, 512, 1024]⟩
abbrev S1x16x512 : Shape := ⟨3, ![1, 16, 512]⟩
abbrev S1x512x512 : Shape := ⟨3, ![1, 512, 512]⟩
abbrev S528x2816 : Shape := ⟨2, ![528, 2816]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S528 : Shape := ⟨1, ![528]⟩
abbrev S528x1 : Shape := ⟨2, ![528, 1]⟩
abbrev S16x1024 : Shape := ⟨2, ![16, 1024]⟩
abbrev S8x1024 : Shape := ⟨2, ![8, 1024]⟩
abbrev S528x1024 : Shape := ⟨2, ![528, 1024]⟩
abbrev S512x2816 : Shape := ⟨2, ![512, 2816]⟩
abbrev S512x1 : Shape := ⟨2, ![512, 1]⟩

abbrev nBuf : Space → Nat
  | .hbm => 30
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S3x2816, .f32⟩
  | .hbm, ⟨22, _⟩ => ⟨S3x2816, .f32⟩
  | .hbm, ⟨23, _⟩ => ⟨S2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S2816x1024, .bf16⟩
  | .hbm, ⟨28, _⟩ => ⟨S1x1024, .f32⟩
  | .hbm, ⟨29, _⟩ => ⟨S8x4096x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S3x2816, .f32⟩
  | .local _ .vmem, ⟨25, _⟩ => ⟨S3x2816, .f32⟩
  | .local _ .vmem, ⟨26, _⟩ => ⟨S1x2816, .f32⟩
  | .local _ .vmem, ⟨27, _⟩ => ⟨S1x2816, .f32⟩
  | .local _ .vmem, ⟨28, _⟩ => ⟨S2816x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S528x2816, .f32⟩
  | .local _ .vmem, ⟨33, _⟩ => ⟨S528x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== FfnRefIdeal.lean ====
abbrev S8x4096x1024 : Shape := ⟨3, ![8, 4096, 1024]⟩
abbrev S8x4096x512 : Shape := ⟨3, ![8, 4096, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 113
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S8x4096x512, .f32⟩
  | .hbm, ⟨12, _⟩ => ⟨S8x4096x512, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x512, .f32⟩
  | .hbm, ⟨24, _⟩ => ⟨S8x4096x512, .f32⟩
  | .hbm, ⟨25, _⟩ => ⟨S1x1x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x4096x5632, .f32⟩
  | .hbm, ⟨49, _⟩ => ⟨S_, .i32⟩
  | .hbm, ⟨50, _⟩ => ⟨S_, .f32⟩
  | .hbm, ⟨51, _⟩ => ⟨S8x4098x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x4096x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S8x4096x5632, .f32⟩
  | .hbm, ⟨70, _⟩ => ⟨S8x4096x5632, .f32⟩
  | .hbm, ⟨71, _⟩ => ⟨S8x4096x5632, .f32⟩
  | .hbm, ⟨72, _⟩ => ⟨S1x1x5632, .f32⟩
  | .hbm, ⟨73, _⟩ => ⟨S8x4096x5632, .f32⟩
  | .hbm, ⟨74, _⟩ => ⟨S8x4096x5632, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S_, .f32⟩
  | .hbm, ⟨84, _⟩ => ⟨S8x4096x2816, .f32⟩
  | .hbm, ⟨85, _⟩ => ⟨S8x4096x2816, .f32⟩
  | .hbm, ⟨86, _⟩ => ⟨S8x4096x2816, .f32⟩
  | .hbm, ⟨87, _⟩ => ⟨S_, .f32⟩
  | .hbm, ⟨88, _⟩ => ⟨S8x4096x2816, .f32⟩
  | .hbm, ⟨89, _⟩ => ⟨S8x4096x2816, .f32⟩
  | .hbm, ⟨90, _⟩ => ⟨S_, .f32⟩
  | .hbm, ⟨91, _⟩ => ⟨S8x4096x2816, .f32⟩
  | .hbm, ⟨92, _⟩ => ⟨S8x4096x2816, .f32⟩
  | .hbm, ⟨93, _⟩ => ⟨S8x4096x2816, .f32⟩
  | .hbm, ⟨94, _⟩ => ⟨S8x4096x2816, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S_, .f32⟩
  | .hbm, ⟨99, _⟩ => ⟨S8x4096, .f32⟩
  | .hbm, ⟨100, _⟩ => ⟨S8x4096x1, .f32⟩
  | .hbm, ⟨101, _⟩ => ⟨S_, .f32⟩
  | .hbm, ⟨102, _⟩ => ⟨S8x4096x1, .f32⟩
  | .hbm, ⟨103, _⟩ => ⟨S8x4096x1, .f32⟩
  | .hbm, ⟨104, _⟩ => ⟨S_, .f32⟩
  | .hbm, ⟨105, _⟩ => ⟨S8x4096x1, .f32⟩
  | .hbm, ⟨106, _⟩ => ⟨S8x4096x1, .f32⟩
  | .hbm, ⟨107, _⟩ => ⟨S8x4096x1, .f32⟩
  | .hbm, ⟨108, _⟩ => ⟨S8x4096x1024, .f32⟩
  | .hbm, ⟨109, _⟩ => ⟨S8x4096x1024, .f32⟩
  | .hbm, ⟨110, _⟩ => ⟨S1x1x1024, .f32⟩
  | .hbm, ⟨111, _⟩ => ⟨S8x4096x1024, .f32⟩
  | .hbm, ⟨112, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Smp.lean ====
abbrev S4x4096x1024 : Shape := ⟨3, ![4, 4096, 1024]⟩
abbrev S4x4096x512 : Shape := ⟨3, ![4, 4096, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512 : Shape := ⟨2, ![1, 512]⟩
abbrev S512x1024 : Shape := ⟨2, ![512, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S1x2816 : Shape := ⟨2, ![1, 2816]⟩
abbrev S1x16x1024 : Shape := ⟨3, ![1, 16, 1024]⟩
abbrev S1x512x1024 : Shape := ⟨3, ![1, 512, 1024]⟩
abbrev S1x16x512 : Shape := ⟨3, ![1, 16, 512]⟩
abbrev S1x512x512 : Shape := ⟨3, ![1, 512, 512]⟩
abbrev S528x2816 : Shape := ⟨2, ![528, 2816]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S528 : Shape := ⟨1, ![528]⟩
abbrev S528x1 : Shape := ⟨2, ![528, 1]⟩
abbrev S16x1024 : Shape := ⟨2, ![16, 1024]⟩
abbrev S8x1024 : Shape := ⟨2, ![8, 1024]⟩
abbrev S528x1024 : Shape := ⟨2, ![528, 1024]⟩
abbrev S512x2816 : Shape := ⟨2, ![512, 2816]⟩
abbrev S512x1 : Shape := ⟨2, ![512, 1]⟩

abbrev nBuf : Space → Nat
  | .hbm => 30
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S3x2816, .f32⟩
  | .hbm, ⟨22, _⟩ => ⟨S3x2816, .f32⟩
  | .hbm, ⟨23, _⟩ => ⟨S2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S2816x1024, .bf16⟩
  | .hbm, ⟨28, _⟩ => ⟨S1x1024, .f32⟩
  | .hbm, ⟨29, _⟩ => ⟨S4x4096x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S3x2816, .f32⟩
  | .local _ .vmem, ⟨25, _⟩ => ⟨S3x2816, .f32⟩
  | .local _ .vmem, ⟨26, _⟩ => ⟨S1x2816, .f32⟩
  | .local _ .vmem, ⟨27, _⟩ => ⟨S1x2816, .f32⟩
  | .local _ .vmem, ⟨28, _⟩ => ⟨S2816x1024, .bf16⟩
  | .local _ .vmem, ⟨29, _⟩ => ⟨S1x1024, .f32⟩
  | .local _ .vmem, ⟨30, _⟩ => ⟨S1x512x1024, .f32⟩
  | .local _ .vmem, ⟨31, _⟩ => ⟨S1x512x1024, .f32⟩
  | .local _ .vmem, ⟨32, _⟩ => ⟨S528x2816, .f32⟩
  | .local _ .vmem, ⟨33, _⟩ => ⟨S528x2816, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S3x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S2816x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== SmpRefIdeal.lean ====
abbrev S4x4096x1024 : Shape := ⟨3, ![4, 4096, 1024]⟩
abbrev S4x4096x512 : Shape := ⟨3, ![4, 4096, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S4x4096x512, .f32⟩
  | .hbm, ⟨12, _⟩ => ⟨S4x4096x512, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x512, .f32⟩
  | .hbm, ⟨24, _⟩ => ⟨S4x4096x512, .f32⟩
  | .hbm, ⟨25, _⟩ => ⟨S1x1x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S4x4096x5632, .f32⟩
  | .hbm, ⟨49, _⟩ => ⟨S_, .i32⟩
  | .hbm, ⟨50, _⟩ => ⟨S_, .f32⟩
  | .hbm, ⟨51, _⟩ => ⟨S4x4098x5632, .f32⟩
  | .hbm, ⟨52, _⟩ => ⟨S4x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S4x4096x5632, .f32⟩
  | .hbm, ⟨57, _⟩ => ⟨S4x4096x5632, .f32⟩
  | .hbm, ⟨58, _⟩ => ⟨S4x4096x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S4x4096x5632, .f32⟩
  | .hbm, ⟨63, _⟩ => ⟨S4x4096x5632, .f32⟩
  | .hbm, ⟨64, _⟩ => ⟨S4x4096x5632, .f32⟩
  | .hbm, ⟨65, _⟩ => ⟨S4x4096x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S4x4096x5632, .f32⟩
  | .hbm, ⟨70, _⟩ => ⟨S4x4096x5632, .f32⟩
  | .hbm, ⟨71, _⟩ => ⟨S4x4096x5632, .f32⟩
  | .hbm, ⟨72, _⟩ => ⟨S1x1x5632, .f32⟩
  | .hbm, ⟨73, _⟩ => ⟨S4x4096x5632, .f32⟩
  | .hbm, ⟨74, _⟩ => ⟨S4x4096x5632, .f32⟩
  | .hbm, ⟨75, _⟩ => ⟨S4x4096x2816, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S_, .f32⟩
  | .hbm, ⟨80, _⟩ => ⟨S4x4096x2816, .f32⟩
  | .hbm, ⟨81, _⟩ => ⟨S4x4096x2816, .f32⟩
  | .hbm, ⟨82, _⟩ => ⟨S4x4096x2816, .f32⟩
  | .hbm, ⟨83, _⟩ => ⟨S_, .f32⟩
  | .hbm, ⟨84, _⟩ => ⟨S4x4096x2816, .f32⟩
  | .hbm, ⟨85, _⟩ => ⟨S4x4096x2816, .f32⟩
  | .hbm, ⟨86, _⟩ => ⟨S4x4096x2816, .f32⟩
  | .hbm, ⟨87, _⟩ => ⟨S_, .f32⟩
  | .hbm, ⟨88, _⟩ => ⟨S4x4096x2816, .f32⟩
  | .hbm, ⟨89, _⟩ => ⟨S4x4096x2816, .f32⟩
  | .hbm, ⟨90, _⟩ => ⟨S_, .f32⟩
  | .hbm, ⟨91, _⟩ => ⟨S4x4096x2816, .f32⟩
  | .hbm, ⟨92, _⟩ => ⟨S4x4096x2816, .f32⟩
  | .hbm, ⟨93, _⟩ => ⟨S4x4096x2816, .f32⟩
  | .hbm, ⟨94, _⟩ => ⟨S4x4096x2816, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1, .f32⟩
  | .hbm, ⟨108, _⟩ => ⟨S4x4096x1024, .f32⟩
  | .hbm, ⟨109, _⟩ => ⟨S4x4096x1024, .f32⟩
  | .hbm, ⟨110, _⟩ => ⟨S1x1x1024, .f32⟩
  | .hbm, ⟨111, _⟩ => ⟨S4x4096x1024, .f32⟩
  | .hbm, ⟨112, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_cst_8 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_v78 : Ref sig .tc := ⟨.hbm, 103, rfl⟩
abbrev main_cst_11 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Inp.lean ====
abbrev S8x4096x1024 : Shape := ⟨3, ![8, 4096, 1024]⟩
abbrev S1024 : Shape := ⟨1, ![1024]⟩
abbrev S1024x3584 : Shape := ⟨2, ![1024, 3584]⟩
abbrev S3x1536 : Shape := ⟨2, ![3, 1536]⟩
abbrev S1536 : Shape := ⟨1, ![1536]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1536 : Shape := ⟨2, ![1024, 1536]⟩
abbrev S1024x2048 : Shape := ⟨2, ![1024, 2048]⟩
abbrev S1x1024 : Shape := ⟨2, ![1, 1024]⟩
abbrev S1x1536 : Shape := ⟨2, ![1, 1536]⟩
abbrev S8x4096x1536 : Shape := ⟨3, ![8, 4096, 1536]⟩
abbrev S8x4096x2048 : Shape := ⟨3, ![8, 4096, 2048]⟩
abbrev S1x8x1024 : Shape := ⟨3, ![1, 8, 1024]⟩
abbrev S1x1024x1024 : Shape := ⟨3, ![1, 1024, 1024]⟩
abbrev S1024x128 : Shape := ⟨2, ![1024, 128]⟩
abbrev S1x1024x1536 : Shape := ⟨3, ![1, 1024, 1536]⟩
abbrev S1x1024x2048 : Shape := ⟨3, ![1, 1024, 2048]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1040x1536 : Shape := ⟨2, ![1040, 1536]⟩
abbrev S1x128 : Shape := ⟨2, ![1, 128]⟩
abbrev S1x1024x128 : Shape := ⟨3, ![1, 1024, 128]⟩

abbrev nBuf : Space → Nat
  | .hbm => 44
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3584, .f32⟩
  | .hbm, ⟨3, _⟩ => ⟨S3x1536, .f32⟩
  | .hbm, ⟨4, _⟩ => ⟨S1536, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1024x1536, .f32⟩
  | .hbm, ⟨37, _⟩ => ⟨S1024x1536, .bf16⟩
  | .hbm, ⟨38, _⟩ => ⟨S1024x2048, .f32⟩
  | .hbm, ⟨39, _⟩ => ⟨S1024x2048, .bf16⟩
  | .hbm, ⟨40, _⟩ => ⟨S1x1024, .f32⟩
  | .hbm, ⟨41, _⟩ => ⟨S1x1536, .f32⟩
  | .hbm, ⟨42, _⟩ => ⟨S8x4096x1536, .bf16⟩
  | .hbm, ⟨43, _⟩ => ⟨S8x4096x2048, .bf16⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x2048, .bf16⟩
  | .local _ .vmem, ⟨9, _⟩ => ⟨S3x1536, .f32⟩
  | .local _ .vmem, ⟨10, _⟩ => ⟨S1x1536, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x1536, .bf16⟩
  | .local _ .vmem, ⟨16, _⟩ => ⟨S1x1024x1536, .bf16⟩
  | .local _ .vmem, ⟨17, _⟩ => ⟨S1x1024x2048, .bf16⟩
  | .local _ .vmem, ⟨18, _⟩ => ⟨S1x1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InpIdeal.lean ====
abbrev S8x4096x1024 : Shape := ⟨3, ![8, 4096, 1024]⟩
abbrev S1024 : Shape := ⟨1, ![1024]⟩
abbrev S1024x3584 : Shape := ⟨2, ![1024, 3584]⟩
abbrev S3x1536 : Shape := ⟨2, ![3, 1536]⟩
abbrev S1536 : Shape := ⟨1, ![1536]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1536 : Shape := ⟨2, ![1024, 1536]⟩
abbrev S1024x2048 : Shape := ⟨2, ![1024, 2048]⟩
abbrev S1x1024 : Shape := ⟨2, ![1, 1024]⟩
abbrev S1x1536 : Shape := ⟨2, ![1, 1536]⟩
abbrev S8x4096x1536 : Shape := ⟨3, ![8, 4096, 1536]⟩
abbrev S8x4096x2048 : Shape := ⟨3, ![8, 4096, 2048]⟩
abbrev S1x8x1024 : Shape := ⟨3, ![1, 8, 1024]⟩
abbrev S1x1024x1024 : Shape := ⟨3, ![1, 1024, 1024]⟩
abbrev S1024x128 : Shape := ⟨2, ![1024, 128]⟩
abbrev S1x1024x1536 : Shape := ⟨3, ![1, 1024, 1536]⟩
abbrev S1x1024x2048 : Shape := ⟨3, ![1, 1024, 2048]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1040x1536 : Shape := ⟨2, ![1040, 1536]⟩
abbrev S1x128 : Shape := ⟨2, ![1, 128]⟩
abbrev S1x1024x128 : Shape := ⟨3, ![1, 1024, 128]⟩

abbrev nBuf : Space → Nat
  | .hbm => 44
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3584, .f32⟩
  | .hbm, ⟨3, _⟩ => ⟨S3x1536, .f32⟩
  | .hbm, ⟨4, _⟩ => ⟨S1536, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1024x1536, .f32⟩
  | .hbm, ⟨37, _⟩ => ⟨S1024x1536, .bf16⟩
  | .hbm, ⟨38, _⟩ => ⟨S1024x2048, .f32⟩
  | .hbm, ⟨39, _⟩ => ⟨S1024x2048, .bf16⟩
  | .hbm, ⟨40, _⟩ => ⟨S1x1024, .f32⟩
  | .hbm, ⟨41, _⟩ => ⟨S1x1536, .f32⟩
  | .hbm, ⟨42, _⟩ => ⟨S8x4096x1536, .bf16⟩
  | .hbm, ⟨43, _⟩ => ⟨S8x4096x2048, .bf16⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x2048, .bf16⟩
  | .local _ .vmem, ⟨9, _⟩ => ⟨S3x1536, .f32⟩
  | .local _ .vmem, ⟨10, _⟩ => ⟨S1x1536, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x1536, .bf16⟩
  | .local _ .vmem, ⟨16, _⟩ => ⟨S1x1024x1536, .bf16⟩
  | .local _ .vmem, ⟨17, _⟩ => ⟨S1x1024x2048, .bf16⟩
  | .local _ .vmem, ⟨18, _⟩ => ⟨S1x1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InpRefIdeal.lean ====
abbrev S8x4096x1024 : Shape := ⟨3, ![8, 4096, 1024]⟩
abbrev S1024 : Shape := ⟨1, ![1024]⟩
abbrev S1024x3584 : Shape := ⟨2, ![1024, 3584]⟩
abbrev S3x1536 : Shape := ⟨2, ![3, 1536]⟩
abbrev S1536 : Shape := ⟨1, ![1536]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3584 : Shape := ⟨3, ![8, 4096, 3584]⟩
abbrev S8x4096x1536 : Shape := ⟨3, ![8, 4096, 1536]⟩
abbrev S8x4098x1536 : Shape := ⟨3, ![8, 4098, 1536]⟩
abbrev S1x1536 : Shape := ⟨2, ![1, 1536]⟩
abbrev S1x1x1536 : Shape := ⟨3, ![1, 1, 1536]⟩
abbrev S8x4096x2048 : Shape := ⟨3, ![8, 4096, 2048]⟩
abbrev S8x4096x512 : Shape := ⟨3, ![8, 4096, 512]⟩
abbrev S8x4096x8x64 : Shape := ⟨4, ![8, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x8x32 : Shape := ⟨4, ![8, 4096, 8, 32]⟩

abbrev nBuf : Space → Nat
  | .hbm => 138
  | .vmem => 0
  | .smem => 0
  | _ => 0

abbrev hbmTy0_0 (i : Nat) : BufTy := match i % 128 with
  | 0 => ⟨S8x4096x1024, .f32⟩
  | 1 => ⟨S1024, .f32⟩
  | 2 => ⟨S1024x3584, .f32⟩
  | 3 => ⟨S3x1536, .f32⟩
  | 4 => ⟨S1536, .f32⟩
  | 5 => ⟨S8x4096x1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x3584, .f32⟩
  | 22 => ⟨S8x4096x1536, .f32⟩
  | 23 => ⟨S_, .i32⟩
  | 24 => ⟨S_, .f32⟩
  | 25 => ⟨S8x4098x1536, .f32⟩
  | 26 => ⟨S8x4096x1536, .f32⟩
  | 27 => ⟨S1x1536, .f32⟩
  | 28 => ⟨S1536, .f32⟩
  | 29 => ⟨S1x1x1536, .f32⟩
  | 30 => ⟨S8x4096x1536, .f32⟩
  | 31 => ⟨S8x4096x1536, .f32⟩
  | 32 => ⟨S8x4096x1536, .f32⟩
  | 33 => ⟨S1x1536, .f32⟩
  | 34 => ⟨S1536, .f32⟩
  | 35 => ⟨S1x1x1536, .f32⟩
  | 36 => ⟨S8x4096x1536, .f32⟩
  | 37 => ⟨S8x4096x1536, .f32⟩
  | 38 => ⟨S8x4096x1536, .f32⟩
  | 39 => ⟨S8x4096x1536, .f32⟩
  | 40 => ⟨S1x1536, .f32⟩
  | 41 => ⟨S1536, .f32⟩
  | 42 => ⟨S1x1x1536, .f32⟩
  | 43 => ⟨S8x4096x1536, .f32⟩
  | 44 => ⟨S8x4096x1536, .f32⟩
  | 45 => ⟨S8x4096x1536, .f32⟩
  | 46 => ⟨S1x1x1536, .f32⟩
  | 47 => ⟨S8x4096x1536, .f32⟩
  | 48 => ⟨S8x4096x1536, .f32⟩
  | 49 => ⟨S8x4096x2048, .f32⟩
  | 50 => ⟨S8x4096x512, .f32⟩
  | 51 => ⟨S8x4096x512, .f32⟩
  | 52 => ⟨S8x4096x512, .f32⟩
  | 53 => ⟨S8x4096x512, .f32⟩
  | 54 => ⟨S8x4096x8x64, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S4096, .f32⟩
  | 70 => ⟨S4096x1, .f32⟩
  | 71 => ⟨S1x32, .f32⟩
  | 72 => ⟨S4096x32, .f32⟩
  | 73 => ⟨S4096x32, .f32⟩
  | 74 => ⟨S4096x32, .f32⟩
  | 75 => ⟨S4096x32, .f32⟩
  | 76 => ⟨S1x4096x1x32, .f32⟩
  | 77 => ⟨S4096x32, .f32⟩
  | 78 => ⟨S1x4096x1x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x32, .f32⟩
  | 87 => ⟨S8x4096x8x32, .f32⟩
  | 88 => ⟨S8x4096x8x32, .f32⟩
  | 89 => ⟨S8x4096x8x32, .f32⟩
  | 90 => ⟨S8x4096x8x32, .f32⟩
  | 91 => ⟨S8x4096x8x64, .f32⟩
  | 92 => ⟨S8x4096x512, .f32⟩
  | 93 => ⟨S8x4096x8x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S4096, .f32⟩
  | 109 => ⟨S4096x1, .f32⟩
  | 110 => ⟨S1x32, .f32⟩
  | 111 => ⟨S4096x32, .f32⟩
  | 112 => ⟨S4096x32, .f32⟩
  | 113 => ⟨S4096x32, .f32⟩
  | 114 => ⟨S4096x32, .f32⟩
  | 115 => ⟨S1x4096x1x32, .f32⟩
  | 116 => ⟨S4096x32, .f32⟩
  | 117 => ⟨S1x4096x1x32, .f32⟩
  | 118 => ⟨S8x4096x8x32, .f32⟩
  | 119 => ⟨S8x4096x8x32, .f32⟩
  | 120 => ⟨S8x4096x8x32, .f32⟩
  | 121 => ⟨S8x4096x8x32, .f32⟩
  | 122 => ⟨S8x4096x8x32, .f32⟩
  | 123 => ⟨S8x4096x8x32, .f32⟩
  | 124 => ⟨S8x4096x8x32, .f32⟩
  | 125 => ⟨S8x4096x8x32, .f32⟩
  | 126 => ⟨S8x4096x8x32, .f32⟩
  | 127 => ⟨S8x4096x8x32, .f32⟩
  | _ => ⟨S8x4096x1024, .f32⟩

abbrev hbmTy0_1 (i : Nat) : BufTy := match i % 128 with
  | 0 => ⟨S8x4096x8x32, .f32⟩
  | 1 => ⟨S8x4096x8x32, .f32⟩
  | 2 => ⟨S8x4096x8x64, .f32⟩
  | 3 => ⟨S_, .f32⟩
  | 4 => ⟨S8x4096x8x64, .f32⟩
  | 5 => ⟨S8x4096x8x64, .f32⟩
  | 6 => ⟨S8x4096x512, .f32⟩
  | 7 => ⟨S8x4096x2048, .f32⟩
  | 8 => ⟨S8x4096x1536, .bf16⟩
  | 9 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_6 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_10 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩

abbrev nD : Nat := 1
abbrev τ : Topo := Topo.v7x

variable {F : FTy → Type} [FloatOps F]
-- ==== SmpIn.lean ====
abbrev S4x4096x1024 : Shape := ⟨3, ![4, 4096, 1024]⟩
abbrev S1024 : Shape := ⟨1, ![1024]⟩
abbrev S1024x3584 : Shape := ⟨2, ![1024, 3584]⟩
abbrev S3x1536 : Shape := ⟨2, ![3, 1536]⟩
abbrev S1536 : Shape := ⟨1, ![1536]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x1536 : Shape := ⟨2, ![1024, 1536]⟩
abbrev S1024x2048 : Shape := ⟨2, ![1024, 2048]⟩
abbrev S1x1024 : Shape := ⟨2, ![1, 1024]⟩
abbrev S1x1536 : Shape := ⟨2, ![1, 1536]⟩
abbrev S4x4096x1536 : Shape := ⟨3, ![4, 4096, 1536]⟩
abbrev S4x4096x2048 : Shape := ⟨3, ![4, 4096, 2048]⟩
abbrev S1x8x1024 : Shape := ⟨3, ![1, 8, 1024]⟩
abbrev S1x1024x1024 : Shape := ⟨3, ![1, 1024, 1024]⟩
abbrev S1024x128 : Shape := ⟨2, ![1024, 128]⟩
abbrev S1x1024x1536 : Shape := ⟨3, ![1, 1024, 1536]⟩
abbrev S1x1024x2048 : Shape := ⟨3, ![1, 1024, 2048]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1040x1536 : Shape := ⟨2, ![1040, 1536]⟩
abbrev S1x128 : Shape := ⟨2, ![1, 128]⟩
abbrev S1x1024x128 : Shape := ⟨3, ![1, 1024, 128]⟩

abbrev nBuf : Space → Nat
  | .hbm => 44
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S3x1536, .f32⟩
  | .hbm, ⟨4, _⟩ => ⟨S1536, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1024x1536, .f32⟩
  | .hbm, ⟨37, _⟩ => ⟨S1024x1536, .bf16⟩
  | .hbm, ⟨38, _⟩ => ⟨S1024x2048, .f32⟩
  | .hbm, ⟨39, _⟩ => ⟨S1024x2048, .bf16⟩
  | .hbm, ⟨40, _⟩ => ⟨S1x1024, .f32⟩
  | .hbm, ⟨41, _⟩ => ⟨S1x1536, .f32⟩
  | .hbm, ⟨42, _⟩ => ⟨S4x4096x1536, .bf16⟩
  | .hbm, ⟨43, _⟩ => ⟨S4x4096x2048, .bf16⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x2048, .bf16⟩
  | .local _ .vmem, ⟨9, _⟩ => ⟨S3x1536, .f32⟩
  | .local _ .vmem, ⟨10, _⟩ => ⟨S1x1536, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x1024x1536, .bf16⟩
  | .local _ .vmem, ⟨16, _⟩ => ⟨S1x1024x1536, .bf16⟩
  | .local _ .vmem, ⟨17, _⟩ => ⟨S1x1024x2048, .bf16⟩
  | .local _ .vmem, ⟨18, _⟩ => ⟨S1x1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SmpInRefIdeal.lean ====
abbrev S4x4096x1024 : Shape := ⟨3, ![4, 4096, 1024]⟩
abbrev S1024 : Shape := ⟨1, ![1024]⟩
abbrev S1024x3584 : Shape := ⟨2, ![1024, 3584]⟩
abbrev S3x1536 : Shape := ⟨2, ![3, 1536]⟩
abbrev S1536 : Shape := ⟨1, ![1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3584 : Shape := ⟨3, ![4, 4096, 3584]⟩
abbrev S4x4096x1536 : Shape := ⟨3, ![4, 4096, 1536]⟩
abbrev S4x4098x1536 : Shape := ⟨3, ![4, 4098, 1536]⟩
abbrev S1x1536 : Shape := ⟨2, ![1, 1536]⟩
abbrev S1x1x1536 : Shape := ⟨3, ![1, 1, 1536]⟩
abbrev S4x4096x2048 : Shape := ⟨3, ![4, 4096, 2048]⟩
abbrev S4x4096x512 : Shape := ⟨3, ![4, 4096, 512]⟩
abbrev S4x4096x8x64 : Shape := ⟨4, ![4, 4096, 8, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩

abbrev nBuf : Space → Nat
  | .hbm => 138
  | .vmem => 0
  | .smem => 0
  | _ => 0

abbrev hbmTy0_0 (i : Nat) : BufTy := match i % 128 with
  | 0 => ⟨S4x4096x1024, .f32⟩
  | 1 => ⟨S1024, .f32⟩
  | 2 => ⟨S1024x3584, .f32⟩
  | 3 => ⟨S3x1536, .f32⟩
  | 4 => ⟨S1536, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x3584, .f32⟩
  | 22 => ⟨S4x4096x1536, .f32⟩
  | 23 => ⟨S_, .i32⟩
  | 24 => ⟨S_, .f32⟩
  | 25 => ⟨S4x4098x1536, .f32⟩
  | 26 => ⟨S4x4096x1536, .f32⟩
  | 27 => ⟨S1x1536, .f32⟩
  | 28 => ⟨S1536, .f32⟩
  | 29 => ⟨S1x1x1536, .f32⟩
  | 30 => ⟨S4x4096x1536, .f32⟩
  | 31 => ⟨S4x4096x1536, .f32⟩
  | 32 => ⟨S4x4096x1536, .f32⟩
  | 33 => ⟨S1x1536, .f32⟩
  | 34 => ⟨S1536, .f32⟩
  | 35 => ⟨S1x1x1536, .f32⟩
  | 36 => ⟨S4x4096x1536, .f32⟩
  | 37 => ⟨S4x4096x1536, .f32⟩
  | 38 => ⟨S4x4096x1536, .f32⟩
  | 39 => ⟨S4x4096x1536, .f32⟩
  | 40 => ⟨S1x1536, .f32⟩
  | 41 => ⟨S1536, .f32⟩
  | 42 => ⟨S1x1x1536, .f32⟩
  | 43 => ⟨S4x4096x1536, .f32⟩
  | 44 => ⟨S4x4096x1536, .f32⟩
  | 45 => ⟨S4x4096x1536, .f32⟩
  | 46 => ⟨S1x1x1536, .f32⟩
  | 47 => ⟨S4x4096x1536, .f32⟩
  | 48 => ⟨S4x4096x1536, .f32⟩
  | 49 => ⟨S4x4096x2048, .f32⟩
  | 50 => ⟨S4x4096x512, .f32⟩
  | 51 => ⟨S4x4096x512, .f32⟩
  | 52 => ⟨S4x4096x512, .f32⟩
  | 53 => ⟨S4x4096x512, .f32⟩
  | 54 => ⟨S4x4096x8x64, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S4096, .f32⟩
  | 70 => ⟨S4096x1, .f32⟩
  | 71 => ⟨S1x32, .f32⟩
  | 72 => ⟨S4096x32, .f32⟩
  | 73 => ⟨S4096x32, .f32⟩
  | 74 => ⟨S4096x32, .f32⟩
  | 75 => ⟨S4096x32, .f32⟩
  | 76 => ⟨S1x4096x1x32, .f32⟩
  | 77 => ⟨S4096x32, .f32⟩
  | 78 => ⟨S1x4096x1x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x32, .f32⟩
  | 84 => ⟨S4x4096x8x32, .f32⟩
  | 85 => ⟨S4x4096x8x32, .f32⟩
  | 86 => ⟨S4x4096x8x32, .f32⟩
  | 87 => ⟨S4x4096x8x32, .f32⟩
  | 88 => ⟨S4x4096x8x32, .f32⟩
  | 89 => ⟨S4x4096x8x32, .f32⟩
  | 90 => ⟨S4x4096x8x32, .f32⟩
  | 91 => ⟨S4x4096x8x64, .f32⟩
  | 92 => ⟨S4x4096x512, .f32⟩
  | 93 => ⟨S4x4096x8x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S4096, .f32⟩
  | 109 => ⟨S4096x1, .f32⟩
  | 110 => ⟨S1x32, .f32⟩
  | 111 => ⟨S4096x32, .f32⟩
  | 112 => ⟨S4096x32, .f32⟩
  | 113 => ⟨S4096x32, .f32⟩
  | 114 => ⟨S4096x32, .f32⟩
  | 115 => ⟨S1x4096x1x32, .f32⟩
  | 116 => ⟨S4096x32, .f32⟩
  | 117 => ⟨S1x4096x1x32, .f32⟩
  | 118 => ⟨S4x4096x8x32, .f32⟩
  | 119 => ⟨S4x4096x8x32, .f32⟩
  | 120 => ⟨S4x4096x8x32, .f32⟩
  | 121 => ⟨S4x4096x8x32, .f32⟩
  | 122 => ⟨S4x4096x8x32, .f32⟩
  | 123 => ⟨S4x4096x8x32, .f32⟩
  | 124 => ⟨S4x4096x8x32, .f32⟩
  | 125 => ⟨S4x4096x8x32, .f32⟩
  | 126 => ⟨S4x4096x8x32, .f32⟩
  | 127 => ⟨S4x4096x8x32, .f32⟩
  | _ => ⟨S4x4096x1024, .f32⟩

abbrev hbmTy0_1 (i : Nat) : BufTy := match i % 128 with
  | 0 => ⟨S4x4096x8x32, .f32⟩
  | 1 => ⟨S4x4096x8x32, .f32⟩
  | 2 => ⟨S4x4096x8x64, .f32⟩
  | 3 => ⟨S_, .f32⟩
  | 4 => ⟨S4x4096x8x64, .f32⟩
  | 5 => ⟨S4x4096x8x64, .f32⟩
  | 6 => ⟨S4x4096x512, .f32⟩
  | 7 => ⟨S4x4096x2048, .f32⟩
  | 8 => ⟨S4x4096x1536, .bf16⟩
  | 9 => ⟨S4x4096x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_6 : Ref sig .tc := ⟨.hbm, 95, rfl⟩
abbrev main_v81 : Ref sig .tc := ⟨.hbm, 96, rfl⟩
abbrev main_v82 : Ref sig .tc := ⟨.hbm, 97, rfl⟩
abbrev main_cst_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_10 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩

abbrev nD : Nat := 1
abbrev τ : Topo := Topo.v7x

variable {F : FTy → Type} [FloatOps F]
-- ==== SmpRet.lean ====
abbrev S4x4096x2048 : Shape := ⟨3, ![4, 4096, 2048]⟩
abbrev S512 : Shape := ⟨1, ![512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S4x512x256 : Shape := ⟨3, ![4, 512, 256]⟩
abbrev S8x1 : Shape := ⟨2, ![8, 1]⟩
abbrev S8x256 : Shape := ⟨2, ![8, 256]⟩
abbrev S8x256x1 : Shape := ⟨3, ![8, 256, 1]⟩
abbrev S8x256x64 : Shape := ⟨3, ![8, 256, 64]⟩
abbrev S4x2x256x64 : Shape := ⟨4, ![4, 2, 256, 64]⟩
abbrev S4x256x2x64 : Shape := ⟨4, ![4, 256, 2, 64]⟩
abbrev S4x256x128 : Shape := ⟨3, ![4, 256, 128]⟩
abbrev S8x1x64 : Shape := ⟨3, ![8, 1, 64]⟩
abbrev S4x2x1x64 : Shape := ⟨4, ![4, 2, 1, 64]⟩
abbrev S4x1x2x64 : Shape := ⟨4, ![4, 1, 2, 64]⟩
abbrev S4x1x128 : Shape := ⟨3, ![4, 1, 128]⟩
abbrev S1x512 : Shape := ⟨2, ![1, 512]⟩
abbrev S4x4096x512 : Shape := ⟨3, ![4, 4096, 512]⟩
abbrev S1x4096x256 : Shape := ⟨3, ![1, 4096, 256]⟩
abbrev S2x512x256 : Shape := ⟨3, ![2, 512, 256]⟩
abbrev S2x256x128 : Shape := ⟨3, ![2, 256, 128]⟩
abbrev S2x1x128 : Shape := ⟨3, ![2, 1, 128]⟩
abbrev S4096x256 : Shape := ⟨2, ![4096, 256]⟩
abbrev S16x2x256x128 : Shape := ⟨4, ![16, 2, 256, 128]⟩
abbrev S16x2x128x128 : Shape := ⟨4, ![16, 2, 128, 128]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1x256x128 : Shape := ⟨4, ![1, 1, 256, 128]⟩
abbrev S1x1x128x128 : Shape := ⟨4, ![1, 1, 128, 128]⟩
abbrev S1x1x128 : Shape := ⟨3, ![1, 1, 128]⟩
abbrev S512x128 : Shape := ⟨2, ![512, 128]⟩
abbrev S512x256 : Shape := ⟨2, ![512, 256]⟩
abbrev S1x512x256 : Shape := ⟨3, ![1, 512, 256]⟩
abbrev S256x768 : Shape := ⟨2, ![256, 768]⟩
abbrev S768x128 : Shape := ⟨2, ![768, 128]⟩

abbrev nBuf : Space → Nat
  | .hbm => 175
  | .vmem => 32
  | .smem => 0
  | _ => 0

abbrev hbmTy0_0 (i : Nat) : BufTy := match i % 128 with
  | 0 => ⟨S4x4096x2048, .bf16⟩
  | 1 => ⟨S512, .f32⟩
  | 2 => ⟨S512, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S256, .f32⟩
  | 25 => ⟨S256x1, .f32⟩
  | 26 => ⟨S1x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .i1⟩
  | 33 => ⟨S1x256x256, .i1⟩
  | 34 => ⟨S_, .f32⟩
  | 35 => ⟨S_, .f32⟩
  | 36 => ⟨S256x256, .f32⟩
  | 37 => ⟨S256x256, .f32⟩
  | 38 => ⟨S1x256x256, .f32⟩
  | 39 => ⟨S8x1x1, .f32⟩
  | 40 => ⟨S8x256x256, .f32⟩
  | 41 => ⟨S8x256x256, .f32⟩
  | 42 => ⟨S8x256x256, .f32⟩
  | 43 => ⟨S8x256x256, .f32⟩
  | 44 => ⟨S_, .f32⟩
  | 45 => ⟨S_, .f32⟩
  | 46 => ⟨S8x256x256, .i1⟩
  | 47 => ⟨S8x256x256, .f32⟩
  | 48 => ⟨S8x256x256, .f32⟩
  | 49 => ⟨S1x256x256, .i1⟩
  | 50 => ⟨S1x256x256, .i1⟩
  | 51 => ⟨S256x256, .i1⟩
  | 52 => ⟨S256x256, .f32⟩
  | 53 => ⟨S_, .f32⟩
  | 54 => ⟨S_, .f32⟩
  | 55 => ⟨S256x256, .f32⟩
  | 56 => ⟨S256x256, .f32⟩
  | 57 => ⟨S1x256x256, .f32⟩
  | 58 => ⟨S8x1x1, .f32⟩
  | 59 => ⟨S8x256x256, .f32⟩
  | 60 => ⟨S8x256x256, .f32⟩
  | 61 => ⟨S8x256x256, .f32⟩
  | 62 => ⟨S8x256x256, .f32⟩
  | 63 => ⟨S_, .f32⟩
  | 64 => ⟨S_, .f32⟩
  | 65 => ⟨S8x256x256, .i1⟩
  | 66 => ⟨S8x256x256, .f32⟩
  | 67 => ⟨S8x256x256, .f32⟩
  | 68 => ⟨S8x256x256, .f32⟩
  | 69 => ⟨S4x512x256, .f32⟩
  | 70 => ⟨S_, .f32⟩
  | 71 => ⟨S256, .f32⟩
  | 72 => ⟨S256, .f32⟩
  | 73 => ⟨S1x256, .f32⟩
  | 74 => ⟨S8x1, .f32⟩
  | 75 => ⟨S8x256, .f32⟩
  | 76 => ⟨S8x256, .f32⟩
  | 77 => ⟨S8x256, .f32⟩
  | 78 => ⟨S8x256, .f32⟩
  | 79 => ⟨S8x256x1, .f32⟩
  | 80 => ⟨S8x256x64, .f32⟩
  | 81 => ⟨S4x2x256x64, .f32⟩
  | 82 => ⟨S4x256x2x64, .f32⟩
  | 83 => ⟨S4x256x128, .f32⟩
  | 84 => ⟨S_, .f32⟩
  | 85 => ⟨S256, .f32⟩
  | 86 => ⟨S256, .f32⟩
  | 87 => ⟨S1x256, .f32⟩
  | 88 => ⟨S8x1, .f32⟩
  | 89 => ⟨S8x256, .f32⟩
  | 90 => ⟨S8x256, .f32⟩
  | 91 => ⟨S8x256, .f32⟩
  | 92 => ⟨S8x256, .f32⟩
  | 93 => ⟨S8x256x1, .f32⟩
  | 94 => ⟨S8x256x64, .f32⟩
  | 95 => ⟨S4x2x256x64, .f32⟩
  | 96 => ⟨S4x256x2x64, .f32⟩
  | 97 => ⟨S4x256x128, .f32⟩
  | 98 => ⟨S_, .f32⟩
  | 99 => ⟨S256, .f32⟩
  | 100 => ⟨S256, .f32⟩
  | 101 => ⟨S1x256, .f32⟩
  | 102 => ⟨S8x1, .f32⟩
  | 103 => ⟨S8x256, .f32⟩
  | 104 => ⟨S8x256, .f32⟩
  | 105 => ⟨S8x256, .f32⟩
  | 106 => ⟨S8x256, .f32⟩
  | 107 => ⟨S8x256x1, .f32⟩
  | 108 => ⟨S8x256x64, .f32⟩
  | 109 => ⟨S4x2x256x64, .f32⟩
  | 110 => ⟨S4x256x2x64, .f32⟩
  | 111 => ⟨S4x256x128, .f32⟩
  | 112 => ⟨S1x256, .f32⟩
  | 113 => ⟨S8x1, .f32⟩
  | 114 => ⟨S8x256, .f32⟩
  | 115 => ⟨S8x256, .f32⟩
  | 116 => ⟨S8x256, .f32⟩
  | 117 => ⟨S8x256, .f32⟩
  | 118 => ⟨S8x256x1, .f32⟩
  | 119 => ⟨S8x256x64, .f32⟩
  | 120 => ⟨S4x2x256x64, .f32⟩
  | 121 => ⟨S4x256x2x64, .f32⟩
  | 122 => ⟨S4x256x128, .f32⟩
  | 123 => ⟨S_, .f32⟩
  | 124 => ⟨S8, .f32⟩
  | 125 => ⟨S8, .f32⟩
  | 126 => ⟨S8, .f32⟩
  | 127 => ⟨S8x1, .f32⟩
  | _ => ⟨S4x4096x2048, .bf16⟩

abbrev hbmTy0_1 (i : Nat) : BufTy := match i % 128 with
  | 0 => ⟨S8x1x1, .f32⟩
  | 1 => ⟨S8x1x64, .f32⟩
  | 2 => ⟨S4x2x1x64, .f32⟩
  | 3 => ⟨S4x1x2x64, .f32⟩
  | 4 => ⟨S4x1x128, .f32⟩
  | 5 => ⟨S_, .f32⟩
  | 6 => ⟨S8, .f32⟩
  | 7 => ⟨S8, .f32⟩
  | 8 => ⟨S8, .f32⟩
  | 9 => ⟨S8x1, .f32⟩
  | 10 => ⟨S8x1x1, .f32⟩
  | 11 => ⟨S8x1x64, .f32⟩
  | 12 => ⟨S4x2x1x64, .f32⟩
  | 13 => ⟨S4x1x2x64, .f32⟩
  | 14 => ⟨S4x1x128, .f32⟩
  | 15 => ⟨S256, .i32⟩
  | 16 => ⟨S_, .i32⟩
  | 17 => ⟨S_, .i32⟩
  | 18 => ⟨S256, .i32⟩
  | 19 => ⟨S256, .i32⟩
  | 20 => ⟨S256, .i32⟩
  | 21 => ⟨S_, .i32⟩
  | 22 => ⟨S256, .i32⟩
  | 23 => ⟨S256, .i1⟩
  | 24 => ⟨S256, .i32⟩
  | 25 => ⟨S256, .i32⟩
  | 26 => ⟨S_, .i32⟩
  | 27 => ⟨S256, .i32⟩
  | 28 => ⟨S256, .i1⟩
  | 29 => ⟨S256, .i1⟩
  | 30 => ⟨S_, .i32⟩
  | 31 => ⟨S256, .i32⟩
  | 32 => ⟨S256, .i32⟩
  | 33 => ⟨S256, .i32⟩
  | 34 => ⟨S256x1, .i32⟩
  | 35 => ⟨S1x256, .i32⟩
  | 36 => ⟨S256x256, .i32⟩
  | 37 => ⟨S256x256, .i32⟩
  | 38 => ⟨S256x256, .i1⟩
  | 39 => ⟨S256x256, .f32⟩
  | 40 => ⟨S_, .f32⟩
  | 41 => ⟨S256x256, .f32⟩
  | 42 => ⟨S256x256, .f32⟩
  | 43 => ⟨S256x256, .bf16⟩
  | 44 => ⟨S1x512, .f32⟩
  | 45 => ⟨S1x512, .f32⟩
  | 46 => ⟨S4x4096x512, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S2x512x256, .f32⟩
  | .local _ .vmem, ⟨9, _⟩ => ⟨S2x512x256, .f32⟩
  | .local _ .vmem, ⟨10, _⟩ => ⟨S2x256x128, .f32⟩
  | .local _ .vmem, ⟨11, _⟩ => ⟨S2x256x128, .f32⟩
  | .local _ .vmem, ⟨12, _⟩ => ⟨S2x256x128, .f32⟩
  | .local _ .vmem, ⟨13, _⟩ => ⟨S2x256x128, .f32⟩
  | .local _ .vmem, ⟨14, _⟩ => ⟨S2x256x128, .f32⟩
  | .local _ .vmem, ⟨15, _⟩ => ⟨S2x256x128, .f32⟩
  | .local _ .vmem, ⟨16, _⟩ => ⟨S2x256x128, .f32⟩
  | .local _ .vmem, ⟨17, _⟩ => ⟨S2x256x128, .f32⟩
  | .local _ .vmem, ⟨18, _⟩ => ⟨S2x1x128, .f32⟩
  | .local _ .vmem, ⟨19, _⟩ => ⟨S2x1x128, .f32⟩
  | .local _ .vmem, ⟨20, _⟩ => ⟨S2x1x128, .f32⟩
  | .local _ .vmem, ⟨21, _⟩ => ⟨S2x1x128, .f32⟩
  | .local _ .vmem, ⟨22, _⟩ => ⟨S256x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x4096x256, .bf16⟩
  | .local _ .vmem, ⟨28, _⟩ => ⟨S1x4096x256, .bf16⟩
  | .local _ .vmem, ⟨29, _⟩ => ⟨S4096x256, .f32⟩
  | .local _ .vmem, ⟨30, _⟩ => ⟨S16x2x256x128, .f32⟩
  | .local _ .vmem, ⟨31, _⟩ => ⟨S16x2x128x128, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_13 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_14 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_15 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v15 : BitVec 32 := Scalar.addi c0_i32 c16_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  v23
def k0_off1 (k0_t1 : Fin k0_t1_loop.trips) : Fin 3 → Nat :=
  let c0_18 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off2 (k0_t1 : Fin k0_t1_loop.trips) : Fin 4 → Nat :=
  let c0_i32 : BitVec 32 := 0#32
  let c1_i32 : BitVec 32 := 1#32
  let arg20 : BitVec 32 := Scf.iv c0_i32 c1_i32 k0_t1
  let v45 : Index := Scalar.indexCast arg20
  let c0_29 : Index := 0#32
  let c0_30 : Index := 0#32
  let c0_31 : Index := 0#32
  ![v45.toNat, 0, 0, 0]
def k0_off3 (k0_t1 : Fin k0_t1_loop.trips) : Fin 3 → Nat :=
  let c0_32 : Index := 0#32
  let c0_i32 : BitVec 32 := 0#32
  let c1_i32 : BitVec 32 := 1#32
  let arg20 : BitVec 32 := Scf.iv c0_i32 c1_i32 k0_t1
  let c256_i32 : BitVec 32 := 256#32
  let v23 : BitVec 32 := Scalar.muli arg20 c256_i32
  let v24 : BitVec 32 := v23
  let v49 : Index := Scalar.indexCast v24
  let c128 : Index := 128#32
  ![0, v49.toNat, 128]
def k0_off4 (k0_t1 : Fin k0_t1_loop.trips) : Fin 4 → Nat :=
  let c0_i32 : BitVec 32 := 0#32
  let c1_i32 : BitVec 32 := 1#32
  let arg20 : BitVec 32 := Scf.iv c0_i32 c1_i32 k0_t1
  let v69 : Index := Scalar.indexCast arg20
  let c1_41 : Index := 1#32
  let c0_42 : Index := 0#32
  let c0_43 : Index := 0#32
  ![v69.toNat, 1, 0, 0]
@[reducible] def k0_t2_loop : Scf.Loop 32 :=
  let c0_i32_5 : BitVec 32 := 0#32
  let c16_i32_6 : BitVec 32 := 16#32
  let v16 : BitVec 32 := Scalar.addi c0_i32_5 c16_i32_6
  let c1_i32_7 : BitVec 32 := 1#32
  ⟨c0_i32_5, v16, c1_i32_7⟩
def k0_off5 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v25 : Index := Scalar.indexCast v23
  let c0_18 : Index := 0#32
  let c0_19 : Index := 0#32
  let c0_20 : Index := 0#32
  ![v25.toNat, 0, 0, 0]
def k0_off6 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v33 : Index := Scalar.indexCast v23
  let c0_24 : Index := 0#32
  let c128 : Index := 128#32
  let c0_25 : Index := 0#32
  ![v33.toNat, 0, 128, 0]
def k0_off7 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v38 : Index := Scalar.indexCast v23
  let c1 : Index := 1#32
  let c0_26 : Index := 0#32
  let c0_27 : Index := 0#32
  ![v38.toNat, 1, 0, 0]
def k0_off8 (k0_t2 : Fin k0_t2_loop.trips) : Fin 4 → Nat :=
  let c15_i32 : BitVec 32 := 15#32
  let c0_i32_5 : BitVec 32 := 0#32
  let c1_i32_7 : BitVec 32 := 1#32
  let arg20 : BitVec 32 := Scf.iv c0_i32_5 c1_i32_7 k0_t2
  let v23 : BitVec 32 := Scalar.subi c15_i32 arg20
  let v46 : Index := Scalar.indexCast v23
  let c1_31 : Index := 1#32
  let c128_32 : Index := 128#32
  let c0_33 : Index := 0#32
  ![v46.toNat, 1, 128, 0]
@[reducible] def k0_t3_loop : Scf.Loop 32 :=
  let c0_i32_10 : BitVec 32 := 0#32
  let c16_i32_11 : BitVec 32 := 16#32
  let v18 : BitVec 32 := Scalar.addi c0_i32_10 c16_i32_11
  let c1_i32_12 : BitVec 32 := 1#32
  ⟨c0_i32_10, v18, c1_i32_12⟩
def k0_mult2 (k0_t3 : Fin k0_t3_loop.trips) : BitVec 32 :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  v23
def k0_off9 (k0_t3 : Fin k0_t3_loop.trips) : Fin 3 → Nat :=
  let c0_18 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v25 : Index := Scalar.indexCast v24
  let c0_19 : Index := 0#32
  ![0, v25.toNat, 0]
def k0_off10 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v71 : Index := Scalar.indexCast arg20
  let c0_34 : Index := 0#32
  let c0_35 : Index := 0#32
  let c0_36 : Index := 0#32
  ![v71.toNat, 0, 0, 0]
def k0_off11 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v76 : Index := Scalar.indexCast v24
  let c0_38 : Index := 0#32
  ![v76.toNat, 0]
def k0_off12 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v84 : Index := Scalar.indexCast arg20
  let c0_42 : Index := 0#32
  let c0_43 : Index := 0#32
  let c0_44 : Index := 0#32
  ![v84.toNat, 0, 0, 0]
def k0_off13 (k0_t3 : Fin k0_t3_loop.trips) : Fin 3 → Nat :=
  let c0_45 : Index := 0#32
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v88 : Index := Scalar.indexCast v24
  let c128 : Index := 128#32
  ![0, v88.toNat, 128]
def k0_off14 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v134 : Index := Scalar.indexCast arg20
  let c1_59 : Index := 1#32
  let c0_60 : Index := 0#32
  let c0_61 : Index := 0#32
  ![v134.toNat, 1, 0, 0]
def k0_off15 (k0_t3 : Fin k0_t3_loop.trips) : Fin 2 → Nat :=
  let c0_i32_10 : BitVec 32 := 0#32
  let c1_i32_12 : BitVec 32 := 1#32
  let arg20 : BitVec 32 := Scf.iv c0_i32_10 c1_i32_12 k0_t3
  let c256_i32 : BitVec 32 := 256#32
  let v23 : BitVec 32 := Scalar.muli arg20 c256_i32
  let v24 : BitVec 32 := v23
  let v139 : Index := Scalar.indexCast v24
  let c128_63 : Index := 128#32
  ![v139.toNat, 128]
def k0_off16 (k0_t3 : Fin k0_t3_loop.trips) : Fin 4 → Nat :=
  let c0_i32_10 : BitVec 32 := 0#32
  let c1_i32_12 : BitVec 32 := 1#32
  let arg20 : BitVec 32 := Scf.iv c0_i32_10 c1_i32_12 k0_t3
  let v147 : Index := Scalar.indexCast arg20
  let c1_67 : Index := 1#32
  let c0_68 : Index := 0#32
  let c0_69 : Index := 0#32
  ![v147.toNat, 1, 0, 0]
@[reducible] def k0_t4_loop : Scf.Loop 32 :=
  let c0_i32_15 : BitVec 32 := 0#32
  let c8_i32 : BitVec 32 := 8#32
  let v22 : BitVec 32 := Scalar.addi c0_i32_15 c8_i32
  let c1_i32_16 : BitVec 32 := 1#32
  ⟨c0_i32_15, v22, c1_i32_16⟩
def k0_mult3 (k0_t4 : Fin k0_t4_loop.trips) : BitVec 32 :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  v23
def k0_off17 (k0_t4 : Fin k0_t4_loop.trips) : Fin 2 → Nat :=
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v25 : Index := Scalar.indexCast v24
  let c0_18 : Index := 0#32
  ![v25.toNat, 0]
def k0_off18 (k0_t4 : Fin k0_t4_loop.trips) : Fin 3 → Nat :=
  let c0_27 : Index := 0#32
  let c0_i32_15 : BitVec 32 := 0#32
  let c1_i32_16 : BitVec 32 := 1#32
  let arg20 : BitVec 32 := Scf.iv c0_i32_15 c1_i32_16 k0_t4
  let c512_i32 : BitVec 32 := 512#32
  let v23 : BitVec 32 := Scalar.muli arg20 c512_i32
  let v24 : BitVec 32 := v23
  let v50 : Index := Scalar.indexCast v24
  let c0_28 : Index := 0#32
  ![0, v50.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4096x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== SmpRetRefIdeal.lean ====
abbrev S4x4096x2048 : Shape := ⟨3, ![4, 4096, 2048]⟩
abbrev S512 : Shape := ⟨1, ![512]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S1x1x512 : Shape := ⟨3, ![1, 1, 512]⟩

abbrev nBuf : Space → Nat
  | .hbm => 137
  | .vmem => 0
  | .smem => 0
  | _ => 0

abbrev hbmTy0_0 (i : Nat) : BufTy := match i % 128 with
  | 0 => ⟨S4x4096x2048, .bf16⟩
  | 1 => ⟨S512, .f32⟩
  | 2 => ⟨S512, .f32⟩
  | 3 => ⟨S4x4096x2048, .f32⟩
  | 4 => ⟨S4x4096x512, .f32⟩
  | 5 => ⟨S4x4096x512, .f32⟩
  | 6 => ⟨S4x4096x512, .f32⟩
  | 7 => ⟨S4x4096x512, .f32⟩
  | 8 => ⟨S4x4096x8x64, .f32⟩
  | 9 => ⟨S4x8x4096x64, .f32⟩
  | 10 => ⟨S4x4096x8x64, .f32⟩
  | 11 => ⟨S4x8x4096x64, .f32⟩
  | 12 => ⟨S4x4096x8x64, .f32⟩
  | 13 => ⟨S4x8x4096x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S8, .f32⟩
  | 25 => ⟨S4096, .f32⟩
  | 26 => ⟨S4096x1, .f32⟩
  | 27 => ⟨S1x4096, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S1x4096x4096, .i1⟩
  | 35 => ⟨S_, .f32⟩
  | 36 => ⟨S_, .f32⟩
  | 37 => ⟨S4096x4096, .f32⟩
  | 38 => ⟨S4096x4096, .f32⟩
  | 39 => ⟨S1x4096x4096, .f32⟩
  | 40 => ⟨S8x1x1, .f32⟩
  | 41 => ⟨S8x4096x4096, .f32⟩
  | 42 => ⟨S8x4096x4096, .f32⟩
  | 43 => ⟨S8x4096x4096, .f32⟩
  | 44 => ⟨S8x4096x4096, .f32⟩
  | 45 => ⟨S_, .f32⟩
  | 46 => ⟨S_, .f32⟩
  | 47 => ⟨S8x4096x4096, .i1⟩
  | 48 => ⟨S8x4096x4096, .f32⟩
  | 49 => ⟨S8x4096x4096, .f32⟩
  | 50 => ⟨S4x8x4096x4096, .f32⟩
  | 51 => ⟨S1x8x4096x4096, .f32⟩
  | 52 => ⟨S4x8x4096x4096, .f32⟩
  | 53 => ⟨S4x8x4096x4096, .f32⟩
  | 54 => ⟨S4x8x4096x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S4096, .f32⟩
  | 67 => ⟨S1x4096, .f32⟩
  | 68 => ⟨S4096x1, .f32⟩
  | 69 => ⟨S4096x4096, .f32⟩
  | 70 => ⟨S4096x4096, .f32⟩
  | 71 => ⟨S4096x4096, .f32⟩
  | 72 => ⟨S_, .f32⟩
  | 73 => ⟨S4096x4096, .f32⟩
  | 74 => ⟨S4096x4096, .i1⟩
  | 75 => ⟨S1x4096x4096, .i1⟩
  | 76 => ⟨S_, .f32⟩
  | 77 => ⟨S_, .f32⟩
  | 78 => ⟨S4096x4096, .f32⟩
  | 79 => ⟨S4096x4096, .f32⟩
  | 80 => ⟨S1x4096x4096, .f32⟩
  | 81 => ⟨S8x1x1, .f32⟩
  | 82 => ⟨S8x4096x4096, .f32⟩
  | 83 => ⟨S8x4096x4096, .f32⟩
  | 84 => ⟨S8x4096x4096, .f32⟩
  | 85 => ⟨S8x4096x4096, .f32⟩
  | 86 => ⟨S_, .f32⟩
  | 87 => ⟨S_, .f32⟩
  | 88 => ⟨S8x4096x4096, .i1⟩
  | 89 => ⟨S8x4096x4096, .f32⟩
  | 90 => ⟨S8x4096x4096, .f32⟩
  | 91 => ⟨S4x8x4096x4096, .f32⟩
  | 92 => ⟨S1x8x4096x4096, .f32⟩
  | 93 => ⟨S4x8x4096x4096, .f32⟩
  | 94 => ⟨S4x8x4096x4096, .f32⟩
  | 95 => ⟨S4x8x4096x64, .f32⟩
  | 96 => ⟨S4x8x4096x64, .f32⟩
  | 97 => ⟨S_, .f32⟩
  | 98 => ⟨S4x8x4096, .f32⟩
  | 99 => ⟨S4x8x4096x1, .f32⟩
  | 100 => ⟨S_, .f32⟩
  | 101 => ⟨S4x8x4096x1, .f32⟩
  | 102 => ⟨S4x8x4096x1, .f32⟩
  | 103 => ⟨S4x8x4096x64, .f32⟩
  | 104 => ⟨S4x8x4096x64, .f32⟩
  | 105 => ⟨S4x8x4096x64, .f32⟩
  | 106 => ⟨S_, .f32⟩
  | 107 => ⟨S4x8x4096, .f32⟩
  | 108 => ⟨S4x8x4096x1, .f32⟩
  | 109 => ⟨S_, .f32⟩
  | 110 => ⟨S4x8x4096x1, .f32⟩
  | 111 => ⟨S4x8x4096x1, .f32⟩
  | 112 => ⟨S_, .f32⟩
  | 113 => ⟨S4x8x4096x1, .f32⟩
  | 114 => ⟨S4x8x4096x1, .f32⟩
  | 115 => ⟨S4x8x4096x1, .f32⟩
  | 116 => ⟨S4x8x4096x64, .f32⟩
  | 117 => ⟨S4x8x4096x64, .f32⟩
  | 118 => ⟨S4x4096x8x64, .f32⟩
  | 119 => ⟨S4x4096x512, .f32⟩
  | 120 => ⟨S1x1x512, .f32⟩
  | 121 => ⟨S4x4096x512, .f32⟩
  | 122 => ⟨S4x4096x512, .f32⟩
  | 123 => ⟨S1x1x512, .f32⟩
  | 124 => ⟨S4x4096x512, .f32⟩
  | 125 => ⟨S4x4096x512, .f32⟩
  | 126 => ⟨S4x4096x512, .f32⟩
  | 127 => ⟨S4x4096x512, .f32⟩
  | _ => ⟨S4x4096x2048, .bf16⟩

abbrev hbmTy0_1 (i : Nat) : BufTy := match i % 128 with
  | 0 => ⟨S_, .f32⟩
  | 1 => ⟨S4x4096x512, .f32⟩
  | 2 => ⟨S4x4096x512, .f32⟩
  | 3 => ⟨S_, .f32⟩
  | 4 => ⟨S4x4096x512, .f32⟩
  | 5 => ⟨S4x4096x512, .f32⟩
  | 6 => ⟨S4x4096x512, .f32⟩
  | 7 => ⟨S4x4096x512, .f32⟩
  | 8 => ⟨S4x4096x512, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call4_v0 : Ref sig .tc := ⟨.hbm, 126, rfl⟩
abbrev main_call4_v1 : Ref sig .tc := ⟨.hbm, 127, rfl⟩
abbrev main_call4_cst : Ref sig .tc := ⟨.hbm, 128, rfl⟩
abbrev main_call4_v2 : Ref sig .tc := ⟨.hbm, 129, rfl⟩
abbrev main_call4_v3 : Ref sig .tc := ⟨.hbm, 130, rfl⟩
abbrev main_call4_cst_0 : Ref sig .tc := ⟨.hbm, 131, rfl⟩
abbrev main_call4_v4 : Ref sig .tc := ⟨.hbm, 132, rfl⟩
abbrev main_call4_v5 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== Proof.RetRun.lean ====
/- The retention body run once, at any float values: through its four counted loops by their invariants. What it leaves in
   the output's buffer is named by the loops' recursions, over whatever the scratch held before. -/
module

public import proofs.«01_k».proof.Proof.Gen.RetIdeal.Frame.Runs

@[expose] public section

set_option maxRecDepth 16384

noncomputable section

namespace Rt

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole)
  (arg6 : Memref sig .tc .vmem S2x512x256 .f32) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole)
  (arg10 : Memref sig .tc .vmem S2x256x128 .f32) (harg10 : arg10.IsWhole) (arg11 : Memref sig .tc .vmem S2x1x128 .f32) (harg11 : arg11.IsWhole) (arg12 : Memref sig .tc .vmem S2x1x128 .f32) (harg12 : arg12.IsWhole)
  (arg13 : Memref sig .tc .vmem S256x256 .bf16) (harg13 : arg13.IsWhole) (arg14 : Memref sig .tc .vmem S1x256 .f32) (harg14 : arg14.IsWhole) (arg15 : Memref sig .tc .vmem S1x256 .f32) (harg15 : arg15.IsWhole)
  (arg16 : Memref sig .tc .vmem S1x4096x256 .bf16) (harg16 : arg16.IsWhole) (arg17 : Memref sig .tc .vmem S4096x256 .f32) (harg17 : arg17.IsWhole) (arg18 : Memref sig .tc .vmem S16x2x256x128 .f32) (harg18 : arg18.IsWhole) (arg19 : Memref sig .tc .vmem S16x2x128x128 .bf16) (harg19 : arg19.IsWhole)
  (x0 : Vec F S1x4096x256 .bf16) (x1 : Vec F S1x4096x256 .bf16) (x2 : Vec F S1x4096x256 .bf16) (x3 : Vec F S1x4096x256 .bf16) (x4 : Vec F S2x512x256 .f32) (x5 : Vec F S2x256x128 .f32) (x6 : Vec F S2x256x128 .f32) (x7 : Vec F S2x256x128 .f32) (x8 : Vec F S2x256x128 .f32) (x9 : Vec F S2x1x128 .f32) (x10 : Vec F S2x1x128 .f32) (x11 : Vec F S256x256 .bf16) (x12 : Vec F S1x256 .f32) (x13 : Vec F S1x256 .f32)

/-- The chunks' key–value products after the first loop, written over `g`. -/
def kv (g : BufTy.Contents (Elt F) arg18.view.ty) : BufTy.Contents (Elt F) arg18.view.ty :=
  arg18.view.writes (Elt F) g (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (harg3.unread x1) (harg4.unread x2) (harg8.unread x6) (harg10.unread x8) k0_t1_loop.trips)

/-- The backward states after the second loop, written over `h`. -/
def back (g : BufTy.Contents (Elt F) arg18.view.ty) (h : BufTy.Contents (Elt F) arg19.view.ty) : BufTy.Contents (Elt F) arg19.view.ty :=
  arg19.view.writes (Elt F) h (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) k0_t2_loop.trips).2

/-- The retention rows after the third loop, written over `e`. -/
def rows (e : BufTy.Contents (Elt F) arg17.view.ty) (g : BufTy.Contents (Elt F) arg18.view.ty) (h : BufTy.Contents (Elt F) arg19.view.ty) :
    BufTy.Contents (Elt F) arg17.view.ty :=
  arg17.view.writes (Elt F) e (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (Scalar.ofBits .bf16 0x0000#16) (harg2.unread x0) (harg3.unread x1) (harg4.unread x2) (harg6.unread x4) (harg7.unread x5) (harg9.unread x7) (harg11.unread x9)
    (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) k0_t3_loop.trips).2

/-- The output block after the fourth loop, written over `d`. -/
def left (d : BufTy.Contents (Elt F) arg16.view.ty) (e : BufTy.Contents (Elt F) arg17.view.ty) (g : BufTy.Contents (Elt F) arg18.view.ty) (h : BufTy.Contents (Elt F) arg19.view.ty) :
    BufTy.Contents (Elt F) arg16.view.ty :=
  arg16.view.writes (Elt F) d (pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (View.readAt (Elt F) arg13.view (Rect.unit (s := S256x256) ![0, 0] S256x256.size inb_S256x256_S256x256_0_0).toLoadRect (harg13.unread x11))
    (harg5.unread x3) (harg14.unread x12) (harg15.unread x13)
    (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) k0_t4_loop.trips)

set_option maxHeartbeats 2000000 in
/-- The body's triple: the inputs come back as they were, the scratch at some contents, the output's buffer at `left`. -/
theorem run (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13
        ∗ (∃ d e g h, arg16.view.loc (c : Thread nD τ) ↦[arg16.view.set]{fullShare} left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 d e g h) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists f14, fs0, fs1, fs2
    unfold left rows back kv
    iexact H14
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Rt

end
-- ==== Proof.RetFrame.lean ====
/- The retention program's frame and its run with the result named, both from the one run of its body: the frame forgets
   what the output's buffer holds; the named run takes a value that every `left` reads back to. -/
module

public import proofs.«01_k».proof.Proof.RetRun
public import Idealize.ShloMosaic.Lib.Claim

@[expose] public section

set_option maxRecDepth 16384

noncomputable section

namespace Rt

open Cert.RetIdeal Cert.RetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (o : Dev nD → Fin cfg0.N → Vec F S1x4096x256 .bf16)

/-- The output window, the one the frame forgets. -/
def forgets : Fin 15 → Bool := fun w => w.val == 14

/-- The pipeline's proof data: each input's block stays, the output's buffer ends at `o`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => o c t
  Φ _ := Pipeline.ΦA spec0 c
  q w := Pipeline.shareOf spec0 w
  owed _ := 0

/-- The arrays are as the region finds them. -/
theorem A_eq (c : Dev nD) (w : Fin cfg0.W) : (dats m o 0 c).A w = V m c (Pipeline.arrRef spec0 w) := by
  dsimp only [dats]

/-- What input window 0 holds after the body: its block. -/
theorem after_0 (c : Dev nD) (t : Fin cfg0.N) : (dats m o 0 c).after 0 t = iblk m c 0 t := by dsimp only [dats]
/-- What input window 0 holds before the body: its block. -/
theorem before_0 (c : Dev nD) (t : Fin cfg0.N) (d) : (dats m o 0 c).before 0 t d = iblk m c 0 t :=
  before0_0_of m (dats m o 0 c) (A_eq m o c 0) (after_0 m o c) t d
/-- What input window 1 holds after the body: its block. -/
theorem after_1 (c : Dev nD) (t : Fin cfg0.N) : (dats m o 0 c).after 1 t = iblk m c 1 t := by dsimp only [dats]
/-- What input window 1 holds before the body: its block. -/
theorem before_1 (c : Dev nD) (t : Fin cfg0.N) (d) : (dats m o 0 c).before 1 t d = iblk m c 1 t :=
  before0_1_of m (dats m o 0 c) (A_eq m o c 1) (after_1 m o c) t d
/-- What input window 2 holds after the body: its block. -/
theorem after_2 (c : Dev nD) (t : Fin cfg0.N) : (dats m o 0 c).after 2 t = iblk m c 2 t := by dsimp only [dats]
/-- What input window 2 holds before the body: its block. -/
theorem before_2 (c : Dev nD) (t : Fin cfg0.N) (d) : (dats m o 0 c).before 2 t d = iblk m c 2 t :=
  before0_2_of m (dats m o 0 c) (A_eq m o c 2) (after_2 m o c) t d
/-- What input window 3 holds after the body: its block. -/
theorem after_3 (c : Dev nD) (t : Fin cfg0.N) : (dats m o 0 c).after 3 t = iblk m c 3 t := by dsimp only [dats]
/-- What input window 3 holds before the body: its block. -/
theorem before_3 (c : Dev nD) (t : Fin cfg0.N) (d) : (dats m o 0 c).before 3 t d = iblk m c 3 t :=
  before0_3_of m (dats m o 0 c) (A_eq m o c 3) (after_3 m o c) t d
/-- What input window 4 holds after the body: its block. -/
theorem after_4 (c : Dev nD) (t : Fin cfg0.N) : (dats m o 0 c).after 4 t = iblk m c 4 t := by dsimp only [dats]
/-- What input window 4 holds before the body: its block. -/
theorem before_4 (c : Dev nD) (t : Fin cfg0.N) (d) : (dats m o 0 c).before 4 t d = iblk m c 4 t :=
  before0_4_of m (dats m o 0 c) (A_eq m o c 4) (after_4 m o c) t d
/-- What input window 5 holds after the body: its block. -/
theorem after_5 (c : Dev nD) (t : Fin cfg0.N) : (dats m o 0 c).after 5 t = iblk m c 5 t := by dsimp only [dats]
/-- What input window 5 holds before the body: its block. -/
theorem before_5 (c : Dev nD) (t : Fin cfg0.N) (d) : (dats m o 0 c).before 5 t d = iblk m c 5 t :=
  before0_5_of m (dats m o 0 c) (A_eq m o c 5) (after_5 m o c) t d
/-- What input window 6 holds after the body: its block. -/
theorem after_6 (c : Dev nD) (t : Fin cfg0.N) : (dats m o 0 c).after 6 t = iblk m c 6 t := by dsimp only [dats]
/-- What input window 6 holds before the body: its block. -/
theorem before_6 (c : Dev nD) (t : Fin cfg0.N) (d) : (dats m o 0 c).before 6 t d = iblk m c 6 t :=
  before0_6_of m (dats m o 0 c) (A_eq m o c 6) (after_6 m o c) t d
/-- What input window 7 holds after the body: its block. -/
theorem after_7 (c : Dev nD) (t : Fin cfg0.N) : (dats m o 0 c).after 7 t = iblk m c 7 t := by dsimp only [dats]
/-- What input window 7 holds before the body: its block. -/
theorem before_7 (c : Dev nD) (t : Fin cfg0.N) (d) : (dats m o 0 c).before 7 t d = iblk m c 7 t :=
  before0_7_of m (dats m o 0 c) (A_eq m o c 7) (after_7 m o c) t d
/-- What input window 8 holds after the body: its block. -/
theorem after_8 (c : Dev nD) (t : Fin cfg0.N) : (dats m o 0 c).after 8 t = iblk m c 8 t := by dsimp only [dats]
/-- What input window 8 holds before the body: its block. -/
theorem before_8 (c : Dev nD) (t : Fin cfg0.N) (d) : (dats m o 0 c).before 8 t d = iblk m c 8 t :=
  before0_8_of m (dats m o 0 c) (A_eq m o c 8) (after_8 m o c) t d
/-- What input window 9 holds after the body: its block. -/
theorem after_9 (c : Dev nD) (t : Fin cfg0.N) : (dats m o 0 c).after 9 t = iblk m c 9 t := by dsimp only [dats]
/-- What input window 9 holds before the body: its block. -/
theorem before_9 (c : Dev nD) (t : Fin cfg0.N) (d) : (dats m o 0 c).before 9 t d = iblk m c 9 t :=
  before0_9_of m (dats m o 0 c) (A_eq m o c 9) (after_9 m o c) t d
/-- What input window 10 holds after the body: its block. -/
theorem after_10 (c : Dev nD) (t : Fin cfg0.N) : (dats m o 0 c).after 10 t = iblk m c 10 t := by dsimp only [dats]
/-- What input window 10 holds before the body: its block. -/
theorem before_10 (c : Dev nD) (t : Fin cfg0.N) (d) : (dats m o 0 c).before 10 t d = iblk m c 10 t :=
  before0_10_of m (dats m o 0 c) (A_eq m o c 10) (after_10 m o c) t d
/-- What input window 11 holds after the body: its block. -/
theorem after_11 (c : Dev nD) (t : Fin cfg0.N) : (dats m o 0 c).after 11 t = iblk m c 11 t := by dsimp only [dats]
/-- What input window 11 holds before the body: its block. -/
theorem before_11 (c : Dev nD) (t : Fin cfg0.N) (d) : (dats m o 0 c).before 11 t d = iblk m c 11 t :=
  before0_11_of m (dats m o 0 c) (A_eq m o c 11) (after_11 m o c) t d
/-- What input window 12 holds after the body: its block. -/
theorem after_12 (c : Dev nD) (t : Fin cfg0.N) : (dats m o 0 c).after 12 t = iblk m c 12 t := by dsimp only [dats]
/-- What input window 12 holds before the body: its block. -/
theorem before_12 (c : Dev nD) (t : Fin cfg0.N) (d) : (dats m o 0 c).before 12 t d = iblk m c 12 t :=
  before0_12_of m (dats m o 0 c) (A_eq m o c 12) (after_12 m o c) t d
/-- What input window 13 holds after the body: its block. -/
theorem after_13 (c : Dev nD) (t : Fin cfg0.N) : (dats m o 0 c).after 13 t = iblk m c 13 t := by dsimp only [dats]
/-- What input window 13 holds before the body: its block. -/
theorem before_13 (c : Dev nD) (t : Fin cfg0.N) (d) : (dats m o 0 c).before 13 t d = iblk m c 13 t :=
  before0_13_of m (dats m o 0 c) (A_eq m o c 13) (after_13 m o c) t d

/-- The body's precondition window by window, the output's buffer at what `Y` says of it. -/
def bodyPre (Y : Dev nD → Fin cfg0.N → sProp (MT nD τ sig Unit (Elt F) ℕ (UR sig nD τ) ℕ)) (c : Dev nD) (t : Fin cfg0.N) : sProp (MT nD τ sig Unit (Elt F) ℕ (UR sig nD τ) ℕ) :=
  iprop((dats m o 0 c).Φ t.castSucc ∗ (dats m o 0 c).owesAt () t.castSucc
    ∗ (∃ d, owns (c : Thread nD τ) (ms0_0 t) fullShare ((dats m o 0 c).before 0 t d))
    ∗ (∃ d, owns (c : Thread nD τ) (ms0_1 t) fullShare ((dats m o 0 c).before 1 t d))
    ∗ (∃ d, owns (c : Thread nD τ) (ms0_2 t) fullShare ((dats m o 0 c).before 2 t d))
    ∗ (∃ d, owns (c : Thread nD τ) (ms0_3 t) fullShare ((dats m o 0 c).before 3 t d))
    ∗ (∃ d, owns (c : Thread nD τ) (ms0_4 t) fullShare ((dats m o 0 c).before 4 t d))
    ∗ (∃ d, owns (c : Thread nD τ) (ms0_5 t) fullShare ((dats m o 0 c).before 5 t d))
    ∗ (∃ d, owns (c : Thread nD τ) (ms0_6 t) fullShare ((dats m o 0 c).before 6 t d))
    ∗ (∃ d, owns (c : Thread nD τ) (ms0_7 t) fullShare ((dats m o 0 c).before 7 t d))
    ∗ (∃ d, owns (c : Thread nD τ) (ms0_8 t) fullShare ((dats m o 0 c).before 8 t d))
    ∗ (∃ d, owns (c : Thread nD τ) (ms0_9 t) fullShare ((dats m o 0 c).before 9 t d))
    ∗ (∃ d, owns (c : Thread nD τ) (ms0_10 t) fullShare ((dats m o 0 c).before 10 t d))
    ∗ (∃ d, owns (c : Thread nD τ) (ms0_11 t) fullShare ((dats m o 0 c).before 11 t d))
    ∗ (∃ d, owns (c : Thread nD τ) (ms0_12 t) fullShare ((dats m o 0 c).before 12 t d))
    ∗ (∃ d, owns (c : Thread nD τ) (ms0_13 t) fullShare ((dats m o 0 c).before 13 t d))
    ∗ Y c t)

/-- What the body leaves in the output's buffer at point `t`, over whatever the buffers held. -/
def leftAt (c : Dev nD) (t : Fin cfg0.N) :=
  left (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's postcondition, the output's buffer at what `X` says of it. -/
def bodyPost (X : Dev nD → Fin cfg0.N → sProp (MT nD τ sig Unit (Elt F) ℕ (UR sig nD τ) ℕ)) (c : Dev nD) (t : Fin cfg0.N) : sProp (MT nD τ sig Unit (Elt F) ℕ (UR sig nD τ) ℕ) :=
  iprop((dats m o 0 c).Φ t.succ ∗ (dats m o 0 c).owesAt () t.succ
    ∗ owns (c : Thread nD τ) (ms0_0 t) fullShare ((dats m o 0 c).after 0 t)
    ∗ owns (c : Thread nD τ) (ms0_1 t) fullShare ((dats m o 0 c).after 1 t)
    ∗ owns (c : Thread nD τ) (ms0_2 t) fullShare ((dats m o 0 c).after 2 t)
    ∗ owns (c : Thread nD τ) (ms0_3 t) fullShare ((dats m o 0 c).after 3 t)
    ∗ owns (c : Thread nD τ) (ms0_4 t) fullShare ((dats m o 0 c).after 4 t)
    ∗ owns (c : Thread nD τ) (ms0_5 t) fullShare ((dats m o 0 c).after 5 t)
    ∗ owns (c : Thread nD τ) (ms0_6 t) fullShare ((dats m o 0 c).after 6 t)
    ∗ owns (c : Thread nD τ) (ms0_7 t) fullShare ((dats m o 0 c).after 7 t)
    ∗ owns (c : Thread nD τ) (ms0_8 t) fullShare ((dats m o 0 c).after 8 t)
    ∗ owns (c : Thread nD τ) (ms0_9 t) fullShare ((dats m o 0 c).after 9 t)
    ∗ owns (c : Thread nD τ) (ms0_10 t) fullShare ((dats m o 0 c).after 10 t)
    ∗ owns (c : Thread nD τ) (ms0_11 t) fullShare ((dats m o 0 c).after 11 t)
    ∗ owns (c : Thread nD τ) (ms0_12 t) fullShare ((dats m o 0 c).after 12 t)
    ∗ owns (c : Thread nD τ) (ms0_13 t) fullShare ((dats m o 0 c).after 13 t)
    ∗ X c t)

set_option maxHeartbeats 1600000 in
/-- The body at any point, for any `Y` the buffer can be taken from and any `X` that `leftAt` gives. -/
theorem sound_body (Y X : Dev nD → Fin cfg0.N → sProp (MT nD τ sig Unit (Elt F) ℕ (UR sig nD τ) ℕ)) (c : Dev nD) (t : Fin cfg0.N)
    (hY : Y c t ⊢ iprop(∃ d, owns (c : Thread nD τ) (ms0_14 t) fullShare d))
    (hX : iprop(∃ d e g h, (ms0_14 t).view.loc (c : Thread nD τ) ↦[(ms0_14 t).view.set]{fullShare} leftAt m c t d e g h) ⊢ X c t) :
    bodyPre m o Y c t ⊢ wp frame (wpE (defs₀ (F := F)) Variants.none c none) Set.univ (bodyAt0 t) (fun _ => bodyPost m o X c t) := by
  unfold bodyPre bodyPost bodyAt0
  simp only [before_0, before_1, before_2, before_3, before_4, before_5, before_6, before_7, before_8, before_9, before_10, before_11, before_12, before_13]
  rw [show (dats m o 0 c).Φ t.succ = (dats m o 0 c).Φ t.castSucc from rfl,
    show (dats m o 0 c).owesAt () t.succ = (dats m o 0 c).owesAt () t.castSucc from rfl,
    after_0, after_1, after_2, after_3, after_4, after_5, after_6, after_7, after_8, after_9, after_10, after_11, after_12, after_13]
  rw [show (dats m o 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply ((run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply hY; iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply hX
  iexact H14

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The body obligation with the output forgotten. -/
theorem obligation_forget (c : Dev nD) : BodyObligation (dats (F := F) m o 0 c) (defs₀ (F := F)) Variants.none () Set.univ forgets := fun t => by
  rw [bigSep_W0, bigSep_W0, row]
  refine triple_restated (sound_body m o (fun c t => iprop(∃ d, owns (c : Thread nD τ) (ms0_14 t) fullShare d)) (fun c t => iprop(∃ d, owns (c : Thread nD τ) (ms0_14 t) fullShare d)) c t .rfl ?_) rfl .rfl fun _ => .rfl
  iintro ⟨%d, %e, %g, %h, H⟩
  unfold owns
  iexists _, _; isplitr; swap; · iexact H
  ipureintro; rfl

/-- The body obligation with the output named. -/
theorem obligation (ho : ∀ c t d e g h, (ms0_14 t).view.read (Elt F) (leftAt m c t d e g h) = o c t) (c : Dev nD) :
    BodyObligation (dats (F := F) m o 0 c) (defs₀ (F := F)) Variants.none () Set.univ := fun t => by
  rw [bigSep_W0, bigSep_W0, row]
  refine triple_restated (sound_body m o (fun c t => iprop(∃ d, owns (c : Thread nD τ) (ms0_14 t) fullShare ((dats m o 0 c).before 14 t d))) (fun c t => owns (c : Thread nD τ) (ms0_14 t) fullShare (o c t)) c t ?_ ?_) rfl .rfl fun _ => .rfl
  · iintro ⟨%d, H⟩
    iexists _; iexact H
  iintro ⟨%d, %e, %g, %h, H⟩
  unfold owns
  iexists _; isplitr; swap; · iexact H
  ipureintro; exact ho c t d e g h

set_option backward.isDefEq.respectTransparency.types false in
/-- The launch with the output forgotten: the inputs' arrays stay, and every counter ends at zero. -/
theorem run_forget : θ_run defs (onTc (τ := τ) (main (F := F))) (s₀ m ρ)
    (fun r => (Pipeline.RDat.FramePost (cfgs 0) (fun c => (dats m o 0 c).toRForget forgets) (V m)) r ∧ r.2.sem = fun _ => 0) :=
  Pipeline.θ_run_frame_forget_shared (Q' := _) cfgs (dats m o) (0 : Fin 1) launch₀0 defs₀ Variants.none forgets m ρ main
    (hbody := fun c => (obligation_forget m o c).loose) (hq := fun _ _ _ => rfl)
    (howed := fun _ _ => rfl) (V := V m) (hmain := hmain m Variants.none) (hA := A_eq m o) (hΦ := fun _ _ => rfl)

set_option backward.isDefEq.respectTransparency.types false in
/-- The launch with the output named. -/
theorem run_named (ho : ∀ c t d e g h, (ms0_14 t).view.read (Elt F) (leftAt m c t d e g h) = o c t) :
    θ_run defs (onTc (τ := τ) (main (F := F))) (s₀ m ρ) (fun r => (Pipeline.FramePost cfgs (dats m o) 0 (V m)) r ∧ r.2.sem = fun _ => 0) :=
  Pipeline.θ_run_frame_shared (Q' := _) cfgs (dats m o) (0 : Fin 1) launch₀0 defs₀ Variants.none m ρ main
    (hbody := fun c => (obligation m o ho c).loose) (hq := fun _ _ _ => rfl)
    (howed := fun _ _ => rfl) (V := V m) (hmain := hmain m Variants.none) (hA := A_eq m o) (hΦ := fun _ _ => rfl)

/-- The program runs, its arguments end as they were, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  let o : Dev nD → Fin cfg0.N → Vec F S1x4096x256 .bf16 := fun _ t => Pipeline.Dat.unnamed (cfg := cfg0) 14 t
  (θ_run defs _ _).mono (fun r h => ⟨fun c =>
      ⟨((h.1.arr_in c 3 rfl).trans ((A_eq m o c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_forget m ρ o)

end Rt

end
-- ==== Proof.RetClaim.lean ====
/- The retention program's frames, over the machine's floats and over the reals. -/
module

public import proofs.«01_k».proof.Defs
public import proofs.«01_k».proof.Proof.Gen.Ret
public import proofs.«01_k».proof.Proof.RetFrame

@[expose] public section

set_option maxRecDepth 100000

noncomputable section

namespace Rt

open Idealize.ShloMosaic Idealize.SL.Sem

/-- The idealised retention program's frame. -/
theorem frame_ideal : Cert.quiescent_RetIdeal (hRetIdeal := Cert.RetIdeal.Gen.facts) := fun m ρ _ => frame_any m ρ

set_option backward.isDefEq.respectTransparency false
set_option backward.isDefEq.respectTransparency.types false
variable {F : FTy → Type} [FloatOps F]

set_option maxHeartbeats 8000000 in
/-- The kernel bodies are the same. -/
theorem b_same : Cert.Ret.cc0_retention (F := F) = Cert.RetIdeal.cc0_retention (F := F) := by exact rfl

set_option maxHeartbeats 8000000 in
/-- The body tables are the same: one label, the kernel's body. -/
theorem d_same : Cert.Ret.defs₀ (F := F) = Cert.RetIdeal.defs₀ (F := F) := by
  funext p
  cases p with
  | tc =>
    funext ℓ a
    revert ℓ
    intro ⟨n, hn⟩
    cases n with
    | zero =>
      intro a
      cases a
      exact rfl
    | succ n => exact absurd hn (by simp)
  | scScalar i => exact rfl
  | scVector i j => exact rfl

set_option maxHeartbeats 8000000 in
/-- The host programs are the same. -/
theorem m_same : Cert.Ret.main (F := F) = Cert.RetIdeal.main (F := F) := by exact rfl

set_option maxHeartbeats 8000000 in
/-- The retention program's frame: its text is the idealised program's, so the same run serves. -/
theorem frame_bits : Cert.quiescent_Ret (hRet := Cert.Ret.Gen.facts) := by
  intro m ρ _
  show θ_run (Pipeline.defs Cert.Ret.pcfgs Cert.Ret.defs₀) _ _ _
  rw [d_same, m_same]
  exact frame_any (F := Bits) m ρ

end Rt

end
-- ==== Proof.FfnSpec.lean ====
/- The channel mixer's mathematics on rows, over the extended reals: what both the kernel and the reference compute, read at an index. -/
module

public import Idealize.ShloMosaic.Lib.Pipeline.ValueKit
public import Idealize.ShloMosaic.Lib.Pointwise

@[expose] public section

noncomputable section

namespace Ffn

open Idealize.ShloMosaic

/-- The root-mean-square norm of a row `x` of width `n`, scaled by `g`; `N` is the divisor of the mean. -/
def rms {n : ℕ} (N : EReal) (x g : Fin n → EReal) (k : Fin n) : EReal :=
  x k * Ideal.rsqrt (Ideal.div (∑ j, x j * x j) N + Ideal.ofBits .f32 0x358637BD#32) * g k

/-- A row after the mixers' output projection and the residual: `h` the long convolution's row, `r` the retention's. -/
def mix (x : Fin 1024 → EReal) (h r g : Fin 512 → EReal) (wh wr : Fin 512 → Fin 1024 → EReal) (k : Fin 1024) : EReal :=
  x k + ∑ j, rms (Ideal.ofBits .f32 0x44000000#32) h g j * wh j k + ∑ j, r j * wr j k

/-- Three neighbouring values against three taps, and the bias. -/
def conv3 (a b c w0 w1 w2 d : EReal) : EReal := a * w0 + b * w1 + c * w2 + d

/-- Equal neighbours, taps and bias, equal convolutions. -/
theorem conv3_congr {a b d a' b' d' w0 w1 w2 e w0' w1' w2' e' : EReal} (ha : a = a') (hb : b = b') (hd : d = d')
    (h0 : w0 = w0') (h1 : w1 = w1') (h2 : w2 = w2') (he : e = e') : conv3 a b d w0 w1 w2 e = conv3 a' b' d' w0' w1' w2' e' := by
  subst ha hb hd h0 h1 h2 he
  rfl

/-- The gelu in its tanh form. -/
def gelu (a : EReal) : EReal :=
  Ideal.ofBits .f32 0x3F000000#32 * a *
    (1 + Ideal.tanh (Ideal.ofBits .f32 0x3F4C422A#32 * (a + Ideal.ofBits .f32 0x3D372713#32 * (a * a * a))))

/-- The last residual and norm: `y` the mixed row, `t` the gated hidden row. -/
def out (y : Fin 1024 → EReal) (t : Fin 2816 → EReal) (wd : Fin 2816 → Fin 1024 → EReal) (g : Fin 1024 → EReal) : Fin 1024 → EReal :=
  rms (Ideal.ofBits .f32 0x44800000#32) (fun k => y k + ∑ c, t c * wd c k) g

/-- The channel mixer's arguments, of a batch of `B` rows: the residual, the two mixers' outputs, and the weights. -/
structure Args (B : ℕ) where
  X : FVec Ideal ⟨3, ![B, 4096, 1024]⟩ .f32
  ZH : FVec Ideal ⟨3, ![B, 4096, 512]⟩ .bf16
  ZR : FVec Ideal ⟨3, ![B, 4096, 512]⟩ .bf16
  HG : FVec Ideal ⟨1, ![512]⟩ .f32
  WO : FVec Ideal ⟨2, ![1024, 1024]⟩ .f32
  NG : FVec Ideal ⟨1, ![1024]⟩ .f32
  WU : FVec Ideal ⟨2, ![1024, 5632]⟩ .f32
  CW : FVec Ideal ⟨2, ![3, 5632]⟩ .f32
  CB : FVec Ideal ⟨1, ![5632]⟩ .f32
  WD : FVec Ideal ⟨2, ![2816, 1024]⟩ .f32
  FG : FVec Ideal ⟨1, ![1024]⟩ .f32

namespace Args

variable {B : ℕ} (A : Args B)

/-- The mixed row at position `p` of batch row `b`. -/
def mixed (b : Fin B) (p : Fin 4096) : Fin 1024 → EReal :=
  mix (fun j => A.X (ix3 b p j)) (fun j => A.ZH (ix3 b p j)) (fun j => A.ZR (ix3 b p j)) (fun j => A.HG (ix1 j))
    (fun j k => A.WO (ix2 ⟨j.val, by omega⟩ k)) (fun j k => A.WO (ix2 ⟨512 + j.val, by omega⟩ k))

/-- The up-projection of the normed row at position `p`. -/
def up (b : Fin B) (p : Fin 4096) (c : Fin 5632) : EReal :=
  ∑ k : Fin 1024, rms (Ideal.ofBits .f32 0x44800000#32) (A.mixed b p) (fun j => A.NG (ix1 j)) k * A.WU (ix2 k c)

/-- The up-projection padded by one zero row on either side: row `s` is position `s - 1`. -/
def pad (b : Fin B) (s : ℕ) (c : Fin 5632) : EReal :=
  if h : 1 ≤ s ∧ s - 1 < 4096 then A.up b ⟨s - 1, h.2⟩ c else 0

/-- The depthwise convolution of three taps at position `p`. -/
def conv (b : Fin B) (p : ℕ) (c : Fin 5632) : EReal :=
  conv3 (A.pad b p c) (A.pad b (p + 1) c) (A.pad b (p + 2) c) (A.CW (ix2 0 c)) (A.CW (ix2 1 c)) (A.CW (ix2 2 c)) (A.CB (ix1 c))

/-- The gated hidden row at position `p`. -/
def gated (b : Fin B) (p : ℕ) (c : Fin 2816) : EReal :=
  gelu (A.conv b p ⟨c.val, by omega⟩) * A.conv b p ⟨2816 + c.val, by omega⟩

/-- The result at position `p`, column `k`. -/
def result (b : Fin B) (p : Fin 4096) (k : Fin 1024) : EReal :=
  out (A.mixed b p) (A.gated b p) (fun c k => A.WD (ix2 c k)) (fun k => A.FG (ix1 k)) k

end Args

end Ffn
-- ==== Proof.RetPay.lean ====
/- What the retention body's payloads hold, over blocks whose every entry is a real number: one chunk's key–value product,
   one step of a running state, one chunk's rows, and the normalised and gated rows. -/
module

public import proofs.«01_k».proof.Proof.Gen.RetIdeal.Skeleton
public import proofs.«01_k».proof.Proof.FfnSpec
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Rt

/-- A load through a unit rectangle, at an index of it. -/
theorem load_at {sig : RefSig} {κ : Kind} {sp : Space} {s : Shape} {e : EltTy} {Val : EltTy → Type} (v : View sig κ sp s e) (f : v.ty.Contents Val)
    {off off' size : Fin s.rank → ℕ} (inb : ∀ a, off a + size a ≤ s.size a) (y : (Rect.unit off size inb).shape.Idx) (z : s.Idx)
    (h : off = off') (hz : ∀ a, (z a).val = off' a + (y a).val) :
    v.readAt Val (Rect.unit off size inb).toLoadRect f y = v.read Val f z := by
  subst h
  rw [View.readAt_unit v f inb rfl inb]
  unfold VecWindow.window
  congr 1
  funext a
  apply Fin.ext
  rw [hz a]
  show off a + 1 * (y a).val = _
  rw [one_mul]

/-- A finite sum of reals, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A choice of reals, as an extended real. -/
theorem coe_ite (p : Prop) [Decidable p] (a b : ℝ) : ((if p then a else b : ℝ) : EReal) = if p then ((a : ℝ) : EReal) else ((b : ℝ) : EReal) := by
  split <;> rfl

/-- One where two lanes of a pair belong to one head, zero elsewhere. -/
def same (r l : ℕ) : ℝ := if (r < 64 ↔ l < 64) then 1 else 0

/-- One chunk's product of weighted keys and values. -/
def kvOf (K V X : ℕ → ℕ → ℝ) (r l : ℕ) : ℝ := (∑ u : Fin 256, K u.val r * X u.val r * V u.val l) * same r l

/-- One chunk's row: inside the chunk, from the state before it, from the state after it. -/
def rowOf (q k v f g d s b : ℕ → ℕ → ℝ) (r l : ℕ) : ℝ :=
  (∑ w : Fin 256, (∑ j : Fin 64, q r j.val * k w.val j.val) * d r w.val * (if l < 64 then v w.val l else 0))
  + (∑ w : Fin 256, (∑ j : Fin 64, q r (64 + j.val) * k w.val (64 + j.val)) * d (256 + r) w.val * (if l < 64 then 0 else v w.val l))
  + (∑ j : Fin 128, q r j.val * f r j.val * s j.val l)
  + (∑ j : Fin 128, q r j.val * g r j.val * b j.val l)

open Cert.RetIdeal Cert.RetIdeal.Gen

theorem lane (l : Fin 128) : (IntOp.cmpi CmpIPredicate.slt (BitVec.ofNat 32 l.val) 64#32 : BitVec 1) = if l.val < 64 then 1#1 else 0#1 := by
  revert l
  decide +kernel

theorem select_bit (p : Prop) [Decidable p] (a b : EReal) : Scalar.select (if p then 1#1 else 0#1) a b = if p then a else b := by
  by_cases h : p
  · rw [if_pos h, if_pos h]; rfl
  · rw [if_neg h, if_neg h]; rfl

/-- The mask's word at a pair of bits. -/
theorem same_word (p q : Prop) [Decidable p] [Decidable q] :
    (IntOp.xori (IntOp.xori (if p then 1#1 else 0#1) (if q then 1#1 else 0#1)) 1#1) = if (p ↔ q) then 1#1 else 0#1 := by
  by_cases hp : p <;> by_cases hq : q <;> simp [hp, hq] <;> rfl

theorem pay2_at (r l : Fin 128) : k0_pay2 (F := Ideal) (ix2 r l) = ((same r.val l.val : ℝ) : EReal) := by
  pointwise [k0_pay2]
  rw [lane, lane]
  unfold same
  rw [same_word]
  by_cases h : (r.val < 64 ↔ l.val < 64)
  · rw [if_pos h, if_pos h]
    change (((1#1 : BitVec 1).setWidth 32).toInt : ℝ) = ((1 : ℝ) : EReal)
    rw [show ((1#1 : BitVec 1).setWidth 32).toInt = 1 by decide]; simp
  · rw [if_neg h, if_neg h]
    change (((0#1 : BitVec 1).setWidth 32).toInt : ℝ) = ((0 : ℝ) : EReal)
    rw [show ((0#1 : BitVec 1).setWidth 32).toInt = 0 by decide]; simp

theorem pay13_at (a b x y) (K V X Y : ℕ → ℕ → ℝ) (ha : ∀ (u : Fin 256) (r : Fin 128), a (ix3 0 u r : S1x256x128.Idx) = ((K u.val r.val : ℝ) : EReal))
    (hb : ∀ (u : Fin 256) (r : Fin 128), b (ix3 0 u r : S1x256x128.Idx) = ((V u.val r.val : ℝ) : EReal))
    (hx : ∀ (u : Fin 256) (r : Fin 128), x (ix3 0 u r : S1x256x128.Idx) = ((X u.val r.val : ℝ) : EReal))
    (hy : ∀ (u : Fin 256) (r : Fin 128), y (ix3 0 u r : S1x256x128.Idx) = ((Y u.val r.val : ℝ) : EReal)) (r : Fin 256) (l : Fin 128) :
    k0_pay13 (F := Ideal) k0_pay2 a b x y (ix4 0 0 r l)
      = (((if r.val < 128 then kvOf K V X r.val l.val else kvOf K V Y (r.val - 128) l.val) : ℝ) : EReal) := by
  pointwise [k0_pay13]
  by_cases h : r.val < 128
  · simp only [h, ↓reduceDIte, ↓reduceIte, ha, hb, hx, hy, pay2_at, kvOf, EReal.coe_mul, coe_sum]
  · simp only [h, ↓reduceDIte, ↓reduceIte, ha, hb, hx, hy, pay2_at, kvOf, EReal.coe_mul, coe_sum]

theorem pay5_at (a b x y) (K V X Y : ℕ → ℕ → ℝ) (ha : ∀ (u : Fin 256) (r : Fin 128), a (ix3 0 u r : S1x256x128.Idx) = ((K u.val r.val : ℝ) : EReal))
    (hb : ∀ (u : Fin 256) (r : Fin 128), b (ix3 0 u r : S1x256x128.Idx) = ((V u.val r.val : ℝ) : EReal))
    (hx : ∀ (u : Fin 256) (r : Fin 128), x (ix3 0 u r : S1x256x128.Idx) = ((X u.val r.val : ℝ) : EReal))
    (hy : ∀ (u : Fin 256) (r : Fin 128), y (ix3 0 u r : S1x256x128.Idx) = ((Y u.val r.val : ℝ) : EReal)) (r : Fin 256) (l : Fin 128) :
    k0_pay5 (F := Ideal) (k0_pay14 a) (k0_pay15 b) (k0_pay16 a x) y (ix4 0 0 r l)
      = (((if r.val < 128 then kvOf K V X r.val l.val else kvOf K V Y (r.val - 128) l.val) : ℝ) : EReal) := by
  pointwise [k0_pay5, k0_pay14, k0_pay15, k0_pay16]
  by_cases h : r.val < 128
  · simp only [h, ↓reduceDIte, ↓reduceIte, ha, hb, hx, hy, pay2_at, kvOf, EReal.coe_mul, coe_sum]
  · simp only [h, ↓reduceDIte, ↓reduceIte, ha, hb, hx, hy, pay2_at, kvOf, EReal.coe_mul, coe_sum]

theorem sum768 {M : Type} [AddCommMonoid M] (f : Fin 768 → M) : ∑ x : Fin 768, f x
    = (∑ x : Fin 256, f ⟨x.val, by omega⟩) + (∑ x : Fin 256, f ⟨256 + x.val, by omega⟩)
      + (∑ x : Fin 128, f ⟨512 + x.val, by omega⟩) + (∑ x : Fin 128, f ⟨640 + x.val, by omega⟩) := by
  change ∑ x : Fin (256 + 256 + 128 + 128), f x = _
  rw [Fin.sum_univ_add, Fin.sum_univ_add, Fin.sum_univ_add]
  rfl

section Row

variable (q k v : Vec Ideal S1x256x128 .bf16) (s : FVec Ideal S128x128 .f32) (f g : Vec Ideal S1x256x128 .f32) (e : Vec Ideal S1x512x256 .f32) (sb : Vec Ideal S1x1x128x128 .bf16)
  (Q K V F G D S B : ℕ → ℕ → ℝ)
  (hq : ∀ (u : Fin 256) (r : Fin 128), q (ix3 0 u r) = ((Q u.val r.val : ℝ) : EReal))
  (hk : ∀ (u : Fin 256) (r : Fin 128), k (ix3 0 u r) = ((K u.val r.val : ℝ) : EReal))
  (hv : ∀ (u : Fin 256) (r : Fin 128), v (ix3 0 u r) = ((V u.val r.val : ℝ) : EReal))
  (hs : ∀ (u r : Fin 128), s (ix2 u r) = ((S u.val r.val : ℝ) : EReal))
  (hf : ∀ (u : Fin 256) (r : Fin 128), f (ix3 0 u r) = ((F u.val r.val : ℝ) : EReal))
  (hg : ∀ (u : Fin 256) (r : Fin 128), g (ix3 0 u r) = ((G u.val r.val : ℝ) : EReal))
  (he : ∀ (u : Fin 512) (r : Fin 256), e (ix3 0 u r) = ((D u.val r.val : ℝ) : EReal))
  (hb : ∀ (u r : Fin 128), sb (ix4 0 0 u r) = ((B u.val r.val : ℝ) : EReal))

include hq hk hv hs hf hg he hb

theorem pay20_at (r : Fin 256) (l : Fin 128) :
    k0_pay20 (F := Ideal) k0_pay1 (Scalar.ofBits .bf16 0x0000#16) s (k0_pay17 v) (k0_pay18 k0_pay1 (Scalar.ofBits .bf16 0x0000#16) q k e f g) (k0_pay19 k0_pay1 (Scalar.ofBits .bf16 0x0000#16) v) sb (ix2 r l)
      = ((rowOf Q K V F G D S B r.val l.val : ℝ) : EReal) := by
  pointwise [k0_pay20, k0_pay17, k0_pay18, k0_pay19, k0_pay1, lane, select_bit]
  rw [sum768]
  have h0 : ∀ x : Fin 256, (x.val < 256) = True := fun x => by simp
  have h1 : ∀ x : Fin 128, (x.val < 128) = True := fun x => by simp
  have h2 : ∀ x : Fin 256, (x.val < 512) = True := fun x => by simp; omega
  have h3 : ∀ x : Fin 256, (256 + x.val < 256) = False := fun x => by simp
  have h4 : ∀ x : Fin 256, (256 + x.val < 512) = True := fun x => by simp; omega
  have h5 : ∀ x : Fin 128, (512 + x.val < 256) = False := fun x => by simp; omega
  have h6 : ∀ x : Fin 128, (512 + x.val < 512) = False := fun x => by simp
  have h7 : ∀ x : Fin 128, (640 + x.val < 256) = False := fun x => by simp; omega
  have h8 : ∀ x : Fin 128, (640 + x.val < 512) = False := fun x => by simp; omega
  have h9 : ∀ x : Fin 128, (512 + x.val - 256 < 256) = False := fun x => by simp; omega
  have h10 : ∀ x : Fin 128, (640 + x.val - 256 < 256) = False := fun x => by simp; omega
  have h11 : ∀ x : Fin 128, (640 + x.val - 512 < 128) = False := fun x => by simp; omega
  have h12 : ∀ x : Fin 256, 256 + x.val - 256 = x.val := fun x => by omega
  have h13 : ∀ x : Fin 128, 512 + x.val - 512 = x.val := fun x => by omega
  have h14 : ∀ x : Fin 128, 640 + x.val - 512 - 128 = x.val := fun x => by omega
  have h15 : ∀ x : Fin 128, 512 + x.val - 256 - 256 = x.val := fun x => by omega
  have h16 : ∀ x : Fin 128, (640 + x.val - 256 - 256 < 128) = False := fun x => by simp; omega
  have h17 : ∀ x : Fin 128, 640 + x.val - 256 - 256 - 128 = x.val := fun x => by omega
  simp only [h0, h1, h2, h3, h4, h5, h6, h7, h8, h9, h10, h11, h12, h13, h14, h15, h16, h17, ↓reduceDIte, ↓reduceIte, hq, hk, hv, hs, hf, hg, he, hb,
    zero_mul, Finset.sum_const_zero, add_zero, zero_add, rowOf, EReal.coe_add, coe_sum, EReal.coe_mul, coe_ite]
  rfl

theorem pay26_at (r : Fin 256) (l : Fin 128) :
    k0_pay26 (F := Ideal) k0_pay1 (Scalar.ofBits .bf16 0x0000#16) s (k0_pay22 q) (k0_pay23 k) (k0_pay24 v) (k0_pay25 k0_pay1 (Scalar.ofBits .bf16 0x0000#16) q) (constant S512x256 .f32 0x00000000#32) e f g sb (ix2 r l)
      = ((rowOf Q K V F G D S B r.val l.val : ℝ) : EReal) := by
  pointwise [k0_pay26, k0_pay22, k0_pay23, k0_pay24, k0_pay25, k0_pay1, lane, select_bit]
  rw [sum768]
  have h0 : ∀ x : Fin 256, (x.val < 256) = True := fun x => by simp
  have h1 : ∀ x : Fin 128, (x.val < 128) = True := fun x => by simp
  have h2 : ∀ x : Fin 256, (x.val < 512) = True := fun x => by simp; omega
  have h3 : ∀ x : Fin 256, (256 + x.val < 256) = False := fun x => by simp
  have h4 : ∀ x : Fin 256, (256 + x.val < 512) = True := fun x => by simp; omega
  have h5 : ∀ x : Fin 128, (512 + x.val < 256) = False := fun x => by simp; omega
  have h6 : ∀ x : Fin 128, (512 + x.val < 512) = False := fun x => by simp
  have h7 : ∀ x : Fin 128, (640 + x.val < 256) = False := fun x => by simp; omega
  have h8 : ∀ x : Fin 128, (640 + x.val < 512) = False := fun x => by simp; omega
  have h9 : ∀ x : Fin 128, (512 + x.val - 256 < 256) = False := fun x => by simp; omega
  have h10 : ∀ x : Fin 128, (640 + x.val - 256 < 256) = False := fun x => by simp; omega
  have h11 : ∀ x : Fin 128, (640 + x.val - 512 < 128) = False := fun x => by simp; omega
  have h12 : ∀ x : Fin 256, 256 + x.val - 256 = x.val := fun x => by omega
  have h13 : ∀ x : Fin 128, 512 + x.val - 512 = x.val := fun x => by omega
  have h14 : ∀ x : Fin 128, 640 + x.val - 512 - 128 = x.val := fun x => by omega
  have h15 : ∀ x : Fin 128, 512 + x.val - 256 - 256 = x.val := fun x => by omega
  have h16 : ∀ x : Fin 128, (640 + x.val - 256 - 256 < 128) = False := fun x => by simp; omega
  have h17 : ∀ x : Fin 128, 640 + x.val - 256 - 256 - 128 = x.val := fun x => by omega
  simp only [h0, h1, h2, h3, h4, h5, h6, h7, h8, h9, h10, h11, h12, h13, h14, h15, h16, h17, ↓reduceDIte, ↓reduceIte, hq, hk, hv, hs, hf, hg, he, hb,
    zero_mul, Finset.sum_const_zero, add_zero, zero_add, rowOf, EReal.coe_add, coe_sum, EReal.coe_mul, coe_ite]
  rfl

end Row

/-- A row's entry less its group's mean, the mean a product with the averaging matrix. -/
def ocOf (R A : ℕ → ℕ → ℝ) (r l : ℕ) : ℝ := R r l - ∑ i : Fin 256, R r i.val * A i.val l

/-- The group's mean square, the same way. -/
def varOf (R A : ℕ → ℕ → ℝ) (r l : ℕ) : ℝ := ∑ i : Fin 256, ocOf R A r i.val * ocOf R A r i.val * A i.val l

/-- One entry of the output. -/
def outOf (R A : ℕ → ℕ → ℝ) (E : ℕ → ℕ → EReal) (g b : EReal) (r l : ℕ) : EReal :=
  (((ocOf R A r l : ℝ) : EReal) * Ideal.rsqrt (((varOf R A r l : ℝ) : EReal) + Ideal.ofBits FTy.f32 897988541#32) * g + b) * E r l
    * (Ideal.ofBits FTy.f32 1056964608#32 + Ideal.ofBits FTy.f32 1056964608#32 * Ideal.tanh (Ideal.ofBits FTy.f32 1056964608#32 * E r l))

theorem pay12_at (a : Vec Ideal S256x256 .bf16) (x : Vec Ideal S512x256 .f32) (g b : Vec Ideal S1x256 .f32) (e : Vec Ideal S1x512x256 .bf16) (R A : ℕ → ℕ → ℝ) (E : ℕ → ℕ → EReal)
    (ha : ∀ u j : Fin 256, a (ix2 u j) = ((A u.val j.val : ℝ) : EReal))
    (hx : ∀ (u : Fin 512) (j : Fin 256), x (ix2 u j) = ((R u.val j.val : ℝ) : EReal))
    (he : ∀ (u : Fin 512) (j : Fin 256), e (ix3 0 u j) = E u.val j.val) (r : Fin 512) (l : Fin 256) :
    k0_pay12 (F := Ideal) (k0_pay28 (k0_pay11 a) x g b e) (ix3 0 r l) = outOf R A E (g (ix2 0 l)) (b (ix2 0 l)) r.val l.val := by
  pointwise [k0_pay12, k0_pay28, k0_pay11]
  have hz : ∀ y : ℝ, ((y : ℝ) : EReal) - ((y : ℝ) : EReal) = 0 := fun y => by rw [← EReal.coe_sub, sub_self, EReal.coe_zero]
  simp only [ha, hx, he, hz, zero_mul, Finset.sum_const_zero, add_zero, ← EReal.coe_mul, ← coe_sum, ← EReal.coe_sub]
  rfl

theorem pay21_at (a b x) (r : Fin 128) (l : Fin 128) : k0_pay21 (F := Ideal) a b x (ix2 r l) = a (ix2 r l) * b (ix3 0 0 l) + x (ix4 0 0 r l) := by
  pointwise [k0_pay21]

theorem pay10_at (a b x) (r : Fin 128) (l : Fin 128) : k0_pay10 (F := Ideal) (k0_pay27 a b) x (ix2 r l) = a (ix2 r l) * b (ix3 0 0 l) + x (ix4 0 0 r l) := by
  pointwise [k0_pay10, k0_pay27]

theorem pay6_at (a) (r : Fin 128) (l : Fin 128) : k0_pay6 (F := Ideal) a (ix4 0 0 r l) = a (ix2 r l) := by
  pointwise [k0_pay6]

theorem pay8_at (a) (r : Fin 128) (l : Fin 128) : k0_pay8 (F := Ideal) a (ix4 0 0 r l) = a (ix2 r l) := by
  pointwise [k0_pay8]

theorem pay3_at (r : Fin 128) (l : Fin 128) : k0_pay3 (F := Ideal) (ix2 r l) = ((0 : ℝ) : EReal) := by
  pointwise [k0_pay3]
  exact EReal.coe_zero.symm

theorem pay4_at (r : Fin 128) (l : Fin 128) : k0_pay4 (F := Ideal) (ix2 r l) = ((0 : ℝ) : EReal) := by
  pointwise [k0_pay4]
  exact EReal.coe_zero.symm

theorem pay7_at (a b x) (r : Fin 128) (l : Fin 128) : k0_pay7 (F := Ideal) a b x (ix2 r l) = a (ix2 r l) * b (ix3 0 0 l) + x (ix4 0 0 r l) := by
  pointwise [k0_pay7]

theorem pay9_at (a b x) (r : Fin 128) (l : Fin 128) : k0_pay9 (F := Ideal) a b x (ix2 r l) = a (ix2 r l) * b (ix3 0 0 l) + x (ix4 0 0 r l) := by
  pointwise [k0_pay9]

/-! ## The loops' values -/

section Values

variable (q k v : ℕ → ℕ → ℝ) (dm qdf kdf qdb kdb : ℕ → ℕ → ℕ → ℝ) (cdf cdb : ℕ → ℕ → ℝ)

/-- Pair `p`'s lanes of chunk `n`. -/
def chunk (a : ℕ → ℕ → ℝ) (n p : ℕ) : ℕ → ℕ → ℝ := fun u j => a (256 * n + u) (128 * p + j)

/-- Chunk `n`'s product with the forward weights in the first half of the rows, with the backward ones in the second. -/
def kvS (n p r l : ℕ) : ℝ :=
  if r < 128 then kvOf (chunk k n p) (chunk v n p) (kdf p) r l else kvOf (chunk k n p) (chunk v n p) (kdb p) (r - 128) l

/-- The backward state after `n` chunks from the end. -/
def stB (p : ℕ) : ℕ → ℕ → ℕ → ℝ
  | 0, _, _ => 0
  | n + 1, r, l => stB p n r l * cdb p l + kvS k v kdf kdb (15 - n) p (128 + r) l

/-- The forward state after `n` chunks. -/
def stF (p : ℕ) : ℕ → ℕ → ℕ → ℝ
  | 0, _, _ => 0
  | n + 1, r, l => stF p n r l * cdf p l + kvS k v kdf kdb n p r l

/-- One entry of the retention rows. -/
def rowS (s j : ℕ) : ℝ :=
  rowOf (chunk q (s / 256) (j / 128)) (chunk k (s / 256) (j / 128)) (chunk v (s / 256) (j / 128)) (qdf (j / 128)) (qdb (j / 128)) (dm (j / 128))
    (stF k v kdf kdb cdf (j / 128) (s / 256)) (stB k v kdf kdb cdb (j / 128) (15 - s / 256)) (s % 256) (j % 128)

end Values

end Rt

end
-- ==== Proof.RetMath.lean ====
/- Retention in chunks against retention over the whole row, in the reals: a state carried forward, a state carried
   backward and the chunk itself make up the sum over all positions, each term decayed by its distance. -/
module

public import proofs.«01_k».proof.Proof.RetPay

@[expose] public section

noncomputable section

namespace Rt

open Finset

/-- The decay from position `w` to position `s`, forward rate `a`, backward rate `b`. -/
def dec (a b : ℝ) (s w : ℕ) : ℝ := if w ≤ s then Real.exp (((s : ℝ) - w) * a) else Real.exp (((w : ℝ) - s) * b)

section

variable (q k v : ℕ → ℕ → ℝ) (lf lb : ℕ → ℝ)

/-- The tables over the rates of the block's four heads. -/
def dmT (p r w : ℕ) : ℝ := dec (lf (2 * p + r / 256)) (lb (2 * p + r / 256)) (r % 256) w
def qdfT (p u j : ℕ) : ℝ := Real.exp (((u : ℝ) + 1) * lf (2 * p + j / 64))
def kdfT (p u j : ℕ) : ℝ := Real.exp ((255 - (u : ℝ)) * lf (2 * p + j / 64))
def qdbT (p u j : ℕ) : ℝ := Real.exp ((256 - (u : ℝ)) * lb (2 * p + j / 64))
def kdbT (p u j : ℕ) : ℝ := Real.exp ((u : ℝ) * lb (2 * p + j / 64))
def cT (l : ℕ → ℝ) (p j : ℕ) : ℝ := Real.exp (256 * l (2 * p + j / 64))

/-- Retention's sum over the whole row. -/
def whole (s j : ℕ) : ℝ :=
  ∑ w ∈ range 4096, (∑ i : Fin 64, q s (j / 64 * 64 + i.val) * k w (j / 64 * 64 + i.val)) * dec (lf (j / 64)) (lb (j / 64)) s w * v w j

theorem same_half {r l : ℕ} (hr : r < 128) (hl : l < 128) (h : r < 64 ↔ l < 64) : r / 64 = l / 64 := by omega

/-- The forward state in closed form. -/
theorem stF_eq (p n r l : ℕ) (hr : r < 128) (hl : l < 128) :
    stF k v (kdfT lf) (kdbT lb) (cT lf) p n r l
      = same r l * ∑ w ∈ range (256 * n), Real.exp ((256 * (n : ℝ) - 1 - w) * lf (2 * p + l / 64)) * k w (128 * p + r) * v w (128 * p + l) := by
  induction n with
  | zero => simp [stF]
  | succ n ih =>
    rw [stF, ih, kvS, if_pos hr, kvOf, Fin.sum_univ_eq_sum_range (fun u => chunk k n p u r * kdfT lf p u r * chunk v n p u l) 256,
      show 256 * (n + 1) = 256 * n + 256 by ring, sum_range_add]
    unfold same
    by_cases h : (r < 64 ↔ l < 64)
    · have hrl := same_half hr hl h
      rw [if_pos h, one_mul, one_mul, mul_one, sum_mul]
      congr 1
      · refine sum_congr rfl fun w _ => ?_
        rw [cT, show (256 * (((n + 1 : ℕ) : ℝ)) - 1 - (w : ℝ)) * lf (2 * p + l / 64) = (256 * (n : ℝ) - 1 - w) * lf (2 * p + l / 64) + 256 * lf (2 * p + l / 64) by push_cast; ring, Real.exp_add]
        ring
      · refine sum_congr rfl fun u _ => ?_
        unfold chunk kdfT
        rw [hrl, mul_comm (k _ _)]
        congr 3
        push_cast
        ring
    · rw [if_neg h]; ring

/-- The backward state in closed form. -/
theorem stB_eq (p n r l : ℕ) (hn : n ≤ 16) (hr : r < 128) (hl : l < 128) :
    stB k v (kdfT lf) (kdbT lb) (cT lb) p n r l
      = same r l * ∑ x ∈ range (256 * n), Real.exp ((x : ℝ) * lb (2 * p + l / 64)) * k (256 * (16 - n) + x) (128 * p + r) * v (256 * (16 - n) + x) (128 * p + l) := by
  induction n with
  | zero => simp [stB]
  | succ n ih =>
    rw [stB, ih (by omega), kvS, if_neg (by omega), kvOf, Fin.sum_univ_eq_sum_range (fun u => chunk k (15 - n) p u (128 + r - 128) * kdbT lb p u (128 + r - 128) * chunk v (15 - n) p u l) 256,
      show 256 * (n + 1) = 256 + 256 * n by ring, sum_range_add, Nat.add_sub_cancel_left, show 16 - (n + 1) = 15 - n by omega]
    unfold same
    by_cases h : (r < 64 ↔ l < 64)
    · have hrl := same_half hr hl h
      rw [if_pos h, one_mul, one_mul, mul_one, sum_mul, add_comm]
      congr 1
      · refine sum_congr rfl fun u _ => ?_
        unfold chunk kdbT
        rw [hrl, mul_comm (k _ _)]
      · refine sum_congr rfl fun w _ => ?_
        rw [show 256 * (15 - n) + (256 + w) = 256 * (16 - n) + w by omega, cT,
          show (((256 + w : ℕ) : ℝ)) * lb (2 * p + l / 64) = (w : ℝ) * lb (2 * p + l / 64) + 256 * lb (2 * p + l / 64) by push_cast; ring, Real.exp_add]
        ring
    · rw [if_neg h]; ring

theorem swap (Q : Fin 64 → ℝ) (c : ℝ) (N : ℕ) (e : ℕ → ℝ) (K : ℕ → Fin 64 → ℝ) (V : ℕ → ℝ) :
    ∑ i, Q i * c * ∑ w ∈ range N, e w * K w i * V w = ∑ w ∈ range N, (∑ i, Q i * K w i) * (c * e w) * V w := by
  simp_rw [mul_sum, sum_mul]
  rw [sum_comm]
  refine sum_congr rfl fun w _ => sum_congr rfl fun i _ => ?_
  ring

theorem halves (f : ℕ → ℝ) : ∑ j : Fin 128, f j.val = ∑ j : Fin 64, f j.val + ∑ j : Fin 64, f (64 + j.val) := by
  rw [show (∑ j : Fin 128, f j.val) = ∑ j : Fin (64 + 64), f j.val from rfl, Fin.sum_univ_add]
  rfl

/-- The three parts over one head's 64 lanes `o + i` add up to the whole sum. -/
theorem parts (o j n u : ℕ) (hn : n < 16) (hu : u < 256) (a b : ℝ) :
    (∑ w : Fin 256, (∑ i : Fin 64, q (256 * n + u) (o + i.val) * k (256 * n + w.val) (o + i.val)) * dec a b u w.val * v (256 * n + w.val) j)
    + (∑ i : Fin 64, q (256 * n + u) (o + i.val) * Real.exp (((u : ℝ) + 1) * a) * ∑ w ∈ range (256 * n), Real.exp ((256 * (n : ℝ) - 1 - w) * a) * k w (o + i.val) * v w j)
    + (∑ i : Fin 64, q (256 * n + u) (o + i.val) * Real.exp ((256 - (u : ℝ)) * b) * ∑ x ∈ range (256 * (15 - n)), Real.exp ((x : ℝ) * b) * k (256 * (n + 1) + x) (o + i.val) * v (256 * (n + 1) + x) j)
    = ∑ w ∈ range 4096, (∑ i : Fin 64, q (256 * n + u) (o + i.val) * k w (o + i.val)) * dec a b (256 * n + u) w * v w j := by
  rw [swap, swap (fun i => q (256 * n + u) (o + i.val)) _ _ (fun x => Real.exp ((x : ℝ) * b)) (fun x i => k (256 * (n + 1) + x) (o + i.val)) (fun x => v (256 * (n + 1) + x) j),
    Fin.sum_univ_eq_sum_range (fun w => (∑ i : Fin 64, q (256 * n + u) (o + i.val) * k (256 * n + w) (o + i.val)) * dec a b u w * v (256 * n + w) j) 256,
    show 4096 = 256 * n + 256 + 256 * (15 - n) by omega, sum_range_add, sum_range_add, add_comm (∑ w ∈ range 256, _)]
  congr 1
  · congr 1
    · refine sum_congr rfl fun w hw => ?_
      have hw' := mem_range.mp hw
      rw [dec, if_pos (by omega), ← Real.exp_add]
      congr 3
      push_cast; ring
    · refine sum_congr rfl fun w hw => ?_
      congr 2
      unfold dec
      by_cases h : w ≤ u
      · rw [if_pos h, if_pos (by omega)]
        congr 2
        push_cast; ring
      · rw [if_neg h, if_neg (by omega)]
        congr 2
        push_cast; ring
  · refine sum_congr rfl fun w hw => ?_
    rw [show 256 * n + 256 + w = 256 * (n + 1) + w by ring, dec, if_neg (by omega), ← Real.exp_add]
    congr 3
    push_cast; ring

/-- The body's row is the whole sum. -/
theorem rowS_eq (s j : ℕ) (hs : s < 4096) (hj : j < 256) :
    rowS q k v (dmT lf lb) (qdfT lf) (kdfT lf) (qdbT lb) (kdbT lb) (cT lf) (cT lb) s j = whole q k v lf lb s j := by
  unfold rowS rowOf whole
  rw [halves (fun i => chunk q (s / 256) (j / 128) (s % 256) i * qdfT lf (j / 128) (s % 256) i * stF k v (kdfT lf) (kdbT lb) (cT lf) (j / 128) (s / 256) i (j % 128)),
    halves (fun i => chunk q (s / 256) (j / 128) (s % 256) i * qdbT lb (j / 128) (s % 256) i * stB k v (kdfT lf) (kdbT lb) (cT lb) (j / 128) (15 - s / 256) i (j % 128))]
  have hl : j % 128 < 128 := by omega
  have hn : s / 256 < 16 := by omega
  have e1 : 256 * (s / 256) + s % 256 = s := by omega
  have e2 : 128 * (j / 128) + j % 128 = j := by omega
  have e3 : 16 - (15 - s / 256) = s / 256 + 1 := by omega
  have hF : ∀ i : Fin 64, stF k v (kdfT lf) (kdbT lb) (cT lf) (j / 128) (s / 256) i.val (j % 128) = _ := fun i => stF_eq k v lf lb _ _ _ _ (by omega) hl
  have hF' : ∀ i : Fin 64, stF k v (kdfT lf) (kdbT lb) (cT lf) (j / 128) (s / 256) (64 + i.val) (j % 128) = _ := fun i => stF_eq k v lf lb _ _ _ _ (by omega) hl
  have hB : ∀ i : Fin 64, stB k v (kdfT lf) (kdbT lb) (cT lb) (j / 128) (15 - s / 256) i.val (j % 128) = _ := fun i => stB_eq k v lf lb _ _ _ _ (by omega) (by omega) hl
  have hB' : ∀ i : Fin 64, stB k v (kdfT lf) (kdbT lb) (cT lb) (j / 128) (15 - s / 256) (64 + i.val) (j % 128) = _ := fun i => stB_eq k v lf lb _ _ _ _ (by omega) (by omega) hl
  simp only [hF, hF', hB, hB']
  have P := parts q k v (j / 64 * 64) j (s / 256) (s % 256) hn (by omega) (lf (j / 64)) (lb (j / 64))
  rw [e1] at P
  rw [← P]
  have hi : ∀ i : Fin 64, i.val / 64 = 0 := fun i => by omega
  have hi' : ∀ i : Fin 64, (64 + i.val) / 64 = 1 := fun i => by omega
  by_cases h : j % 128 < 64
  · have hs1 : ∀ i : Fin 64, same i.val (j % 128) = 1 := fun i => by unfold same; rw [if_pos]; omega
    have hs2 : ∀ i : Fin 64, same (64 + i.val) (j % 128) = 0 := fun i => by unfold same; rw [if_neg]; omega
    have e4 : j / 64 = 2 * (j / 128) := by omega
    have e5 : j % 128 / 64 = 0 := by omega
    have e6 : s % 256 / 256 = 0 := by omega
    have e7 : s % 256 % 256 = s % 256 := by omega
    have e8 : 128 * (j / 128) = 2 * (j / 128) * 64 := by omega
    simp only [hs1, hs2, if_pos h, e5, e3, e2, chunk, qdfT, qdbT, dmT, e6, e7, hi, hi', mul_zero, zero_mul, one_mul, sum_const_zero, add_zero, e1, e4]
    simp only [e2, e8, e1]
  · have hs1 : ∀ i : Fin 64, same i.val (j % 128) = 0 := fun i => by unfold same; rw [if_neg]; omega
    have hs2 : ∀ i : Fin 64, same (64 + i.val) (j % 128) = 1 := fun i => by unfold same; rw [if_pos]; omega
    have e4 : j / 64 = 2 * (j / 128) + 1 := by omega
    have e5 : j % 128 / 64 = 1 := by omega
    have e6 : (256 + s % 256) / 256 = 1 := by omega
    have e7 : (256 + s % 256) % 256 = s % 256 := by omega
    have e8 : ∀ i : Fin 64, 128 * (j / 128) + (64 + i.val) = (2 * (j / 128) + 1) * 64 + i.val := fun i => by omega
    simp only [hs1, hs2, if_neg h, e5, e3, e2, chunk, qdfT, qdbT, dmT, e6, e7, hi, hi', mul_zero, zero_mul, one_mul, sum_const_zero, add_zero, zero_add, e1, e4, e8]

end

end Rt

end
-- ==== Proof.RetSpec.lean ====
/- What the retention call computes, head by head: the decays, the row's sum, the norm over a head's lanes and the gate. -/
module

public import proofs.«01_k».proof.Proof.RetMath

@[expose] public section

noncomputable section

open Idealize.ShloMosaic Idealize.ShloMosaic.TcCoe

namespace Rt

open Finset

/-- The logarithm of head h's decay, forwards. -/
def LF (h : ℕ) : ℝ := Real.log (1 - Real.rpow 2 (-5 - h))
/-- The logarithm of head h's decay, backwards. -/
def LB (h : ℕ) : ℝ := Real.log (1 - Real.rpow 2 (-(11 / 2) - h))

theorem ofBits_two : Ideal.ofBits FTy.f32 1073741824#32 = ((2 : ℝ) : EReal) := by
  simp [Ideal.ofBits, Ideal.ieee, -EReal.coe_mul]; norm_num
theorem ofBits_m5 : Ideal.ofBits FTy.f32 3231711232#32 = ((-5 : ℝ) : EReal) := by
  simp [Ideal.ofBits, Ideal.ieee, -EReal.coe_mul, -EReal.coe_neg]; norm_num
theorem ofBits_m55 : Ideal.ofBits FTy.f32 3232759808#32 = ((-(11 / 2) : ℝ) : EReal) := by
  simp [Ideal.ofBits, Ideal.ieee, -EReal.coe_mul, -EReal.coe_neg]; norm_num
theorem ofBits_255 : Ideal.ofBits FTy.f32 1132396544#32 = ((255 : ℝ) : EReal) := by
  simp [Ideal.ofBits, Ideal.ieee, -EReal.coe_mul]; norm_num
theorem ofBits_256 : Ideal.ofBits FTy.f32 1132462080#32 = ((256 : ℝ) : EReal) := by
  simp [Ideal.ofBits, Ideal.ieee, -EReal.coe_mul]; norm_num
theorem ofBits_64 : Ideal.ofBits FTy.f32 1115684864#32 = ((64 : ℝ) : EReal) := by
  simp [Ideal.ofBits, Ideal.ieee, -EReal.coe_mul]; norm_num

/-- A small whole number made a floating one. -/
theorem sit (n : ℕ) (h : n < 2 ^ 31) :
    (FloatOps.sitofp (F := Ideal) FTy.f32 (BitVec.ofNat 32 n)) = ((n : ℝ) : EReal) := by
  change ((((BitVec.ofNat 32 n).toInt : ℤ) : ℝ) : EReal) = _
  have : (BitVec.ofNat 32 n).toInt = (n : ℤ) := by
    rw [BitVec.toInt_eq_toNat_of_lt] <;> rw [BitVec.toNat_ofNat] <;> omega
  rw [this]; norm_cast

theorem log_decay (c : ℝ) (hc : c < 0) (h : ℕ) :
    Ideal.log (1 - Ideal.pow ((2 : ℝ) : EReal) ((c : EReal) - ((h : ℝ) : EReal)))
      = ((Real.log (1 - Real.rpow 2 (c - h)) : ℝ) : EReal) := by
  have hh : (0 : ℝ) ≤ h := Nat.cast_nonneg h
  have hlt : Real.rpow 2 (c - h) < 1 :=
    Real.rpow_lt_one_of_one_lt_of_neg (by norm_num) (by linarith)
  rw [← EReal.coe_sub, Ideal.pow_coe_coe, ← EReal.coe_one, ← EReal.coe_sub, Ideal.log_coe,
    if_neg (by have := hlt; simp only [not_le]; linarith)]

theorem log_f (h : ℕ) (hh : h < 2 ^ 31) :
    Ideal.log (1 - Ideal.pow (Ideal.ofBits FTy.f32 1073741824#32) (Ideal.ofBits FTy.f32 3231711232#32
      - FloatOps.sitofp (F := Ideal) FTy.f32 (BitVec.ofNat 32 h))) = ((LF h : ℝ) : EReal) := by
  rw [ofBits_two, ofBits_m5, sit h hh, log_decay _ (by norm_num)]; rfl
theorem log_b (h : ℕ) (hh : h < 2 ^ 31) :
    Ideal.log (1 - Ideal.pow (Ideal.ofBits FTy.f32 1073741824#32) (Ideal.ofBits FTy.f32 3232759808#32
      - FloatOps.sitofp (F := Ideal) FTy.f32 (BitVec.ofNat 32 h))) = ((LB h : ℝ) : EReal) := by
  rw [ofBits_two, ofBits_m55, sit h hh, log_decay _ (by norm_num)]; rfl

theorem select_not (P : Prop) [Decidable P] {α : Type} (a b : α) :
    Scalar.select (~~~ BitVec.ofBool (decide P)) a b = if P then b else a := by
  by_cases h : P <;> simp [h, Scalar.select]

theorem sub_nonneg_coe (a b : ℕ) : (0 ≤ ((a : ℝ) : EReal) - ((b : ℝ) : EReal)) ↔ b ≤ a := by
  rw [← EReal.coe_sub, EReal.coe_nonneg, sub_nonneg, Nat.cast_le]

/-- The projected row's array as real numbers, zero outside it. -/
def xr {N : ℕ} (X : FVec Ideal ⟨3, ![N, 4096, 2048]⟩ .bf16) (b : Fin N) (s k : ℕ) : ℝ :=
  if h : s < 4096 ∧ k < 2048 then EReal.toReal (X (ix3 b ⟨s, h.1⟩ ⟨k, h.2⟩)) else 0

/-- The projected row's array, zero outside it. -/
def xe {N : ℕ} (X : FVec Ideal ⟨3, ![N, 4096, 2048]⟩ .bf16) (b : Fin N) (s k : ℕ) : EReal :=
  if h : s < 4096 ∧ k < 2048 then X (ix3 b ⟨s, h.1⟩ ⟨k, h.2⟩) else 0

theorem xe_at {N : ℕ} (X : FVec Ideal ⟨3, ![N, 4096, 2048]⟩ .bf16) (b : Fin N) (s : Fin 4096) (k : ℕ) (hk : k < 2048) :
    X (ix3 b s ⟨k, hk⟩) = xe X b s.val k := by
  unfold xe
  rw [dif_pos ⟨s.isLt, hk⟩]

/-- Every query, key and value, the first 1536 of the row, is a finite number. -/
def Fin' {N : ℕ} (X : FVec Ideal ⟨3, ![N, 4096, 2048]⟩ .bf16) : Prop := ∀ b s (k : Fin 2048), k.val < 1536 → ∃ r : ℝ, X (ix3 b s k) = (r : EReal)

theorem xr_at {N : ℕ} (X : FVec Ideal ⟨3, ![N, 4096, 2048]⟩ .bf16) (hX : Fin' X) (b : Fin N) (s : Fin 4096) (k : ℕ) (hk : k < 2048) (hk' : k < 1536) :
    X (ix3 b s ⟨k, hk⟩) = ((xr X b s.val k : ℝ) : EReal) := by
  obtain ⟨r, hr⟩ := hX b s ⟨k, hk⟩ hk'
  unfold xr
  rw [dif_pos ⟨s.isLt, hk⟩, hr, EReal.toReal_coe]

section

variable {N : ℕ} (X : FVec Ideal ⟨3, ![N, 4096, 2048]⟩ .bf16) (b : Fin N)

/-- Retention of column k of the 512, in head k / 64. -/
def glob (s k : ℕ) : ℝ :=
  ∑ w ∈ range 4096, (∑ i : Fin 64, xr X b s (k / 64 * 64 + i.val) * xr X b w (512 + (k / 64 * 64 + i.val)))
    * dec (LF (k / 64)) (LB (k / 64)) s w * xr X b w (1024 + k)

/-- Less its head's mean. -/
def ocG (s k : ℕ) : ℝ := glob X b s k - (∑ i : Fin 64, glob X b s (k / 64 * 64 + i.val)) / 64
/-- The head's variance. -/
def varG (s k : ℕ) : ℝ := (∑ i : Fin 64, ocG X b s (k / 64 * 64 + i.val) * ocG X b s (k / 64 * 64 + i.val)) / 64

/-- The gate: x times its logistic, by the hyperbolic tangent. -/
def gate (x : EReal) : EReal :=
  x * (Ideal.ofBits FTy.f32 1056964608#32 + Ideal.ofBits FTy.f32 1056964608#32 * Ideal.tanh (Ideal.ofBits FTy.f32 1056964608#32 * x))

/-- The result at position s, column k, with the norm's scale and shift there. -/
def result (g h : EReal) (s k : ℕ) : EReal :=
  (↑(ocG X b s k) * Ideal.rsqrt (↑(varG X b s k) + Ideal.ofBits FTy.f32 897988541#32) * g + h) * gate (xe X b s (1536 + k))

/-- A block's retention is the whole's at the block's columns. -/
theorem whole_glob (B s j : ℕ) :
    whole (fun s j => xr X b s (B * 256 + j)) (fun s j => xr X b s (512 + (B * 256 + j))) (fun s j => xr X b s (1024 + (B * 256 + j)))
      (fun h => LF (4 * B + h)) (fun h => LB (4 * B + h)) s j = glob X b s (B * 256 + j) := by
  have e : (B * 256 + j) / 64 = 4 * B + j / 64 := by omega
  have e' : ∀ i, (4 * B + j / 64) * 64 + i = B * 256 + (j / 64 * 64 + i) := by intro i; omega
  unfold whole glob
  rw [e]
  simp only [e']

/-- The averaging matrix's sum is the mean over a head. -/
theorem sum_head (f : ℕ → ℝ) (j : ℕ) (hj : j < 256) :
    ∑ i : Fin 256, f i.val * (if i.val / 64 = j / 64 then 1 / 64 else 0 : ℝ) = (∑ i : Fin 64, f (j / 64 * 64 + i.val)) / 64 := by
  rw [Fin.sum_univ_eq_sum_range (fun i => f i * (if i / 64 = j / 64 then 1 / 64 else 0 : ℝ)) 256,
    Fin.sum_univ_eq_sum_range (fun i => f (j / 64 * 64 + i)) 64, Finset.sum_div]
  simp only [mul_ite, mul_zero]
  rw [← Finset.sum_filter]
  refine Finset.sum_nbij' (fun i => i % 64) (fun i => j / 64 * 64 + i) ?_ ?_ ?_ ?_ ?_
  · intro i hi; simp only [mem_filter, mem_range] at hi ⊢; omega
  · intro i hi; simp only [mem_filter, mem_range] at hi ⊢; omega
  · intro i hi; simp only [mem_filter, mem_range] at hi ⊢; omega
  · intro i hi; simp only [mem_filter, mem_range] at hi ⊢; omega
  · intro i hi; simp only [mem_filter, mem_range] at hi ⊢
    rw [show j / 64 * 64 + i % 64 = i by omega]; ring

/-- What the block's result is, of the whole. -/
theorem outOf_result (R : ℕ → ℕ → ℝ) (E : ℕ → ℕ → EReal) (A : ℕ → ℕ → ℝ) (B : ℕ) (g h : EReal) (s j : ℕ) (hs : s < 4096) (hj : j < 256)
    (hR : ∀ j, j < 256 → R s j = glob X b s (B * 256 + j))
    (hA : ∀ i j, A i j = if i / 64 = j / 64 then 1 / 64 else 0)
    (hE : E s j = xe X b s (1536 + (B * 256 + j))) :
    outOf R A E g h s j = result X b g h s (B * 256 + j) := by
  have hc : ∀ j, j < 256 → ocOf R A s j = ocG X b s (B * 256 + j) := by
    intro j hj
    unfold ocOf ocG
    simp only [hA]
    rw [sum_head (R s) j hj, hR j hj, show (B * 256 + j) / 64 * 64 = B * 256 + j / 64 * 64 by omega]
    refine congrArg (fun z => glob X b s (B * 256 + j) - z / 64) (Finset.sum_congr rfl fun i _ => ?_)
    rw [hR _ (by omega), add_assoc]
  have hv : varOf R A s j = varG X b s (B * 256 + j) := by
    unfold varOf varG
    simp only [hA]
    rw [sum_head (fun i => ocOf R A s i * ocOf R A s i) j hj, show (B * 256 + j) / 64 * 64 = B * 256 + j / 64 * 64 by omega]
    refine congrArg (fun z => z / 64) (Finset.sum_congr rfl fun i _ => ?_)
    rw [hc _ (by omega), add_assoc]
  unfold outOf result gate
  rw [hc j hj, hv, hE, mul_assoc (_ + h)]

end

theorem ofBits_half : Ideal.ofBits FTy.f32 1056964608#32 = ((1 / 2 : ℝ) : EReal) := by
  simp [Ideal.ofBits, Ideal.ieee, -EReal.coe_mul]; norm_num

/-- The gate by the exponential, of a real number. -/
theorem gate_coe (x : ℝ) : (x : EReal) * Ideal.div 1 (1 + Ideal.exp (-(x : EReal))) = gate x := by
  have h : (1 : EReal) + Ideal.exp (-(x : EReal)) = ((1 + Real.exp (-x) : ℝ) : EReal) := by
    rw [← EReal.coe_neg, Ideal.exp_coe, EReal.coe_add, EReal.coe_one]
  have hp : (0 : ℝ) < 1 + Real.exp (-x) := by positivity
  unfold gate
  rw [h, Ideal.div_coe hp.ne', one_mul, ofBits_half, ← EReal.coe_mul (1 / 2) x, Ideal.tanh_coe, ← EReal.coe_mul (1 / 2) (Real.tanh _), ← EReal.coe_add]
  congr 2
  rw [Real.tanh_eq_sinh_div_cosh, Real.sinh_eq, Real.cosh_eq]
  have e : Real.exp (-x) = Real.exp (-(1 / 2 * x)) * Real.exp (-(1 / 2 * x)) := by rw [← Real.exp_add]; congr 1; ring
  have e1 : Real.exp (1 / 2 * x) * Real.exp (-(1 / 2 * x)) = 1 := by rw [← Real.exp_add]; simp
  have p1 := Real.exp_pos (1 / 2 * x)
  have p2 := Real.exp_pos (-(1 / 2 * x))
  rw [e]
  generalize Real.exp (1 / 2 * x) = u at *
  generalize Real.exp (-(1 / 2 * x)) = v at *
  have : u = 1 / v := by field_simp; linarith
  subst this
  field_simp
  ring

/-- One divided by one. -/
theorem div_one_one : Ideal.div 1 1 = 1 := by
  have h := Ideal.div_coe (y := 1) one_ne_zero 1
  simpa using h

/-- The gate by the exponential: at an infinity both are that infinity times one, or times zero. -/
theorem gate_eq (x : EReal) : x * Ideal.div 1 (1 + Ideal.exp (-x)) = gate x := by
  induction x with
  | coe x => exact gate_coe x
  | top =>
    have e : Ideal.exp (-⊤) = 0 := by rw [EReal.neg_top]; rfl
    have t : Ideal.tanh ⊤ = 1 := rfl
    have p : ((1 / 2 : ℝ) : EReal) * ⊤ = ⊤ := EReal.coe_mul_top_of_pos (by norm_num)
    unfold gate
    rw [e, add_zero, div_one_one, ofBits_half, p, t, mul_one, mul_one, ← EReal.coe_add, show (1 / 2 + 1 / 2 : ℝ) = 1 by norm_num, EReal.coe_one, mul_one]
  | bot =>
    have e : Ideal.exp (-⊥) = ⊤ := by rw [EReal.neg_bot]; rfl
    have t : Ideal.tanh ⊥ = -1 := rfl
    have p : ((1 / 2 : ℝ) : EReal) * ⊥ = ⊥ := EReal.coe_mul_bot_of_pos (by norm_num)
    have d : Ideal.div 1 (1 + ⊤) = 0 := by
      rw [EReal.add_top_of_ne_bot (by decide)]
      simp [Ideal.div]
    unfold gate
    rw [e, d, ofBits_half, p, t, ← EReal.coe_one, ← EReal.coe_neg, ← EReal.coe_mul, ← EReal.coe_add,
      show (1 / 2 + 1 / 2 * -1 : ℝ) = 0 by norm_num, EReal.coe_zero]

/-- The head of a lane, as the words compute it. -/
theorem head_word : ∀ r : Fin 256,
    Scalar.select
      (IntOp.andi
        (IntOp.cmpi CmpIPredicate.ne
          (if BitVec.ofNat 32 r.val = 0 then (0 : BitVec 32) else if (BitVec.ofNat 32 r.val).msb = true then -1 else 1)
          (if 64#32 = 0 then (0 : BitVec 32) else if (64#32).msb = true then -1 else 1))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32) = BitVec.ofNat 32 (r.val / 64) := by
  decide +kernel

theorem head_eq : ∀ a b : Fin 4, IntOp.cmpi CmpIPredicate.eq (BitVec.ofNat 32 a.val) (BitVec.ofNat 32 b.val)
    = if a.val = b.val then 1#1 else 0#1 := by
  decide +kernel

/-- The two sides' sums are one over the whole row. -/
theorem glob_sum {N : ℕ} (Y : FVec Ideal ⟨3, ![N, 4096, 2048]⟩ .bf16) (b : Fin N) (s k col : ℕ) (h : k / 64 = col / 64) :
    (∑ w : Fin 4096, ((∑ i : Fin 64, xr Y b s (k / 64 * 64 + i.val) * xr Y b w.val (512 + (k / 64 * 64 + i.val)))
          * if w.val ≤ s then Real.exp (((s : ℝ) - w.val) * LF (k / 64)) else 0) * xr Y b w.val (1024 + col))
      + ∑ w : Fin 4096, ((∑ i : Fin 64, xr Y b s (k / 64 * 64 + i.val) * xr Y b w.val (512 + (k / 64 * 64 + i.val)))
          * if w.val ≤ s then 0 else Real.exp (((w.val : ℝ) - s) * LB (k / 64))) * xr Y b w.val (1024 + col)
      = glob Y b s col := by
  unfold glob
  rw [← h, ← Finset.sum_add_distrib,
    ← Fin.sum_univ_eq_sum_range (fun w => (∑ i : Fin 64, xr Y b s (k / 64 * 64 + i.val) * xr Y b w (512 + (k / 64 * 64 + i.val)))
      * dec (LF (k / 64)) (LB (k / 64)) s w * xr Y b w (1024 + col)) 4096]
  refine Finset.sum_congr rfl fun w _ => ?_
  unfold dec
  split <;> ring

theorem head_of (k : Fin 512) (i : Fin 64) : k.val / 64 = (k.val / 64 * 64 + i.val) / 64 := by omega

theorem div64 (x : ℝ) : Ideal.div (x : EReal) (Ideal.ofBits FTy.f32 1115684864#32) = ((x / 64 : ℝ) : EReal) := by
  rw [ofBits_64, Ideal.div_coe (by norm_num), ← EReal.coe_mul, mul_one_div]

/-- An extended real that is not infinite is a real. -/
theorem real_of_abs (x : EReal) (h : x ≠ ⊤) (h' : x ≠ ⊥) : ∃ r : ℝ, x = (r : EReal) :=
  ⟨x.toReal, (EReal.coe_toReal h h').symm⟩

theorem of_bit (P : Prop) [Decidable P] (h : BitVec.ofBool (decide P) = 1#1) : P := by
  by_contra hn
  simp [hn] at h

end Rt

end
-- ==== Proof.InpSpec.lean ====
/- The input projection's mathematics on rows, over the extended reals: what both the kernel and the reference compute, read at an index. -/
module

public import proofs.«01_k».proof.Proof.FfnSpec

@[expose] public section

noncomputable section

namespace Inp

open Idealize.ShloMosaic

/-- The rotary embedding's angle at position `p`, frequency `h`: `p · 10000 ^ (-2h / 64)`. -/
def angle (p h : ℕ) : EReal :=
  FloatOps.sitofp (F := Ideal) .f32 (BitVec.ofNat 32 p) *
    Ideal.pow (Ideal.ofBits .f32 0x461C4000#32)
      (Ideal.div (-(Ideal.ofBits .f32 0x40000000#32 * FloatOps.sitofp (F := Ideal) .f32 (BitVec.ofNat 32 h))) (Ideal.ofBits .f32 0x42800000#32))

/-- The rotary embedding at position `p`, lane `l` of a head: `a` the head's value there, `u` the one 32 lanes up, `d` the one 32 lanes down. -/
def rotary (p l : ℕ) (a u d : EReal) : EReal :=
  if l < 32 then a * Ideal.cos (angle p l) - u * Ideal.sin (angle p l)
  else a * Ideal.cos (angle p (l - 32)) + d * Ideal.sin (angle p (l - 32))

/-- The input projection's arguments, the batch of any size `B`: the residual and the weights. -/
structure Args (B : ℕ) where
  X : FVec Ideal ⟨3, ![B, 4096, 1024]⟩ .f32
  G : FVec Ideal ⟨1, ![1024]⟩ .f32
  W : FVec Ideal ⟨2, ![1024, 3584]⟩ .f32
  CW : FVec Ideal ⟨2, ![3, 1536]⟩ .f32
  CB : FVec Ideal ⟨1, ![1536]⟩ .f32

namespace Args

variable {B : ℕ} (A : Args B)

/-- The normed row at position `p` of batch row `b`. -/
def normed (b : Fin B) (p : Fin 4096) : Fin 1024 → EReal :=
  Ffn.rms (Ideal.ofBits .f32 0x44800000#32) (fun j => A.X (ix3 b p j)) (fun j => A.G (ix1 j))

/-- Column `c` of the projection of the normed row. -/
def proj (b : Fin B) (p : Fin 4096) (c : Fin 3584) : EReal := ∑ k : Fin 1024, A.normed b p k * A.W (ix2 k c)

/-- The convolution's columns padded by one zero row on either side: row `s` is position `s - 1`. -/
def pad (b : Fin B) (s : ℕ) (c : Fin 1536) : EReal :=
  if h : 1 ≤ s ∧ s - 1 < 4096 then A.proj b ⟨s - 1, h.2⟩ ⟨c.val, by omega⟩ else 0

/-- The first result: the depthwise convolution of three taps at position `p`. -/
def conv (b : Fin B) (p : ℕ) (c : Fin 1536) : EReal :=
  Ffn.conv3 (A.pad b p c) (A.pad b (p + 1) c) (A.pad b (p + 2) c) (A.CW (ix2 0 c)) (A.CW (ix2 1 c)) (A.CW (ix2 2 c)) (A.CB (ix1 c))

/-- Column `1536 + c` of the projection, nothing past the last. -/
def col (b : Fin B) (p : Fin 4096) (c : ℕ) : EReal := if h : 1536 + c < 3584 then A.proj b p ⟨1536 + c, h⟩ else 0

/-- The second result: queries and keys (scaled by an eighth) rotated, values and gates as projected. -/
def heads (b : Fin B) (p : Fin 4096) (c : Fin 2048) : EReal :=
  if c.val < 512 then rotary p.val (c.val % 64) (A.col b p c) (A.col b p (c + 32)) (A.col b p (c - 32))
  else if c.val < 1024 then
    rotary p.val (c.val % 64) (A.col b p c) (A.col b p (c + 32)) (A.col b p (c - 32)) * Ideal.ofBits .f32 0x3E000000#32
  else A.col b p c

/-- The queries' columns. -/
theorem heads_queries (b : Fin B) (p : Fin 4096) (c : Fin 2048) (h : c.val < 512) :
    A.heads b p c = rotary p.val (c.val % 64) (A.col b p c) (A.col b p (c + 32)) (A.col b p (c - 32)) := by
  unfold heads
  rw [if_pos h]

/-- The keys' columns. -/
theorem heads_keys (b : Fin B) (p : Fin 4096) (c : Fin 2048) (h : 512 ≤ c.val) (h' : c.val < 1024) :
    A.heads b p c
      = rotary p.val (c.val % 64) (A.col b p c) (A.col b p (c + 32)) (A.col b p (c - 32)) * Ideal.ofBits .f32 0x3E000000#32 := by
  unfold heads
  rw [if_neg (by omega), if_pos h']

/-- The values' and gates' columns. -/
theorem heads_rest (b : Fin B) (p : Fin 4096) (c : Fin 2048) (h : 1024 ≤ c.val) : A.heads b p c = A.col b p c := by
  unfold heads
  rw [if_neg (by omega), if_neg (by omega)]

end Args

end Inp
-- ==== Proof.RetRef.lean ====
/- The retention reference read at an index: the mathematics of `RetSpec`, for a row of finite numbers. -/
module

public import proofs.«01_k».proof.Proof.RetSpec
public import proofs.«01_k».proof.Proof.InpSpec
public import proofs.«01_k».proof.Proof.Gen.RetRefIdeal.Run

@[expose] public section

set_option maxRecDepth 16384

noncomputable section

open Idealize.ShloMosaic Idealize.ShloMosaic.TcCoe Idealize.SL.Sem

namespace Rt.Ref

open Cert.RetRefIdeal Cert.RetRefIdeal.Gen Cert.RetRefIdeal.Value

variable (m : (ℓ : Loc nD τ sig) → Buf (Elt Ideal) ℓ) (c : Dev nD)

/-- The projected row, and the norm's scale and shift. -/
def X : FVec Ideal ⟨3, ![8, 4096, 2048]⟩ .bf16 := m ((c.tc : Thread nD τ).loc main_arg0)
def G : FVec Ideal ⟨1, ![512]⟩ .f32 := m ((c.tc : Thread nD τ).loc main_arg1)
def H : FVec Ideal ⟨1, ![512]⟩ .f32 := m ((c.tc : Thread nD τ).loc main_arg2)

/-- The zero a mask puts in. -/
theorem mask_zero : (id (constant (F := Ideal) S_ FTy.f32 0#32) ix0 : EReal) = 0 := by
  show Ideal.ofBits FTy.f32 0#32 = 0
  simp

/-- A forward decay. -/
theorem decay_f (s w : Fin 4096) (k : Fin 512) :
    (if 0 ≤ FloatOps.sitofp (F := Ideal) FTy.f32 (BitVec.ofNat 32 s.val) - FloatOps.sitofp (F := Ideal) FTy.f32 (BitVec.ofNat 32 w.val) then
      Ideal.exp ((if 0 ≤ FloatOps.sitofp (F := Ideal) FTy.f32 (BitVec.ofNat 32 s.val) - FloatOps.sitofp (F := Ideal) FTy.f32 (BitVec.ofNat 32 w.val) then
          FloatOps.sitofp (F := Ideal) FTy.f32 (BitVec.ofNat 32 s.val) - FloatOps.sitofp (F := Ideal) FTy.f32 (BitVec.ofNat 32 w.val) else id (constant (F := Ideal) S_ FTy.f32 0#32) ix0)
        * Ideal.log (1 - Ideal.pow (Ideal.ofBits FTy.f32 1073741824#32) (Ideal.ofBits FTy.f32 3231711232#32
            - FloatOps.sitofp (F := Ideal) FTy.f32 (BitVec.ofNat 32 (k.val / 64))))) else id (constant (F := Ideal) S_ FTy.f32 0#32) ix0)
      = (((if w.val ≤ s.val then Real.exp (((s.val : ℝ) - w.val) * LF (k.val / 64)) else 0 : ℝ)) : EReal) := by
  rw [mask_zero]
  rw [log_f _ (by omega), sit _ (by omega), sit _ (by omega)]
  have h0 := sub_nonneg_coe s.val w.val
  by_cases hsw : w.val ≤ s.val
  · rw [if_pos (h0.2 hsw), if_pos (h0.2 hsw), if_pos hsw, ← EReal.coe_sub, ← EReal.coe_mul, Ideal.exp_coe]
  · rw [if_neg (fun h => hsw (h0.1 h)), if_neg hsw, EReal.coe_zero]

/-- A backward decay. -/
theorem decay_b (s w : Fin 4096) (k : Fin 512) :
    (if 0 < FloatOps.sitofp (F := Ideal) FTy.f32 (BitVec.ofNat 32 w.val) - FloatOps.sitofp (F := Ideal) FTy.f32 (BitVec.ofNat 32 s.val) then
      Ideal.exp ((if 0 < FloatOps.sitofp (F := Ideal) FTy.f32 (BitVec.ofNat 32 w.val) - FloatOps.sitofp (F := Ideal) FTy.f32 (BitVec.ofNat 32 s.val) then
          FloatOps.sitofp (F := Ideal) FTy.f32 (BitVec.ofNat 32 w.val) - FloatOps.sitofp (F := Ideal) FTy.f32 (BitVec.ofNat 32 s.val) else id (constant (F := Ideal) S_ FTy.f32 0#32) ix0)
        * Ideal.log (1 - Ideal.pow (Ideal.ofBits FTy.f32 1073741824#32) (Ideal.ofBits FTy.f32 3232759808#32
            - FloatOps.sitofp (F := Ideal) FTy.f32 (BitVec.ofNat 32 (k.val / 64))))) else id (constant (F := Ideal) S_ FTy.f32 0#32) ix0)
      = (((if w.val ≤ s.val then 0 else Real.exp (((w.val : ℝ) - s.val) * LB (k.val / 64)) : ℝ)) : EReal) := by
  rw [mask_zero]
  rw [log_b _ (by omega), sit _ (by omega), sit _ (by omega)]
  have h0 : (0 < ((w.val : ℝ) : EReal) - ((s.val : ℝ) : EReal)) ↔ ¬ w.val ≤ s.val := by
    rw [← EReal.coe_sub, EReal.coe_pos, sub_pos, Nat.cast_lt, not_le]
  by_cases hsw : w.val ≤ s.val
  · rw [if_neg (fun h => h0.1 h hsw), if_pos hsw, EReal.coe_zero]
  · rw [if_pos (h0.2 hsw), if_pos (h0.2 hsw), if_neg hsw, ← EReal.coe_sub, ← EReal.coe_mul, Ideal.exp_coe]

theorem X_at (hX : Fin' (X m c)) (b : Fin 8) (s : Fin 4096) (k : ℕ) (hk : k < 2048) (hk' : k < 1536) :
    m (c.tc.loc main_arg0) (ix3 b s ⟨k, hk⟩) = ((xr (X m c) b s.val k : ℝ) : EReal) := xr_at (X m c) hX b s k hk hk'

set_option maxHeartbeats 4000000
/-- The reference's result. -/
theorem out_at (hX : Fin' (X m c)) (b : Fin 8) (s : Fin 4096) (k : Fin 512) :
    (show FVec Ideal S8x4096x512 .bf16 from res_out0 m c) (ix3 b s k) = result (X m c) b (G m c (ix1 k)) (H m c (ix1 k)) s.val k.val := by
  pointwise [res_main_v98]
  simp (disch := omega) only [X_at m c hX, decay_f, decay_b, ← EReal.coe_mul, ← coe_sum, ← EReal.coe_add, gate_eq]
  simp only [glob_sum (X m c) b s.val k.val k.val rfl, glob_sum (X m c) b s.val k.val _ (head_of k _), div64, ← EReal.coe_sub,
    ← EReal.coe_mul, ← coe_sum]
  unfold result varG ocG
  simp only [← head_of k]
  rw [← xe_at (X m c) b s (1536 + k.val) (by omega)]
  rfl

end Rt.Ref

end
-- ==== Proof.RetLoops.lean ====
/- What the retention body's four loops leave in their buffers, over blocks whose every entry is a real number: the chunks'
   key–value products, the states after each chunk, the rows, and the output. Each by induction over the trips. -/
module

public import proofs.«01_k».proof.Proof.RetRun
public import proofs.«01_k».proof.Proof.RetPay
public import Idealize.ShloMosaic.Lib.WritesUnit
public import Idealize.ShloMosaic.Lib.VecWindow

@[expose] public section

set_option maxRecDepth 16384

noncomputable section

namespace Rt

open Idealize.ShloMosaic Idealize.ShloMosaic.TcCoe Idealize.SL.Sem
open Cert.RetIdeal Cert.RetIdeal.Gen

variable (c : Dev nD) (i : grid0.Coords)
  (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole)
  (arg6 : Memref sig .tc .vmem S2x512x256 .f32) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole)
  (arg10 : Memref sig .tc .vmem S2x256x128 .f32) (harg10 : arg10.IsWhole) (arg11 : Memref sig .tc .vmem S2x1x128 .f32) (harg11 : arg11.IsWhole) (arg12 : Memref sig .tc .vmem S2x1x128 .f32) (harg12 : arg12.IsWhole)
  (arg13 : Memref sig .tc .vmem S256x256 .bf16) (harg13 : arg13.IsWhole) (arg14 : Memref sig .tc .vmem S1x256 .f32) (harg14 : arg14.IsWhole) (arg15 : Memref sig .tc .vmem S1x256 .f32) (harg15 : arg15.IsWhole)
  (arg16 : Memref sig .tc .vmem S1x4096x256 .bf16) (harg16 : arg16.IsWhole) (arg17 : Memref sig .tc .vmem S4096x256 .f32) (harg17 : arg17.IsWhole) (arg18 : Memref sig .tc .vmem S16x2x256x128 .f32) (harg18 : arg18.IsWhole) (arg19 : Memref sig .tc .vmem S16x2x128x128 .bf16) (harg19 : arg19.IsWhole)
  (x0 : Vec Ideal S1x4096x256 .bf16) (x1 : Vec Ideal S1x4096x256 .bf16) (x2 : Vec Ideal S1x4096x256 .bf16) (x3 : Vec Ideal S1x4096x256 .bf16) (x4 : Vec Ideal S2x512x256 .f32) (x5 : Vec Ideal S2x256x128 .f32) (x6 : Vec Ideal S2x256x128 .f32) (x7 : Vec Ideal S2x256x128 .f32) (x8 : Vec Ideal S2x256x128 .f32) (x9 : Vec Ideal S2x1x128 .f32) (x10 : Vec Ideal S2x1x128 .f32) (x11 : Vec Ideal S256x256 .bf16) (x12 : Vec Ideal S1x256 .f32) (x13 : Vec Ideal S1x256 .f32)

variable (q k v : ℕ → ℕ → ℝ) (dm qdf kdf qdb kdb : ℕ → ℕ → ℕ → ℝ) (cdf cdb : ℕ → ℕ → ℝ)
  (hq : ∀ (s : Fin 4096) (j : Fin 256), x0 (ix3 0 s j) = ((q s.val j.val : ℝ) : EReal))
  (hk : ∀ (s : Fin 4096) (j : Fin 256), x1 (ix3 0 s j) = ((k s.val j.val : ℝ) : EReal))
  (hv : ∀ (s : Fin 4096) (j : Fin 256), x2 (ix3 0 s j) = ((v s.val j.val : ℝ) : EReal))
  (hdm : ∀ (p : Fin 2) (s : Fin 512) (j : Fin 256), x4 (ix3 p s j) = ((dm p.val s.val j.val : ℝ) : EReal))
  (hqdf : ∀ (p : Fin 2) (s : Fin 256) (j : Fin 128), x5 (ix3 p s j) = ((qdf p.val s.val j.val : ℝ) : EReal))
  (hkdf : ∀ (p : Fin 2) (s : Fin 256) (j : Fin 128), x6 (ix3 p s j) = ((kdf p.val s.val j.val : ℝ) : EReal))
  (hqdb : ∀ (p : Fin 2) (s : Fin 256) (j : Fin 128), x7 (ix3 p s j) = ((qdb p.val s.val j.val : ℝ) : EReal))
  (hkdb : ∀ (p : Fin 2) (s : Fin 256) (j : Fin 128), x8 (ix3 p s j) = ((kdb p.val s.val j.val : ℝ) : EReal))
  (hcdf : ∀ (p : Fin 2) (j : Fin 128), x9 (ix3 p 0 j) = ((cdf p.val j.val : ℝ) : EReal))
  (hcdb : ∀ (p : Fin 2) (j : Fin 128), x10 (ix3 p 0 j) = ((cdb p.val j.val : ℝ) : EReal))

include hk hv hkdf hkdb in
set_option maxHeartbeats 2000000 in
/-- The products of the chunks done so far. -/
theorem kv_upto (g : BufTy.Contents (Elt Ideal) arg18.view.ty) (n : ℕ) (hn : n ≤ k0_t1_loop.trips) (w : Fin 16) (hw : w.val < n) (p : Fin 2) (r : Fin 256) (l : Fin 128) :
    arg18.view.read (Elt Ideal) (arg18.view.writes (Elt Ideal) g (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg4.unread x2) (harg8.unread x6) (harg10.unread x8) n)) (ix4 w p r l)
      = ((kvS k v kdf kdb w.val p.val r.val l.val : ℝ) : EReal) := by
  induction n with
  | zero => omega
  | succ n ih =>
    have h := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg4.unread x2) (harg8.unread x6) (harg10.unread x8) ⟨n, hn⟩
    rw [show n + 1 = (⟨n, hn⟩ : Fin k0_t1_loop.trips).val + 1 from rfl, h]
    unfold tripL_k0_t1 trip_k0_t1
    dsimp only
    rw [List.cons_append, List.cons_append, List.nil_append]
    have hn16 : n < 16 := Nat.lt_of_lt_of_le hn k0_t1_abs.2.1
    by_cases hwn : w.val = n
    · by_cases hp : p.val = 1
      · refine (View.read_writes_cons_unit_of_mem _ _ _ _ _ _ (ix4 0 0 r l) (k0_off4_eq ⟨n, hn⟩) ?_).trans ?_
        · intro a; fin_cases a <;> simp [hwn, hp]
        · unfold trip_k0_t1.sl.r trip_k0_t1.sl.r_1 trip_k0_t1.sl.r_2
          rw [pay5_at _ _ _ _ (chunk k n 1) (chunk v n 1) (kdf 1) (kdb 1)]
          · unfold kvS; rw [hwn, hp]
          · intro u j
            rw [load_at _ _ _ _ (ix3 0 ⟨256 * n + u.val, by omega⟩ ⟨128 + j.val, by omega⟩) (k0_off3_eq ⟨n, hn⟩) (by intro a; fin_cases a <;> simp), harg3.read_unread, hk]
            simp only [chunk, Nat.mul_one]
          · intro u j
            rw [load_at _ _ _ _ (ix3 0 ⟨256 * n + u.val, by omega⟩ ⟨128 + j.val, by omega⟩) (k0_off3_eq ⟨n, hn⟩) (by intro a; fin_cases a <;> simp), harg4.read_unread, hv]
            simp only [chunk, Nat.mul_one]
          · intro u j
            rw [load_at _ _ _ _ (ix3 1 u j) rfl (by intro a; fin_cases a <;> simp), harg8.read_unread, hkdf]
            rfl
          · intro u j
            rw [load_at _ _ _ _ (ix3 1 u j) rfl (by intro a; fin_cases a <;> simp), harg10.read_unread, hkdb]
            rfl
      · replace hp : p.val = 0 := by omega
        refine (View.read_writes_cons_unit_of_not_mem _ _ _ _ _ _ (k0_off4_eq ⟨n, hn⟩) 1 (Or.inl (by simp [hp]))).trans ?_
        refine (View.read_writes_cons_unit_of_mem _ _ _ _ _ _ (ix4 0 0 r l) (k0_off2_eq ⟨n, hn⟩) ?_).trans ?_
        · intro a; fin_cases a <;> simp [hwn, hp]
        · rw [pay13_at _ _ _ _ (chunk k n 0) (chunk v n 0) (kdf 0) (kdb 0)]
          · unfold kvS; rw [hwn, hp]
          · intro u j
            rw [load_at _ _ _ _ (ix3 0 ⟨256 * n + u.val, by omega⟩ ⟨j.val, by omega⟩) (k0_off1_eq ⟨n, hn⟩) (by intro a; fin_cases a <;> simp), harg3.read_unread, hk]
            simp only [chunk, Nat.mul_zero, Nat.zero_add]
          · intro u j
            rw [load_at _ _ _ _ (ix3 0 ⟨256 * n + u.val, by omega⟩ ⟨j.val, by omega⟩) (k0_off1_eq ⟨n, hn⟩) (by intro a; fin_cases a <;> simp), harg4.read_unread, hv]
            simp only [chunk, Nat.mul_zero, Nat.zero_add]
          · intro u j
            rw [load_at _ _ _ _ (ix3 0 u j) rfl (by intro a; fin_cases a <;> simp), harg8.read_unread, hkdf]
            rfl
          · intro u j
            rw [load_at _ _ _ _ (ix3 0 u j) rfl (by intro a; fin_cases a <;> simp), harg10.read_unread, hkdb]
            rfl
    · refine (View.read_writes_cons_unit_of_not_mem _ _ _ _ _ _ (k0_off4_eq ⟨n, hn⟩) 0 (Or.inl ?_)).trans ?_
      · show w.val < n
        omega
      refine (View.read_writes_cons_unit_of_not_mem _ _ _ _ _ _ (k0_off2_eq ⟨n, hn⟩) 0 (Or.inl ?_)).trans ?_
      · show w.val < n
        omega
      exact ih (by omega) (by omega)

theorem trips1 : k0_t1_loop.trips = 16 := by decide +kernel
theorem trips2 : k0_t2_loop.trips = 16 := by decide +kernel
theorem trips3 : k0_t3_loop.trips = 16 := by decide +kernel
theorem trips4 : k0_t4_loop.trips = 8 := by decide +kernel

include hk hv hkdf hkdb in
/-- The first loop's buffer. -/
theorem kv_at (g : BufTy.Contents (Elt Ideal) arg18.view.ty) (w : Fin 16) (p : Fin 2) (r : Fin 256) (l : Fin 128) :
    arg18.view.read (Elt Ideal) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (ix4 w p r l) = ((kvS k v kdf kdb w.val p.val r.val l.val : ℝ) : EReal) := by
  unfold kv
  exact kv_upto (x1 := x1) (x2 := x2) (x6 := x6) (x8 := x8) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kdf kdb hk hv hkdf hkdb g _ le_rfl w (by rw [trips1]; exact w.isLt) p r l

include hk hv hkdf hkdb hcdb in
set_option maxHeartbeats 2000000 in
/-- The backward states so far, and the one carried. -/
theorem back_upto (g : BufTy.Contents (Elt Ideal) arg18.view.ty) (h : BufTy.Contents (Elt Ideal) arg19.view.ty) (n : ℕ) (hn : n ≤ k0_t2_loop.trips) :
    (∀ r l : Fin 128, (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).1.1 (ix2 r l) = ((stB k v kdf kdb cdb 0 n r.val l.val : ℝ) : EReal))
    ∧ (∀ r l : Fin 128, (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).1.2 (ix2 r l) = ((stB k v kdf kdb cdb 1 n r.val l.val : ℝ) : EReal))
    ∧ (∀ (w : Fin 16) (hw : 15 - w.val < n) (p : Fin 2) (r l : Fin 128),
      arg19.view.read (Elt Ideal) (arg19.view.writes (Elt Ideal) h (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).2) (ix4 w p r l)
      = ((stB k v kdf kdb cdb p.val (15 - w.val) r.val l.val : ℝ) : EReal)) := by
  induction n with
  | zero =>
    rw [st_k0_t2_zero]
    exact ⟨fun r l => pay3_at r l, fun r l => pay4_at r l, fun w hw => absurd hw (Nat.not_lt_zero _)⟩
  | succ n ih =>
    have hn16 : n < 16 := by rw [← trips2]; exact hn
    obtain ⟨ih0, ih1, ihw⟩ := ih (by omega)
    have hs := st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) ⟨n, hn⟩
    rw [show n + 1 = (⟨n, hn⟩ : Fin k0_t2_loop.trips).val + 1 from rfl, hs]
    unfold tripR_k0_t2 tripL_k0_t2 trip_k0_t2
    dsimp only
    refine ⟨fun r l => ?_, fun r l => ?_, fun w hw p r l => ?_⟩
    · rw [pay7_at, ih0, load_at _ _ _ _ (ix3 0 0 l) rfl (by intro a; fin_cases a <;> simp), harg12.read_unread, hcdb,
        load_at _ _ _ _ (ix4 ⟨15 - n, by omega⟩ 0 ⟨128 + r.val, by omega⟩ l) (k0_off6_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [pay9_at, ih1, load_at _ _ _ _ (ix3 1 0 l) rfl (by intro a; fin_cases a <;> simp), harg12.read_unread, hcdb,
        load_at _ _ _ _ (ix4 ⟨15 - n, by omega⟩ 1 ⟨128 + r.val, by omega⟩ l) (k0_off8_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [List.cons_append, List.cons_append, List.nil_append]
      by_cases hwn : w.val = 15 - n
      · have hnw : 15 - w.val = n := by omega
        by_cases hp : p.val = 1
        · refine (View.read_writes_cons_unit_of_mem _ _ _ _ _ _ (ix4 0 0 r l) (k0_off7_eq ⟨n, hn⟩) ?_).trans ?_
          · intro a; fin_cases a <;> simp [hwn, hp]
          · rw [pay8_at, ih1, hnw, hp]
        · replace hp : p.val = 0 := by omega
          refine (View.read_writes_cons_unit_of_not_mem _ _ _ _ _ _ (k0_off7_eq ⟨n, hn⟩) 1 (Or.inl (by simp [hp]))).trans ?_
          refine (View.read_writes_cons_unit_of_mem _ _ _ _ _ _ (ix4 0 0 r l) (k0_off5_eq ⟨n, hn⟩) ?_).trans ?_
          · intro a; fin_cases a <;> simp [hwn, hp]
          · rw [pay6_at, ih0, hnw, hp]
      · have hw' : 15 - w.val < n + 1 := hw
        refine (View.read_writes_cons_unit_of_not_mem _ _ _ _ _ _ (k0_off7_eq ⟨n, hn⟩) 0 (Or.inr ?_)).trans ?_
        · show 15 - n + 1 ≤ w.val
          omega
        refine (View.read_writes_cons_unit_of_not_mem _ _ _ _ _ _ (k0_off5_eq ⟨n, hn⟩) 0 (Or.inr ?_)).trans ?_
        · show 15 - n + 1 ≤ w.val
          omega
        exact ihw w (by omega) p r l

include hk hv hkdf hkdb hcdb in
/-- The second loop's buffer. -/
theorem back_at (g : BufTy.Contents (Elt Ideal) arg18.view.ty) (h : BufTy.Contents (Elt Ideal) arg19.view.ty) (w : Fin 16) (p : Fin 2) (r l : Fin 128) :
    arg19.view.read (Elt Ideal) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (ix4 w p r l) = ((stB k v kdf kdb cdb p.val (15 - w.val) r.val l.val : ℝ) : EReal) := by
  unfold back
  exact (back_upto (x1 := x1) (x2 := x2) (x6 := x6) (x8 := x8) (x10 := x10) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kdf kdb cdb hk hv hkdf hkdb hcdb g h _ le_rfl).2.2 w (by rw [trips2]; omega) p r l

include hq hk hv hdm hqdf hkdf hqdb hkdb hcdf hcdb in
set_option maxHeartbeats 4000000 in
/-- The rows so far, and the forward state carried. -/
theorem rows_upto (e : BufTy.Contents (Elt Ideal) arg17.view.ty) (g : BufTy.Contents (Elt Ideal) arg18.view.ty) (h : BufTy.Contents (Elt Ideal) arg19.view.ty) (n : ℕ) (hn : n ≤ k0_t3_loop.trips) :
    (∀ r l : Fin 128, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).1.1 (ix2 r l) = ((stF k v kdf kdb cdf 0 n r.val l.val : ℝ) : EReal))
    ∧ (∀ r l : Fin 128, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).1.2 (ix2 r l) = ((stF k v kdf kdb cdf 1 n r.val l.val : ℝ) : EReal))
    ∧ (∀ (s : Fin 4096) (hw : s.val < 256 * n) (j : Fin 256),
      arg17.view.read (Elt Ideal) (arg17.view.writes (Elt Ideal) e (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).2) (ix2 s j)
      = ((rowS q k v dm qdf kdf qdb kdb cdf cdb s.val j.val : ℝ) : EReal)) := by
  induction n with
  | zero =>
    rw [st_k0_t3_zero]
    exact ⟨fun r l => pay3_at r l, fun r l => pay4_at r l, fun w hw => absurd hw (Nat.not_lt_zero _)⟩
  | succ n ih =>
    have hn16 : n < 16 := by rw [← trips3]; exact hn
    obtain ⟨ih0, ih1, ihw⟩ := ih (by omega)
    have hs := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) ⟨n, hn⟩
    rw [show n + 1 = (⟨n, hn⟩ : Fin k0_t3_loop.trips).val + 1 from rfl, hs]
    unfold tripR_k0_t3 tripL_k0_t3 trip_k0_t3
    dsimp only
    refine ⟨fun r l => ?_, fun r l => ?_, fun s hw j => ?_⟩
    · unfold trip_k0_t3.sl.r_3
      rw [pay21_at, ih0, load_at _ _ _ _ (ix3 0 0 l) rfl (by intro a; fin_cases a <;> simp), harg11.read_unread, hcdf,
        load_at _ _ _ _ (ix4 ⟨n, by omega⟩ 0 ⟨r.val, by omega⟩ l) (k0_off12_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · unfold trip_k0_t3.sl.r_8
      rw [pay10_at, ih1, load_at _ _ _ _ (ix3 1 0 l) rfl (by intro a; fin_cases a <;> simp), harg11.read_unread, hcdf,
        load_at _ _ _ _ (ix4 ⟨n, by omega⟩ 1 ⟨r.val, by omega⟩ l) (k0_off16_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [List.cons_append, List.cons_append, List.nil_append]
      have hw' : s.val < 256 * (n + 1) := hw
      by_cases hwn : 256 * n ≤ s.val
      · have hd : s.val / 256 = n := by omega
        have hm : s.val = 256 * n + s.val % 256 := by omega
        by_cases hp : 128 ≤ j.val
        · have hjd : j.val / 128 = 1 := by omega
          have hjm : j.val = 128 + j.val % 128 := by omega
          refine (View.read_writes_cons_unit_of_mem _ _ _ _ _ _ (ix2 (⟨s.val % 256, by omega⟩ : Fin 256) (⟨j.val % 128, by omega⟩ : Fin 128)) (k0_off15_eq ⟨n, hn⟩) ?_).trans ?_
          · intro a; fin_cases a
            · exact hm
            · exact hjm
          unfold rowS trip_k0_t3.sl.r_4 trip_k0_t3.sl.r_5 trip_k0_t3.sl.r_6 trip_k0_t3.sl.r_7 trip_k0_t3.sl.cst_50
          rw [hd, hjd]
          rw [pay26_at _ _ _ _ _ _ _ _ (chunk q n 1) (chunk k n 1) (chunk v n 1) (qdf 1) (qdb 1) (dm 1) (stF k v kdf kdb cdf 1 n) (stB k v kdf kdb cdb 1 (15 - n))]
          · intro u j
            rw [load_at _ _ _ _ (ix3 0 ⟨256 * n + u.val, by omega⟩ ⟨128 + j.val, by omega⟩) (k0_off13_eq ⟨n, hn⟩) (by intro a; fin_cases a <;> simp), harg2.read_unread, hq]
            simp only [chunk, Nat.mul_one]
          · intro u j
            rw [load_at _ _ _ _ (ix3 0 ⟨256 * n + u.val, by omega⟩ ⟨128 + j.val, by omega⟩) (k0_off13_eq ⟨n, hn⟩) (by intro a; fin_cases a <;> simp), harg3.read_unread, hk]
            simp only [chunk, Nat.mul_one]
          · intro u j
            rw [load_at _ _ _ _ (ix3 0 ⟨256 * n + u.val, by omega⟩ ⟨128 + j.val, by omega⟩) (k0_off13_eq ⟨n, hn⟩) (by intro a; fin_cases a <;> simp), harg4.read_unread, hv]
            simp only [chunk, Nat.mul_one]
          · exact ih1
          · intro u j
            rw [load_at _ _ _ _ (ix3 1 u j) rfl (by intro a; fin_cases a <;> simp), harg7.read_unread, hqdf]
            rfl
          · intro u j
            rw [load_at _ _ _ _ (ix3 1 u j) rfl (by intro a; fin_cases a <;> simp), harg9.read_unread, hqdb]
            rfl
          · intro u j
            rw [load_at _ _ _ _ (ix3 1 u j) rfl (by intro a; fin_cases a <;> simp), harg6.read_unread, hdm]
            rfl
          · intro u j
            rw [load_at _ _ _ _ (ix4 ⟨n, hn16⟩ 1 u j) (k0_off14_eq ⟨n, hn⟩) (by intro a; fin_cases a <;> simp), back_at (x10 := x10) (cdb := cdb) (hcdb := hcdb) (x1 := x1) (x2 := x2) (x6 := x6) (x8 := x8) (k := k) (v := v) (kdf := kdf) (kdb := kdb) (hk := hk) (hv := hv) (hkdf := hkdf) (hkdb := hkdb)]
            rfl
        · have hjd : j.val / 128 = 0 := by omega
          have hjm : j.val = 0 + j.val % 128 := by omega
          refine (View.read_writes_cons_unit_of_not_mem _ _ _ _ _ _ (k0_off15_eq ⟨n, hn⟩) 1 (Or.inl ?_)).trans ?_
          · show j.val < 128
            omega
          refine (View.read_writes_cons_unit_of_mem _ _ _ _ _ _ (ix2 (⟨s.val % 256, by omega⟩ : Fin 256) (⟨j.val % 128, by omega⟩ : Fin 128)) (k0_off11_eq ⟨n, hn⟩) ?_).trans ?_
          · intro a; fin_cases a
            · exact hm
            · exact hjm
          unfold rowS trip_k0_t3.sl.r trip_k0_t3.sl.r_1 trip_k0_t3.sl.r_2
          rw [hd, hjd]
          rw [pay20_at _ _ _ _ _ _ _ _ (chunk q n 0) (chunk k n 0) (chunk v n 0) (qdf 0) (qdb 0) (dm 0) (stF k v kdf kdb cdf 0 n) (stB k v kdf kdb cdb 0 (15 - n))]
          · intro u j
            rw [load_at _ _ _ _ (ix3 0 ⟨256 * n + u.val, by omega⟩ ⟨j.val, by omega⟩) (k0_off9_eq ⟨n, hn⟩) (by intro a; fin_cases a <;> simp), harg2.read_unread, hq]
            simp only [chunk, Nat.mul_zero, Nat.zero_add]
          · intro u j
            rw [load_at _ _ _ _ (ix3 0 ⟨256 * n + u.val, by omega⟩ ⟨j.val, by omega⟩) (k0_off9_eq ⟨n, hn⟩) (by intro a; fin_cases a <;> simp), harg3.read_unread, hk]
            simp only [chunk, Nat.mul_zero, Nat.zero_add]
          · intro u j
            rw [load_at _ _ _ _ (ix3 0 ⟨256 * n + u.val, by omega⟩ ⟨j.val, by omega⟩) (k0_off9_eq ⟨n, hn⟩) (by intro a; fin_cases a <;> simp), harg4.read_unread, hv]
            simp only [chunk, Nat.mul_zero, Nat.zero_add]
          · exact ih0
          · intro u j
            rw [load_at _ _ _ _ (ix3 0 u j) rfl (by intro a; fin_cases a <;> simp), harg7.read_unread, hqdf]
            rfl
          · intro u j
            rw [load_at _ _ _ _ (ix3 0 u j) rfl (by intro a; fin_cases a <;> simp), harg9.read_unread, hqdb]
            rfl
          · intro u j
            rw [load_at _ _ _ _ (ix3 0 u j) rfl (by intro a; fin_cases a <;> simp), harg6.read_unread, hdm]
            rfl
          · intro u j
            rw [load_at _ _ _ _ (ix4 ⟨n, hn16⟩ 0 u j) (k0_off10_eq ⟨n, hn⟩) (by intro a; fin_cases a <;> simp), back_at (x10 := x10) (cdb := cdb) (hcdb := hcdb) (x1 := x1) (x2 := x2) (x6 := x6) (x8 := x8) (k := k) (v := v) (kdf := kdf) (kdb := kdb) (hk := hk) (hv := hv) (hkdf := hkdf) (hkdb := hkdb)]
            rfl
      · refine (View.read_writes_cons_unit_of_not_mem _ _ _ _ _ _ (k0_off15_eq ⟨n, hn⟩) 0 (Or.inl ?_)).trans ?_
        · show s.val < 256 * n
          omega
        refine (View.read_writes_cons_unit_of_not_mem _ _ _ _ _ _ (k0_off11_eq ⟨n, hn⟩) 0 (Or.inl ?_)).trans ?_
        · show s.val < 256 * n
          omega
        exact ihw s (by omega) j

include hq hk hv hdm hqdf hkdf hqdb hkdb hcdf hcdb in
/-- The third loop's buffer. -/
theorem rows_at (e : BufTy.Contents (Elt Ideal) arg17.view.ty) (g : BufTy.Contents (Elt Ideal) arg18.view.ty) (h : BufTy.Contents (Elt Ideal) arg19.view.ty) (s : Fin 4096) (j : Fin 256) :
    arg17.view.read (Elt Ideal) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) (ix2 s j) = ((rowS q k v dm qdf kdf qdb kdb cdf cdb s.val j.val : ℝ) : EReal) := by
  unfold rows
  exact (rows_upto (x0 := x0) (x1 := x1) (x2 := x2) (x4 := x4) (x5 := x5) (x6 := x6) (x7 := x7) (x8 := x8) (x9 := x9) (x10 := x10) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q k v dm qdf kdf qdb kdb cdf cdb hq hk hv hdm hqdf hkdf hqdb hkdb hcdf hcdb e g h _ le_rfl).2.2 s (by rw [trips3]; omega) j

variable (A : ℕ → ℕ → ℝ) (E : ℕ → ℕ → EReal) (hA : ∀ r l : Fin 256, x11 (ix2 r l) = ((A r.val l.val : ℝ) : EReal))
  (hE : ∀ (s : Fin 4096) (j : Fin 256), x3 (ix3 0 s j) = E s.val j.val)

include hq hk hv hdm hqdf hkdf hqdb hkdb hcdf hcdb hA hE in
set_option maxHeartbeats 4000000 in
/-- The output so far. -/
theorem out_upto (d : BufTy.Contents (Elt Ideal) arg16.view.ty) (e : BufTy.Contents (Elt Ideal) arg17.view.ty) (g : BufTy.Contents (Elt Ideal) arg18.view.ty) (h : BufTy.Contents (Elt Ideal) arg19.view.ty) (n : ℕ) (hn : n ≤ k0_t4_loop.trips)
    (s : Fin 4096) (hw : s.val < 512 * n) (j : Fin 256) :
    arg16.view.read (Elt Ideal) (arg16.view.writes (Elt Ideal) d (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg13.view (Rect.unit (s := S256x256) ![0, 0] S256x256.size inb_S256x256_S256x256_0_0).toLoadRect (harg13.unread x11)) (harg5.unread x3) (harg14.unread x12) (harg15.unread x13) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) n)) (ix3 0 s j)
      = outOf (rowS q k v dm qdf kdf qdb kdb cdf cdb) A E (x12 (ix2 0 j)) (x13 (ix2 0 j)) s.val j.val := by
  induction n with
  | zero => omega
  | succ n ih =>
    have hn8 : n < 8 := by rw [← trips4]; exact hn
    have hs := pb_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg13.view (Rect.unit (s := S256x256) ![0, 0] S256x256.size inb_S256x256_S256x256_0_0).toLoadRect (harg13.unread x11)) (harg5.unread x3) (harg14.unread x12) (harg15.unread x13) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) ⟨n, hn⟩
    rw [show n + 1 = (⟨n, hn⟩ : Fin k0_t4_loop.trips).val + 1 from rfl, hs]
    unfold tripL_k0_t4 trip_k0_t4
    dsimp only
    rw [List.cons_append, List.nil_append]
    by_cases hwn : 512 * n ≤ s.val
    · have hm : s.val = 512 * n + (s.val - 512 * n) := by omega
      refine (View.read_writes_cons_unit_of_mem _ _ _ _ _ _ (ix3 0 (⟨s.val - 512 * n, by omega⟩ : Fin 512) j) (k0_off18_eq ⟨n, hn⟩) ?_).trans ?_
      · intro a; fin_cases a
        · rfl
        · exact hm
        · simp
      unfold trip_k0_t4.sl.r
      rw [pay12_at _ _ _ _ _ (fun u => rowS q k v dm qdf kdf qdb kdb cdf cdb (512 * n + u)) A (fun u => E (512 * n + u))]
      · rw [load_at _ _ _ _ (ix2 0 j) rfl (by intro a; fin_cases a <;> simp), harg14.read_unread, load_at _ _ _ _ (ix2 0 j) rfl (by intro a; fin_cases a <;> simp), harg15.read_unread]
        conv_rhs => rw [hm]
        rfl
      · intro u l
        rw [load_at _ _ _ _ (ix2 u l) rfl (by intro a; fin_cases a <;> simp), harg13.read_unread, hA]
      · intro u l
        rw [load_at _ _ _ _ (ix2 ⟨512 * n + u.val, by omega⟩ l) (k0_off17_eq ⟨n, hn⟩) (by intro a; fin_cases a <;> simp), rows_at (x0 := x0) (x1 := x1) (x2 := x2) (x4 := x4) (x5 := x5) (x6 := x6) (x7 := x7) (x8 := x8) (x9 := x9) (x10 := x10) (q := q) (k := k) (v := v) (dm := dm) (qdf := qdf) (kdf := kdf) (qdb := qdb) (kdb := kdb) (cdf := cdf) (cdb := cdb) (hq := hq) (hk := hk) (hv := hv) (hdm := hdm) (hqdf := hqdf) (hkdf := hkdf) (hqdb := hqdb) (hkdb := hkdb) (hcdf := hcdf) (hcdb := hcdb)]
      · intro u l
        rw [load_at _ _ _ _ (ix3 0 ⟨512 * n + u.val, by omega⟩ l) (k0_off18_eq ⟨n, hn⟩) (by intro a; fin_cases a <;> simp), harg5.read_unread, hE]
    · refine (View.read_writes_cons_unit_of_not_mem _ _ _ _ _ _ (k0_off18_eq ⟨n, hn⟩) 1 (Or.inl ?_)).trans ?_
      · show s.val < 512 * n
        omega
      exact ih (by omega) (by omega)

include hq hk hv hdm hqdf hkdf hqdb hkdb hcdf hcdb hA hE in
/-- The output's buffer after the body. -/
theorem left_at (d : BufTy.Contents (Elt Ideal) arg16.view.ty) (e : BufTy.Contents (Elt Ideal) arg17.view.ty) (g : BufTy.Contents (Elt Ideal) arg18.view.ty) (h : BufTy.Contents (Elt Ideal) arg19.view.ty) (s : Fin 4096) (j : Fin 256) :
    arg16.view.read (Elt Ideal) (left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 d e g h) (ix3 0 s j)
      = outOf (rowS q k v dm qdf kdf qdb kdb cdf cdb) A E (x12 (ix2 0 j)) (x13 (ix2 0 j)) s.val j.val := by
  unfold left
  exact out_upto (x0 := x0) (x1 := x1) (x2 := x2) (x3 := x3) (x4 := x4) (x5 := x5) (x6 := x6) (x7 := x7) (x8 := x8) (x9 := x9) (x10 := x10) (x11 := x11) (x12 := x12) (x13 := x13) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q k v dm qdf kdf qdb kdb cdf cdb hq hk hv hdm hqdf hkdf hqdb hkdb hcdf hcdb A E hA hE d e g h _ le_rfl s (by rw [trips4]; omega) j

end Rt

end
-- ==== Proof.RetTab.lean ====
/- The tables the retention kernel is called with, read at an entry and written as real numbers. -/
module

public import proofs.«01_k».proof.Proof.InpSpec
public import proofs.«01_k».proof.Proof.RetFrame
public import proofs.«01_k».proof.Proof.RetSpec

@[expose] public section

set_option maxRecDepth 16384

noncomputable section

open Idealize.ShloMosaic Idealize.ShloMosaic.TcCoe Idealize.SL.Sem

namespace Rt

open Cert.RetIdeal Cert.RetIdeal.Gen

variable (m : (ℓ : Loc nD τ sig) → Buf (Elt Ideal) ℓ) (c : Dev nD)

set_option maxHeartbeats 4000000

/-- The diagonal blocks' decays. -/
theorem dm_at (p : Fin 4) (r : Fin 512) (j : Fin 256) :
    (show FVec Ideal S4x512x256 .f32 from V m c main_v45) (ix3 p r j)
      = ((dec (LF (p.val * 2 + r.val / 256)) (LB (p.val * 2 + r.val / 256)) (r.val % 256) j.val : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  simp -implicitDefEqProofs only [StableHlo.TRef.toBuf, StableHlo.TRef.ofBuf, cast_cast, cast_eq]
  pointwise
  rw [log_f _ (by omega), log_b _ (by omega), sit _ (by omega), sit _ (by omega)]
  simp only [select_not, sub_nonneg_coe]
  unfold dec
  by_cases h : j.val ≤ r.val % 256
  · simp only [if_pos h, ← EReal.coe_sub, ← EReal.coe_mul, Ideal.exp_coe, add_zero]
  · simp only [if_neg h, ← EReal.coe_sub, ← EReal.coe_mul, ← EReal.coe_neg, Ideal.exp_coe, zero_add, neg_sub]

theorem qdf_at (p : Fin 4) (r : Fin 256) (j : Fin 128) :
    (show FVec Ideal S4x256x128 .f32 from V m c main_v58) (ix3 p r j)
      = ((Real.exp (((r.val : ℝ) + 1) * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), sit _ (by omega)]
  rw [← EReal.coe_one]
  simp only [← EReal.coe_sub, ← EReal.coe_add, ← EReal.coe_mul, Ideal.exp_coe]

theorem kdf_at (p : Fin 4) (r : Fin 256) (j : Fin 128) :
    (show FVec Ideal S4x256x128 .f32 from V m c main_v71) (ix3 p r j)
      = ((Real.exp ((255 - (r.val : ℝ)) * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), sit _ (by omega), ofBits_255]
  skip
  simp only [← EReal.coe_sub, ← EReal.coe_add, ← EReal.coe_mul, Ideal.exp_coe]

theorem qdb_at (p : Fin 4) (r : Fin 256) (j : Fin 128) :
    (show FVec Ideal S4x256x128 .f32 from V m c main_v84) (ix3 p r j)
      = ((Real.exp ((256 - (r.val : ℝ)) * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), sit _ (by omega), ofBits_256]
  skip
  simp only [← EReal.coe_sub, ← EReal.coe_add, ← EReal.coe_mul, Ideal.exp_coe]

theorem kdb_at (p : Fin 4) (r : Fin 256) (j : Fin 128) :
    (show FVec Ideal S4x256x128 .f32 from V m c main_v95) (ix3 p r j)
      = ((Real.exp ((r.val : ℝ) * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), sit _ (by omega)]
  skip
  simp only [← EReal.coe_sub, ← EReal.coe_add, ← EReal.coe_mul, Ideal.exp_coe]

theorem cdf_at (p : Fin 4) (j : Fin 128) :
    (show FVec Ideal S4x1x128 .f32 from V m c main_v104) (ix3 p 0 j)
      = ((Real.exp (256 * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), ofBits_256, ← EReal.coe_mul, Ideal.exp_coe]

theorem cdb_at (p : Fin 4) (j : Fin 128) :
    (show FVec Ideal S4x1x128 .f32 from V m c main_v113) (ix3 p 0 j)
      = ((Real.exp (256 * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), ofBits_256, ← EReal.coe_mul, Ideal.exp_coe]

theorem gnG_at (j : Fin 512) :
    (show FVec Ideal S1x512 .f32 from V m c main_v125) (ix2 0 j)
      = (show FVec Ideal S512 .f32 from m (c, Proc.tc.devRef main_arg1)) (ix1 j) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise

theorem gnB_at (j : Fin 512) :
    (show FVec Ideal S1x512 .f32 from V m c main_v126) (ix2 0 j)
      = (show FVec Ideal S512 .f32 from m (c, Proc.tc.devRef main_arg2)) (ix1 j) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise

/-- The averaging matrix: 1/64 within a head, 0 across. -/
theorem avg_at (r j : Fin 256) :
    (show FVec Ideal S256x256 .bf16 from V m c main_v124) (ix2 r j)
      = (((if r.val / 64 = j.val / 64 then 1 / 64 else 0 : ℝ)) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  simp -implicitDefEqProofs only [StableHlo.TRef.toBuf, StableHlo.TRef.ofBuf, cast_cast, cast_eq]
  pointwise
  refine (congrArg₂ (fun a b => Ideal.div (FloatOps.uitofp (F := Ideal) FTy.f32 (IntOp.cmpi CmpIPredicate.eq a b)) (Ideal.ofBits FTy.f32 1115684864#32))
    (head_word r) (head_word j)).trans ?_
  have h := head_eq ⟨r.val / 64, by omega⟩ ⟨j.val / 64, by omega⟩
  dsimp only at h
  rw [h, ofBits_64, Ideal.div_coe (by norm_num)]
  split
  · change (((((1#1 : BitVec 1).toNat : ℕ) : ℝ) : EReal)) * _ = _
    rw [← EReal.coe_mul]; norm_num
  · change (((((0#1 : BitVec 1).toNat : ℕ) : ℝ) : EReal)) * _ = _
    rw [← EReal.coe_mul]; norm_num

end Rt
-- ==== Proof.RetVal.lean ====
/- The retention kernel's result array: what each grid point leaves is the mathematics of `RetSpec`, for a row of finite numbers. -/
module

public import proofs.«01_k».proof.Proof.RetLoops
public import proofs.«01_k».proof.Proof.RetTab
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Rt

open Cert.RetIdeal Cert.RetIdeal.Gen

variable (m : (ℓ : Loc nD τ sig) → Buf (Elt Ideal) ℓ) (ρ : Dev nD → PrngReg) (c : Dev nD)

/-- The projected row, and the norm's scale and shift. -/
def X : FVec Ideal ⟨3, ![8, 4096, 2048]⟩ .bf16 := m ((c.tc : Thread nD τ).loc main_arg0)
def G : FVec Ideal ⟨1, ![512]⟩ .f32 := m ((c.tc : Thread nD τ).loc main_arg1)
def H : FVec Ideal ⟨1, ![512]⟩ .f32 := m ((c.tc : Thread nD τ).loc main_arg2)

/-- The windows' index maps. -/
theorem idx : ∀ t : Fin cfg0.N,
    win0_0.index t = ![t.val % 8, 0, t.val / 8] ∧ win0_1.index t = ![t.val % 8, 0, 2 + t.val / 8]
    ∧ win0_2.index t = ![t.val % 8, 0, 4 + t.val / 8] ∧ win0_3.index t = ![t.val % 8, 0, 6 + t.val / 8]
    ∧ win0_4.index t = ![t.val / 8, 0, 0] ∧ win0_5.index t = ![t.val / 8, 0, 0] ∧ win0_6.index t = ![t.val / 8, 0, 0]
    ∧ win0_7.index t = ![t.val / 8, 0, 0] ∧ win0_8.index t = ![t.val / 8, 0, 0] ∧ win0_9.index t = ![t.val / 8, 0, 0]
    ∧ win0_10.index t = ![t.val / 8, 0, 0] ∧ win0_11.index t = ![0, 0] ∧ win0_12.index t = ![0, t.val / 8]
    ∧ win0_13.index t = ![0, t.val / 8] ∧ win0_14.index t = ![t.val % 8, 0, t.val / 8] ∧ t.val / 8 < 2 :=
  (by decide +kernel : ∀ t : Fin grid0.N, _)

theorem half_lt (t : Fin cfg0.N) : t.val / 8 < 2 := (idx t).2.2.2.2.2.2.2.2.2.2.2.2.2.2.2

/-- The batch row and the half of the columns a grid point works on. -/
def bt (t : Fin cfg0.N) : Fin 8 := ⟨t.val % 8, by omega⟩

set_option maxHeartbeats 4000000

theorem x0_at (hX : Fin' (X m c)) (t : Fin cfg0.N) (s : Fin 4096) (j : Fin 256) :
    (show FVec Ideal S1x4096x256 .bf16 from iblk m c 0 t) (ix3 0 s j) = ((xr (X m c) (bt t) s.val (t.val / 8 * 256 + j.val) : ℝ) : EReal) := by
  have hB := half_lt t
  refine Eq.trans ?_ (xr_at (X m c) hX (bt t) s (t.val / 8 * 256 + j.val) (by omega) (by omega))
  unfold X bt
  blk_ext [iblk, V, idx t]

theorem x1_at (hX : Fin' (X m c)) (t : Fin cfg0.N) (s : Fin 4096) (j : Fin 256) :
    (show FVec Ideal S1x4096x256 .bf16 from iblk m c 1 t) (ix3 0 s j) = ((xr (X m c) (bt t) s.val (512 + (t.val / 8 * 256 + j.val)) : ℝ) : EReal) := by
  have hB := half_lt t
  refine Eq.trans ?_ (xr_at (X m c) hX (bt t) s (512 + (t.val / 8 * 256 + j.val)) (by omega) (by omega))
  unfold X bt
  blk_ext [iblk, V, idx t]

theorem x2_at (hX : Fin' (X m c)) (t : Fin cfg0.N) (s : Fin 4096) (j : Fin 256) :
    (show FVec Ideal S1x4096x256 .bf16 from iblk m c 2 t) (ix3 0 s j) = ((xr (X m c) (bt t) s.val (1024 + (t.val / 8 * 256 + j.val)) : ℝ) : EReal) := by
  have hB := half_lt t
  refine Eq.trans ?_ (xr_at (X m c) hX (bt t) s (1024 + (t.val / 8 * 256 + j.val)) (by omega) (by omega))
  unfold X bt
  blk_ext [iblk, V, idx t]

theorem x3_at (t : Fin cfg0.N) (s : Fin 4096) (j : Fin 256) :
    (show FVec Ideal S1x4096x256 .bf16 from iblk m c 3 t) (ix3 0 s j) = xe (X m c) (bt t) s.val (1536 + (t.val / 8 * 256 + j.val)) := by
  have hB := half_lt t
  refine Eq.trans ?_ (xe_at (X m c) (bt t) s (1536 + (t.val / 8 * 256 + j.val)) (by omega))
  unfold X bt
  blk_ext [iblk, V, idx t]

theorem x4_at (t : Fin cfg0.N) (p : Fin 2) (r : Fin 512) (j : Fin 256) :
    (show FVec Ideal S2x512x256 .f32 from iblk m c 4 t) (ix3 p r j) = (((dmT (fun h => LF (4 * (t.val / 8) + h)) (fun h => LB (4 * (t.val / 8) + h))) p.val r.val j.val : ℝ) : EReal) := by
  have hB := half_lt t
  refine Eq.trans (b := (show FVec Ideal S4x512x256 .f32 from V m c main_v45) (ix3 ⟨t.val / 8 * 2 + p.val, by omega⟩ r j)) ?_ ?_
  · blk_ext [iblk, idx t]
  · refine (dm_at m c _ r j).trans ?_
    have e : (t.val / 8 * 2 + p.val) * 2 + r.val / 256 = 4 * (t.val / 8) + (2 * p.val + r.val / 256) := by omega
    dsimp only [dmT]
    rw [e]

theorem x5_at (t : Fin cfg0.N) (p : Fin 2) (r : Fin 256) (j : Fin 128) :
    (show FVec Ideal S2x256x128 .f32 from iblk m c 5 t) (ix3 p r j) = (((qdfT (fun h => LF (4 * (t.val / 8) + h))) p.val r.val j.val : ℝ) : EReal) := by
  have hB := half_lt t
  refine Eq.trans (b := (show FVec Ideal S4x256x128 .f32 from V m c main_v58) (ix3 ⟨t.val / 8 * 2 + p.val, by omega⟩ r j)) ?_ ?_
  · blk_ext [iblk, idx t]
  · refine (qdf_at m c _ r j).trans ?_
    have e : (t.val / 8 * 2 + p.val) * 2 + j.val / 64 = 4 * (t.val / 8) + (2 * p.val + j.val / 64) := by omega
    dsimp only [qdfT]
    rw [e]

theorem x6_at (t : Fin cfg0.N) (p : Fin 2) (r : Fin 256) (j : Fin 128) :
    (show FVec Ideal S2x256x128 .f32 from iblk m c 6 t) (ix3 p r j) = (((kdfT (fun h => LF (4 * (t.val / 8) + h))) p.val r.val j.val : ℝ) : EReal) := by
  have hB := half_lt t
  refine Eq.trans (b := (show FVec Ideal S4x256x128 .f32 from V m c main_v71) (ix3 ⟨t.val / 8 * 2 + p.val, by omega⟩ r j)) ?_ ?_
  · blk_ext [iblk, idx t]
  · refine (kdf_at m c _ r j).trans ?_
    have e : (t.val / 8 * 2 + p.val) * 2 + j.val / 64 = 4 * (t.val / 8) + (2 * p.val + j.val / 64) := by omega
    dsimp only [kdfT]
    rw [e]

theorem x7_at (t : Fin cfg0.N) (p : Fin 2) (r : Fin 256) (j : Fin 128) :
    (show FVec Ideal S2x256x128 .f32 from iblk m c 7 t) (ix3 p r j) = (((qdbT (fun h => LB (4 * (t.val / 8) + h))) p.val r.val j.val : ℝ) : EReal) := by
  have hB := half_lt t
  refine Eq.trans (b := (show FVec Ideal S4x256x128 .f32 from V m c main_v84) (ix3 ⟨t.val / 8 * 2 + p.val, by omega⟩ r j)) ?_ ?_
  · blk_ext [iblk, idx t]
  · refine (qdb_at m c _ r j).trans ?_
    have e : (t.val / 8 * 2 + p.val) * 2 + j.val / 64 = 4 * (t.val / 8) + (2 * p.val + j.val / 64) := by omega
    dsimp only [qdbT]
    rw [e]

theorem x8_at (t : Fin cfg0.N) (p : Fin 2) (r : Fin 256) (j : Fin 128) :
    (show FVec Ideal S2x256x128 .f32 from iblk m c 8 t) (ix3 p r j) = (((kdbT (fun h => LB (4 * (t.val / 8) + h))) p.val r.val j.val : ℝ) : EReal) := by
  have hB := half_lt t
  refine Eq.trans (b := (show FVec Ideal S4x256x128 .f32 from V m c main_v95) (ix3 ⟨t.val / 8 * 2 + p.val, by omega⟩ r j)) ?_ ?_
  · blk_ext [iblk, idx t]
  · refine (kdb_at m c _ r j).trans ?_
    have e : (t.val / 8 * 2 + p.val) * 2 + j.val / 64 = 4 * (t.val / 8) + (2 * p.val + j.val / 64) := by omega
    dsimp only [kdbT]
    rw [e]

theorem x9_at (t : Fin cfg0.N) (p : Fin 2) (j : Fin 128) :
    (show FVec Ideal S2x1x128 .f32 from iblk m c 9 t) (ix3 p 0 j) = (((cT (fun h => LF (4 * (t.val / 8) + h))) p.val j.val : ℝ) : EReal) := by
  have hB := half_lt t
  refine Eq.trans (b := (show FVec Ideal S4x1x128 .f32 from V m c main_v104) (ix3 ⟨t.val / 8 * 2 + p.val, by omega⟩ 0 j)) ?_ ?_
  · blk_ext [iblk, idx t]
  · refine (cdf_at m c _ j).trans ?_
    have e : (t.val / 8 * 2 + p.val) * 2 + j.val / 64 = 4 * (t.val / 8) + (2 * p.val + j.val / 64) := by omega
    dsimp only [cT]
    rw [e]

theorem x10_at (t : Fin cfg0.N) (p : Fin 2) (j : Fin 128) :
    (show FVec Ideal S2x1x128 .f32 from iblk m c 10 t) (ix3 p 0 j) = (((cT (fun h => LB (4 * (t.val / 8) + h))) p.val j.val : ℝ) : EReal) := by
  have hB := half_lt t
  refine Eq.trans (b := (show FVec Ideal S4x1x128 .f32 from V m c main_v113) (ix3 ⟨t.val / 8 * 2 + p.val, by omega⟩ 0 j)) ?_ ?_
  · blk_ext [iblk, idx t]
  · refine (cdb_at m c _ j).trans ?_
    have e : (t.val / 8 * 2 + p.val) * 2 + j.val / 64 = 4 * (t.val / 8) + (2 * p.val + j.val / 64) := by omega
    dsimp only [cT]
    rw [e]

theorem x11_at (t : Fin cfg0.N) (r j : Fin 256) :
    (show FVec Ideal S256x256 .bf16 from iblk m c 11 t) (ix2 r j) = (((if r.val / 64 = j.val / 64 then 1 / 64 else 0 : ℝ)) : EReal) := by
  refine Eq.trans (b := (show FVec Ideal S256x256 .bf16 from V m c main_v124) (ix2 r j)) ?_ (avg_at m c r j)
  blk_ext [iblk, idx t]

theorem x12_at (t : Fin cfg0.N) (j : Fin 256) :
    (show FVec Ideal S1x256 .f32 from iblk m c 12 t) (ix2 0 j) = G m c (ix1 ⟨t.val / 8 * 256 + j.val, by have := half_lt t; omega⟩) := by
  have hB := half_lt t
  refine Eq.trans (b := (show FVec Ideal S1x512 .f32 from V m c main_v125) (ix2 0 ⟨t.val / 8 * 256 + j.val, by omega⟩)) ?_ (gnG_at m c _)
  blk_ext [iblk, idx t]

theorem x13_at (t : Fin cfg0.N) (j : Fin 256) :
    (show FVec Ideal S1x256 .f32 from iblk m c 13 t) (ix2 0 j) = H m c (ix1 ⟨t.val / 8 * 256 + j.val, by have := half_lt t; omega⟩) := by
  have hB := half_lt t
  refine Eq.trans (b := (show FVec Ideal S1x512 .f32 from V m c main_v126) (ix2 0 ⟨t.val / 8 * 256 + j.val, by omega⟩)) ?_ (gnB_at m c _)
  blk_ext [iblk, idx t]

/-- The result array's entry at a batch row, a position and a column. -/
def res (b : Fin 8) (s : Fin 4096) (k : Fin 512) : EReal := result (X m c) b (G m c (ix1 k)) (H m c (ix1 k)) s.val k.val

/-- What a grid point leaves in the output's buffer. -/
def outBlk (c : Dev nD) (t : Fin cfg0.N) : Vec Ideal S1x4096x256 .bf16 := fun i =>
  res m c (bt t) (i 1) ⟨t.val / 8 * 256 + (i 2).val, by have := half_lt t; have : (i 2).val < 256 := (i 2).isLt; omega⟩

theorem left_named (hX : ∀ c, Fin' (X m c)) (c : Dev nD) (t : Fin cfg0.N) (d e g h) :
    (ms0_14 t).view.read (Elt Ideal) (leftAt m c t d e g h) = outBlk m c t := by
  funext i
  obtain ⟨s, j, rfl⟩ : ∃ s j, i = ix3 0 s j := ⟨i 1, i 2, by
    funext a
    fin_cases a
    · exact Subsingleton.elim (α := Fin 1) _ _
    · rfl
    · rfl⟩
  have hB := half_lt t
  unfold leftAt
  refine (left_at (x0 := iblk m c 0 t) (x1 := iblk m c 1 t) (x2 := iblk m c 2 t) (x3 := iblk m c 3 t) (x4 := iblk m c 4 t) (x5 := iblk m c 5 t)
    (x6 := iblk m c 6 t) (x7 := iblk m c 7 t) (x8 := iblk m c 8 t) (x9 := iblk m c 9 t) (x10 := iblk m c 10 t) (x11 := iblk m c 11 t)
    (x12 := iblk m c 12 t) (x13 := iblk m c 13 t) _ _ _ _ _ _ _ _ _ _ _ _ _ _ _ _ _ _ _ _ _ _ _ _ _ _ _ _ _ _ _ _ _ _ _ _ _ _
    (fun s j => xr (X m c) (bt t) s (t.val / 8 * 256 + j)) (fun s j => xr (X m c) (bt t) s (512 + (t.val / 8 * 256 + j)))
    (fun s j => xr (X m c) (bt t) s (1024 + (t.val / 8 * 256 + j)))
    (dmT (fun h => LF (4 * (t.val / 8) + h)) (fun h => LB (4 * (t.val / 8) + h))) (qdfT (fun h => LF (4 * (t.val / 8) + h))) (kdfT (fun h => LF (4 * (t.val / 8) + h)))
    (qdbT (fun h => LB (4 * (t.val / 8) + h))) (kdbT (fun h => LB (4 * (t.val / 8) + h))) (cT (fun h => LF (4 * (t.val / 8) + h))) (cT (fun h => LB (4 * (t.val / 8) + h)))
    (x0_at m c (hX c) t) (x1_at m c (hX c) t) (x2_at m c (hX c) t) (x4_at m c t) (x5_at m c t) (x6_at m c t) (x7_at m c t) (x8_at m c t)
    (x9_at m c t) (x10_at m c t) (fun r l => if r / 64 = l / 64 then 1 / 64 else 0) (fun s j => xe (X m c) (bt t) s (1536 + (t.val / 8 * 256 + j)))
    (x11_at m c t) (x3_at m c t) d e g h s j).trans ?_
  refine (outOf_result (X m c) (bt t) _ _ _ (t.val / 8) _ _ s.val j.val s.isLt j.isLt
    (fun l hl => (rowS_eq _ _ _ _ _ s.val l s.isLt hl).trans (whole_glob (X m c) (bt t) (t.val / 8) s.val l)) (fun _ _ => rfl) rfl).trans ?_
  unfold outBlk res
  rw [show (iblk m c 12 t) (ix2 0 j) = _ from x12_at m c t j, show (iblk m c 13 t) (ix2 0 j) = _ from x13_at m c t j]
  rfl

/-- The result array after the run. -/
theorem final14 : (dats m (outBlk m) 0 c).arrAt 14 cfg0.N = (fun i => res m c (i 0) (i 1) (i 2) : FVec Ideal S8x4096x512 .bf16) := by
  refine (dats m (outBlk m) 0 c).arrAt_eq_of_covers 14 _ (by decide +kernel) fun t _ y => ?_
  blk_simp
  dsimp only [dats]
  idx_vars y
  obtain rfl : y0 = 0 := Subsingleton.elim _ _
  unfold outBlk
  have e0 : bt t = ((cfg0.win 14).blk t).view.emb (ix3 0 y1 y2) 0 := Fin.ext (by unfold bt; blk_simp [idx t]; simp)
  have e1 : y1 = ((cfg0.win 14).blk t).view.emb (ix3 0 y1 y2) 1 := Fin.ext (by blk_simp [idx t])
  have e2 : (⟨t.val / 8 * 256 + y2.val, by have := half_lt t; omega⟩ : Fin 512) = ((cfg0.win 14).blk t).view.emb (ix3 0 y1 y2) 2 := Fin.ext (by blk_simp [idx t])
  exact congr (congr (congrArg (res m c) e0) e1) e2

end Rt

end
-- ==== Proof.RetPair.lean ====
/- The retention call's value: its reference's frame, and kernel and reference ending with the same array where queries, keys and values are finite. -/
module

public import proofs.«01_k».proof.Defs
public import proofs.«01_k».proof.Proof.RetRef
public import proofs.«01_k».proof.Proof.RetVal
public import proofs.«01_k».proof.Proof.Gen.RetRefIdeal
public import Idealize.ShloMosaic.Lib.Claim

@[expose] public section

set_option maxRecDepth 16384

noncomputable section

open Idealize.ShloMosaic Idealize.ShloMosaic.TcCoe Idealize.SL.Sem

namespace Rt

/-- The precondition's side conditions. -/
theorem pre_facts : Cert.Pre_finite.Facts where
  bitsLt_bf16_f32 := by decide
  slices_S8x4096x2048_S8x4096x1536_0_0_0 := by decide
  bcast_S_S8x4096x1536 := by decide

/-- The reference runs, leaves its arguments as they were, and ends with every counter at zero. -/
theorem reference_frame_any (m g) : θ_run Cert.RetRefIdeal.defs (onTc (τ := Cert.RetRefIdeal.τ) (Cert.RetRefIdeal.main (F := Ideal))) ⟨m, fun _ => 0, g⟩
    (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2))
      ∧ r.2.sem = fun _ => 0) :=
  (θ_run Cert.RetRefIdeal.defs _ _).mono (fun r h => ⟨fun c => (h c).2, sem_eq_zero_of_no_sems (by decide) r.2⟩)
    (Cert.RetRefIdeal.Value.run (F := Ideal) m g)

theorem reference_frame : Cert.quiescent_RetRefIdeal (hRetRefIdeal := Cert.RetRefIdeal.Gen.facts) := fun m g _ => reference_frame_any m g

theorem reference_frame_pre : Cert.quiescent_RetRefIdeal_pre_finite (hRetRefIdeal := Cert.RetRefIdeal.Gen.facts) (hPre_finite := pre_facts) :=
  fun m g _ => reference_frame_any m g

theorem frame_pre : Cert.quiescent_RetIdeal_pre_finite (hRetIdeal := Cert.RetIdeal.Gen.facts) (hPre_finite := pre_facts) :=
  fun m g _ => frame_any m g

open Cert.Pre_finite in
/-- The precondition says every query, key and value of the row is a finite number. -/
theorem finite_row (a : FVec Ideal S8x4096x2048 .bf16) (g h : FVec Ideal S512 .f32)
    (hp : @Cert.Pre_finite.fn pre_facts Ideal _ a g h = fun _ => 1#1) : Fin' a := by
  intro b s k hk
  have := congrFun hp (ix3 b s ⟨k.val, hk⟩)
  revert this
  pointwise [Cert.Pre_finite.fn]
  have e : Ideal.ofBits FTy.f32 2139095040#32 = (⊤ : EReal) := by
    simp [Ideal.ofBits, Ideal.ieee]
  rw [e]
  intro hb
  have hlt := of_bit _ hb
  refine real_of_abs _ (fun ht => ?_) (fun ht => ?_) <;> rw [ht] at hlt <;> revert hlt
  · change ¬ (max (⊤ : EReal) (-⊤) < ⊤)
    simp
  · change ¬ (max (⊥ : EReal) (-⊥) < ⊤)
    simp

/-- Kernel and reference, on the same arguments with finite queries, keys and values, end with the same array. -/
theorem algebraic : Cert.algebraic_RetIdeal_RetRefIdeal_pre_finite (hRetIdeal := Cert.RetIdeal.Gen.facts)
    (hRetRefIdeal := Cert.RetRefIdeal.Gen.facts) (hPre_finite := pre_facts) := by
  intro m g m' g' hpre hagree
  have hX : ∀ c, Fin' (X m c) := fun c => finite_row _ _ _ (hpre c)
  refine ⟨fun c => (fun i => res m c (i 0) (i 1) (i 2) : FVec Ideal Cert.RetIdeal.S8x4096x512 .bf16), ?_, ?_⟩
  · refine (θ_run Cert.RetIdeal.defs _ _).mono (fun r h c => ?_) (run_named m g (outBlk m) (left_named m hX))
    open Cert.RetIdeal Cert.RetIdeal.Gen in
    exact ⟨((h.1 c).1 14).trans (final14 m c),
      ((h.1 c).1 3).trans (((dats m (outBlk m) 0 c).arrAt_in 3 rfl _).trans ((A_eq m (outBlk m) c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  · refine θ_run_mono (Cert.RetRefIdeal.Value.run m' g') ?_
    intro r hr c
    obtain ⟨h0, h1, h2⟩ := hagree c
    have e0 : Rt.Ref.X m' c = X m c := h0
    have e1 : Rt.Ref.G m' c = G m c := h1
    have e2 : Rt.Ref.H m' c = H m c := h2
    refine ⟨(hr c).1.trans ?_, (hr c).2⟩
    funext i
    obtain ⟨b, p, k, rfl⟩ : ∃ b p k, i = ix3 b p k := ⟨i 0, i 1, i 2, by funext a; fin_cases a <;> rfl⟩
    refine (Rt.Ref.out_at m' c (by rw [e0]; exact hX c) b p k).trans ?_
    rw [e0, e1, e2]
    rfl

end Rt

end
-- ==== Proof.FfnRef.lean ====
/- The channel mixer's reference read at an index: the row mathematics of `FfnSpec`. -/
module

public import proofs.«01_k».proof.Proof.FfnSpec
public import proofs.«01_k».proof.Proof.Gen.FfnRefIdeal.Run

@[expose] public section

set_option maxRecDepth 16384

noncomputable section

open Idealize.ShloMosaic Idealize.ShloMosaic.TcCoe Idealize.SL.Sem

namespace Ffn.Ref

open Cert.FfnRefIdeal Cert.FfnRefIdeal.Gen Cert.FfnRefIdeal.Value

variable (W : Valuation τ sig (Elt Ideal))

/-- The reference's arguments. -/
def args : Args 8 where
  X := W (Proc.devRef .tc main_arg0)
  ZH := W (Proc.devRef .tc main_arg1)
  ZR := W (Proc.devRef .tc main_arg2)
  HG := W (Proc.devRef .tc main_arg3)
  WO := W (Proc.devRef .tc main_arg4)
  NG := W (Proc.devRef .tc main_arg5)
  WU := W (Proc.devRef .tc main_arg6)
  CW := W (Proc.devRef .tc main_arg7)
  CB := W (Proc.devRef .tc main_arg8)
  WD := W (Proc.devRef .tc main_arg9)
  FG := W (Proc.devRef .tc main_arg10)

/-- The mixed rows. -/
theorem mixed_at (b : Fin 8) (p : Fin 4096) (k : Fin 1024) :
    (show FVec Ideal S8x4096x1024 .f32 from res_main_v17 W) (ix3 b p k) = (args W).mixed b p k := by
  pointwise [res_main_v17, res_main_v0]
  exact (add_assoc _ _ _).symm

/-- The padded up-projection. -/
theorem pad_at (b : Fin 8) (s : Fin 4098) (c : Fin 5632) :
    (show FVec Ideal S8x4098x5632 .f32 from res_main_v32 W) (ix3 b s c) = (args W).pad b s.val c := by
  pointwise [res_main_v32]
  unfold Args.pad
  split
  · next h =>
    have e : ∀ j, (show FVec Ideal S8x4096x1024 .f32 from res_main_v17 W) (ix3 b ⟨s.val - 1, h.2⟩ j) = (args W).mixed b ⟨s.val - 1, h.2⟩ j :=
      fun j => mixed_at W b ⟨s.val - 1, h.2⟩ j
    refine Finset.sum_congr rfl fun k _ => ?_
    refine Ideal.mul_congr (Ideal.mul_congr (Ideal.mul_congr (e k) (congrArg (fun z => Ideal.rsqrt (Ideal.div z _ + _)) ?_)) rfl) rfl
    exact Finset.sum_congr rfl fun j _ => Ideal.mul_congr (e j) (e j)
  · exact (show ((((0#32 : BitVec 32).toInt : ℤ) : ℝ) : EReal) = 0 by simp)

/-- The convolved rows. -/
theorem conv_at (b : Fin 8) (p : Fin 4096) (c : Fin 5632) :
    (show FVec Ideal S8x4096x5632 .f32 from res_main_v55 W) (ix3 b p c) = (args W).conv b p.val c := by
  pointwise [res_main_v55]
  refine Ideal.add_congr (Ideal.add_congr (Ideal.add_congr (Ideal.mul_congr ?_ rfl) (Ideal.mul_congr ?_ rfl)) (Ideal.mul_congr ?_ rfl)) rfl
  · exact pad_at W b ⟨p.val, by omega⟩ c
  · exact (pad_at W b ⟨1 + p.val, by omega⟩ c).trans (congrArg (fun s => (args W).pad b s c) (add_comm _ _))
  · exact (pad_at W b ⟨2 + p.val, by omega⟩ c).trans (congrArg (fun s => (args W).pad b s c) (add_comm _ _))

/-- The rows before the last norm. -/
theorem last_at (b : Fin 8) (p : Fin 4096) (k : Fin 1024) :
    (show FVec Ideal S8x4096x1024 .f32 from res_main_v73 W) (ix3 b p k)
      = (args W).mixed b p k + ∑ c : Fin 2816, (args W).gated b p.val c * (args W).WD (ix2 c k) := by
  pointwise [res_main_v73, res_main_v56]
  refine Ideal.add_congr (mixed_at W b p k) (Finset.sum_congr rfl fun c _ => Ideal.mul_congr ?_ rfl)
  have ea := conv_at W b p ⟨c.val, by omega⟩
  have eb := conv_at W b p ⟨2816 + c.val, by omega⟩
  unfold Args.gated gelu
  rw [← ea, ← eb]
  refine Ideal.mul_congr ?_ rfl
  rw [← mul_assoc]
  exact Ideal.mul_congr (mul_comm _ _) rfl

/-- The reference's result array: the composed term of its last operations is the row mathematics of its arguments. -/
theorem result_at (b : Fin 8) (p : Fin 4096) (k : Fin 1024) :
    (show FVec Ideal S8x4096x1024 .f32 from mulf (mulf (res_main_v73 W) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v73 W) (res_main_v73 W)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (W (Proc.devRef .tc main_arg10))))) (ix3 b p k) = (args W).result b p k := by
  pointwise
  refine Ideal.mul_congr (Ideal.mul_congr (last_at W b p k) (congrArg (fun z => Ideal.rsqrt (Ideal.div z _ + _)) ?_)) rfl
  exact Finset.sum_congr rfl fun j _ => Ideal.mul_congr (last_at W b p j) (last_at W b p j)

end Ffn.Ref
-- ==== Proof.FfnPay.lean ====
/- The channel mixer's payloads read at an index: each is the row mathematics of `FfnSpec` on the loaded blocks. -/
module

public import proofs.«01_k».proof.Proof.FfnSpec
public import proofs.«01_k».proof.Proof.Gen.FfnIdeal.Skeleton

@[expose] public section

set_option maxRecDepth 16384

noncomputable section

open Idealize.ShloMosaic Idealize.ShloMosaic.TcCoe Idealize.SL.Sem

namespace Ffn

open Cert.FfnIdeal Cert.FfnIdeal.Gen

/-- Row `r` of three stacked pieces of `8`, `512` and `8` rows. -/
def stack {n : ℕ} (r : Fin 528) (a : Fin 8 → Fin n → EReal) (b : Fin 512 → Fin n → EReal) (c : Fin 8 → Fin n → EReal) (j : Fin n) : EReal :=
  if h : r.val < 8 then a ⟨r.val, h⟩ j else if h' : r.val - 8 < 512 then b ⟨r.val - 8, h'⟩ j else c ⟨r.val - 8 - 512, by omega⟩ j

/-- Row `r` of the stacked window of a sequence: the last eight rows of the block before, the block, the first eight rows of the block after. -/
def ladder {n : ℕ} (a : FVec Ideal ⟨3, ![1, 16, n]⟩ .f32) (b : FVec Ideal ⟨3, ![1, 512, n]⟩ .f32) (c : FVec Ideal ⟨3, ![1, 16, n]⟩ .f32)
    (r : Fin 528) : Fin n → EReal :=
  stack r (fun u j => a (ix3 0 ⟨8 + u.val, by omega⟩ j)) (fun u j => b (ix3 0 u j)) (fun u j => c (ix3 0 ⟨u.val, by omega⟩ j))

/-- The normed rows of the convolution's output. -/
theorem pay2_at (a : FVec Ideal S1x16x512 .bf16) (b : FVec Ideal S1x512x512 .bf16) (c : FVec Ideal S1x16x512 .bf16) (g : FVec Ideal S1x512 .f32)
    (r : Fin 528) (k : Fin 512) :
    k0_pay2 (F := Ideal) a b c g (ix2 r k) = rms (Ideal.ofBits .f32 0x44000000#32) (ladder a b c r) (fun j => g (ix2 0 j)) k := by
  pointwise [k0_pay2]
  rfl

/-- The mixed rows. -/
theorem pay6_at (xa : FVec Ideal S1x16x1024 .f32) (xb : FVec Ideal S1x512x1024 .f32) (xc : FVec Ideal S1x16x1024 .f32)
    (ha : FVec Ideal S1x16x512 .bf16) (hb : FVec Ideal S1x512x512 .bf16) (hc : FVec Ideal S1x16x512 .bf16) (g : FVec Ideal S1x512 .f32)
    (wh : FVec Ideal S512x1024 .bf16) (ra : FVec Ideal S1x16x512 .bf16) (rb : FVec Ideal S1x512x512 .bf16) (rc : FVec Ideal S1x16x512 .bf16)
    (wr : FVec Ideal S512x1024 .bf16) (r : Fin 528) (k : Fin 1024) :
    k0_pay6 (F := Ideal) (k0_pay2 ha hb hc g) (k0_pay3 xa) (k0_pay4 xb) (k0_pay5 xc) wh ra rb rc wr (ix2 r k)
      = mix (ladder xa xb xc r) (ladder ha hb hc r) (ladder ra rb rc r) (fun j => g (ix2 0 j))
          (fun j k => wh (ix2 j k)) (fun j k => wr (ix2 j k)) k := by
  pointwise [k0_pay6, k0_pay3, k0_pay4, k0_pay5, pay2_at]
  rfl

/-- The second norm's rows, of the mixed rows. -/
theorem pay7_at (h : FVec Ideal S528x512 .bf16) (xa : FVec Ideal S8x1024 .f32) (xb : FVec Ideal S512x1024 .f32) (xc : FVec Ideal S8x1024 .f32)
    (wh : FVec Ideal S512x1024 .bf16) (ra : FVec Ideal S1x16x512 .bf16) (rb : FVec Ideal S1x512x512 .bf16) (rc : FVec Ideal S1x16x512 .bf16)
    (wr : FVec Ideal S512x1024 .bf16) (g : FVec Ideal S1x1024 .f32) (r : Fin 528) (k : Fin 1024) :
    k0_pay7 (F := Ideal) h xa xb xc wh ra rb rc wr g (ix2 r k)
      = rms (Ideal.ofBits .f32 0x44800000#32) (fun j => k0_pay6 (F := Ideal) h xa xb xc wh ra rb rc wr (ix2 r j)) (fun j => g (ix2 0 j)) k := by
  pointwise [k0_pay7]
  rfl

/-- Whether stacked row `r` of block `i` lies outside the sequence. -/
def outside (i : Fin 8) (r : Fin 528) : Prop := (r.val < 8 ∧ i.val = 0) ∨ (520 ≤ r.val ∧ i.val = 7)

instance (i : Fin 8) (r : Fin 528) : Decidable (outside i r) := inferInstanceAs (Decidable (_ ∨ _))

/-- The mask's bit, on words. -/
theorem mask_bit (i : Fin 8) (r : Fin 528) :
    (IntOp.ori
        (IntOp.andi (IntOp.cmpi CmpIPredicate.slt (BitVec.ofNat 32 r.val) 8#32)
          (Scalar.cmpi CmpIPredicate.eq (BitVec.ofNat 32 i.val) 0#32))
        (IntOp.andi (IntOp.cmpi CmpIPredicate.sge (BitVec.ofNat 32 r.val) 520#32)
          (Scalar.cmpi CmpIPredicate.eq (BitVec.ofNat 32 i.val) 7#32)) : BitVec 1) = if outside i r then 1#1 else 0#1 := by
  revert i r
  decide +kernel

/-- The masked rows. -/
theorem pay9_at (i : Fin 8) (y : FVec Ideal S528x1024 .f32) (r : Fin 528) (k : Fin 1024) :
    k0_pay9 (F := Ideal) (BitVec.ofNat 32 i.val) y (iota .tc S528x1 32 [0] iota_S528x1_d0_w32) k0_pay8 (ix2 r k)
      = if outside i r then 0 else y (ix2 r k) := by
  pointwise [k0_pay9, k0_pay8, mask_bit]
  split <;> rfl

/-- The first half's up-projection of the masked rows. -/
theorem pay10_at (i : Fin 8) (y : FVec Ideal S528x1024 .f32) (w : FVec Ideal S1024x2816 .bf16) (r : Fin 528) (c : Fin 2816) :
    k0_pay10 (F := Ideal) (BitVec.ofNat 32 i.val) y (iota .tc S528x1 32 [0] iota_S528x1_d0_w32) k0_pay8 w (ix2 r c)
      = if outside i r then 0 else ∑ k : Fin 1024, y (ix2 r k) * w (ix2 k c) := by
  pointwise [k0_pay10]
  split
  · next h => exact Finset.sum_eq_zero fun k _ => by rw [pay9_at, if_pos h]; exact zero_mul _
  · next h => exact Finset.sum_congr rfl fun k _ => by rw [pay9_at, if_neg h]

/-- The second half's up-projection of the masked rows. -/
theorem pay11_at (i : Fin 8) (y : FVec Ideal S528x1024 .f32) (w : FVec Ideal S1024x2816 .bf16) (r : Fin 528) (c : Fin 2816) :
    k0_pay11 (F := Ideal) (BitVec.ofNat 32 i.val) y (iota .tc S528x1 32 [0] iota_S528x1_d0_w32) k0_pay8 w (ix2 r c)
      = if outside i r then 0 else ∑ k : Fin 1024, y (ix2 r k) * w (ix2 k c) := by
  pointwise [k0_pay11]
  split
  · next h => exact Finset.sum_eq_zero fun k _ => by rw [pay9_at, if_pos h]; exact zero_mul _
  · next h => exact Finset.sum_congr rfl fun k _ => by rw [pay9_at, if_neg h]

/-- The gelu of the first half's convolution. -/
theorem pay14_at (u0 u1 u2 : FVec Ideal S512x2816 .f32) (w0 w1 w2 d : FVec Ideal S1x2816 .f32) (q : Fin 512) (c : Fin 2816) :
    k0_pay14 (F := Ideal) (k0_pay12 u0 w0) (k0_pay13 u1 w1) u2 w2 d (ix2 q c)
      = gelu (conv3 (u0 (ix2 q c)) (u1 (ix2 q c)) (u2 (ix2 q c)) (w0 (ix2 0 c)) (w1 (ix2 0 c)) (w2 (ix2 0 c)) (d (ix2 0 c))) := by
  pointwise [k0_pay14, k0_pay12, k0_pay13]
  rfl

/-- What the body stores, at row `q` of its block: the last norm of the mixed row and the gated row's down-projection. -/
theorem pay1_at (y : FVec Ideal S528x1024 .f32) (t : FVec Ideal S512x2816 .f32) (u0 u1 u2 : FVec Ideal S512x2816 .f32)
    (w0 w1 w2 d : FVec Ideal S1x2816 .f32) (wd : FVec Ideal S2816x1024 .bf16) (g : FVec Ideal S1x1024 .f32) (q : Fin 512) (k : Fin 1024) :
    k0_pay1 (F := Ideal) y t (k0_pay15 u0 w0 u1 w1) u2 (k0_pay16 w2) d wd g (ix3 0 q k)
      = out (fun k => y (ix2 ⟨8 + q.val, by omega⟩ k))
          (fun c => t (ix2 q c) * conv3 (u0 (ix2 q c)) (u1 (ix2 q c)) (u2 (ix2 q c)) (w0 (ix2 0 c)) (w1 (ix2 0 c)) (w2 (ix2 0 c)) (d (ix2 0 c)))
          (fun c k => wd (ix2 c k)) (fun k => g (ix2 0 k)) k := by
  pointwise [k0_pay1, k0_pay15, k0_pay16]
  rfl

end Ffn
-- ==== Proof.FfnTile.lean ====
/- What one grid point of the channel mixer stores, for a batch of any size: the row mathematics of `FfnSpec`, from what its blocks hold. -/
module

public import proofs.«01_k».proof.Proof.FfnPay

@[expose] public section

set_option maxRecDepth 16384

noncomputable section

open Idealize.ShloMosaic Idealize.ShloMosaic.TcCoe Idealize.SL.Sem

namespace Ffn

open Cert.FfnIdeal Cert.FfnIdeal.Gen

/-- The blocks that a grid point loads for batch row `b` and block `i` of positions, and what they hold of the arguments `A`. -/
structure Tile {B : ℕ} (A : Args B) (b : Fin B) (i : Fin 8) where
  x0 : FVec Ideal S1x16x1024 .f32
  x1 : FVec Ideal S1x512x1024 .f32
  x2 : FVec Ideal S1x16x1024 .f32
  h0 : FVec Ideal S1x16x512 .bf16
  h1 : FVec Ideal S1x512x512 .bf16
  h2 : FVec Ideal S1x16x512 .bf16
  r0 : FVec Ideal S1x16x512 .bf16
  r1 : FVec Ideal S1x512x512 .bf16
  r2 : FVec Ideal S1x16x512 .bf16
  hg : FVec Ideal S1x512 .f32
  woh : FVec Ideal S512x1024 .bf16
  wor : FVec Ideal S512x1024 .bf16
  ng : FVec Ideal S1x1024 .f32
  wa : FVec Ideal S1024x2816 .bf16
  wb : FVec Ideal S1024x2816 .bf16
  cwa : FVec Ideal S3x2816 .f32
  cwb : FVec Ideal S3x2816 .f32
  cba : FVec Ideal S1x2816 .f32
  cbb : FVec Ideal S1x2816 .f32
  wd : FVec Ideal S2816x1024 .bf16
  fg : FVec Ideal S1x1024 .f32
  x_rows : ∀ (r : Fin 528) (p : Fin 4096), p.val + 8 = i.val * 512 + r.val → ladder x0 x1 x2 r = fun j => A.X (ix3 b p j)
  h_rows : ∀ (r : Fin 528) (p : Fin 4096), p.val + 8 = i.val * 512 + r.val → ladder h0 h1 h2 r = fun j => A.ZH (ix3 b p j)
  r_rows : ∀ (r : Fin 528) (p : Fin 4096), p.val + 8 = i.val * 512 + r.val → ladder r0 r1 r2 r = fun j => A.ZR (ix3 b p j)
  hg_at : ∀ j : Fin 512, hg (ix2 0 j) = A.HG (ix1 j)
  woh_at : ∀ (j : Fin 512) (k : Fin 1024), woh (ix2 j k) = A.WO (ix2 ⟨j.val, by omega⟩ k)
  wor_at : ∀ (j : Fin 512) (k : Fin 1024), wor (ix2 j k) = A.WO (ix2 ⟨512 + j.val, by omega⟩ k)
  ng_at : ∀ j : Fin 1024, ng (ix2 0 j) = A.NG (ix1 j)
  wa_at : ∀ (k : Fin 1024) (j : Fin 2816), wa (ix2 k j) = A.WU (ix2 k ⟨j.val, by omega⟩)
  wb_at : ∀ (k : Fin 1024) (j : Fin 2816), wb (ix2 k j) = A.WU (ix2 k ⟨2816 + j.val, by omega⟩)
  cwa_at : ∀ (k : Fin 3) (j : Fin 2816), cwa (ix2 k j) = A.CW (ix2 k ⟨j.val, by omega⟩)
  cwb_at : ∀ (k : Fin 3) (j : Fin 2816), cwb (ix2 k j) = A.CW (ix2 k ⟨2816 + j.val, by omega⟩)
  cba_at : ∀ j : Fin 2816, cba (ix2 0 j) = A.CB (ix1 ⟨j.val, by omega⟩)
  cbb_at : ∀ j : Fin 2816, cbb (ix2 0 j) = A.CB (ix1 ⟨2816 + j.val, by omega⟩)
  wd_at : ∀ (j : Fin 2816) (k : Fin 1024), wd (ix2 j k) = A.WD (ix2 j k)
  fg_at : ∀ j : Fin 1024, fg (ix2 0 j) = A.FG (ix1 j)

/-- Equal rows and weights, equal results. -/
theorem out_congr {y y' : Fin 1024 → EReal} {t t' : Fin 2816 → EReal} {wd wd' : Fin 2816 → Fin 1024 → EReal} {g g' : Fin 1024 → EReal}
    (hy : ∀ k, y k = y' k) (ht : ∀ j, t j = t' j) (hw : ∀ j k, wd j k = wd' j k) (hg : ∀ k, g k = g' k) (k : Fin 1024) :
    out y t wd g k = out y' t' wd' g' k := by
  obtain rfl := funext hy
  obtain rfl := funext ht
  obtain rfl := funext fun j => funext (hw j)
  obtain rfl := funext hg
  rfl

namespace Tile

variable {B : ℕ} {A : Args B} {b : Fin B} {i : Fin 8} (T : Tile A b i)

/-- The mixed rows of the stacked window. -/
def mixed : FVec Ideal S528x1024 .f32 :=
  k0_pay6 (k0_pay2 T.h0 T.h1 T.h2 T.hg) (k0_pay3 T.x0) (k0_pay4 T.x1) (k0_pay5 T.x2) T.woh T.r0 T.r1 T.r2 T.wor

/-- Their second norm. -/
def normed : FVec Ideal S528x1024 .f32 :=
  k0_pay7 (k0_pay2 T.h0 T.h1 T.h2 T.hg) (k0_pay3 T.x0) (k0_pay4 T.x1) (k0_pay5 T.x2) T.woh T.r0 T.r1 T.r2 T.wor T.ng

/-- The first half's up-projection of the stacked window. -/
def upa : FVec Ideal S528x2816 .f32 :=
  k0_pay10 (BitVec.ofNat 32 i.val) T.normed (iota .tc S528x1 32 [0] iota_S528x1_d0_w32) k0_pay8 T.wa

/-- The second half's up-projection of the stacked window. -/
def upb : FVec Ideal S528x2816 .f32 :=
  k0_pay11 (BitVec.ofNat 32 i.val) T.normed (iota .tc S528x1 32 [0] iota_S528x1_d0_w32) k0_pay8 T.wb

/-- A mixed row inside the sequence is the row mathematics' row. -/
theorem mixed_at (r : Fin 528) (p : Fin 4096) (hp : p.val + 8 = i.val * 512 + r.val) (k : Fin 1024) :
    T.mixed (ix2 r k) = A.mixed b p k := by
  refine (pay6_at ..).trans ?_
  unfold Args.mixed
  rw [T.x_rows r p hp, T.h_rows r p hp, T.r_rows r p hp]
  exact congr (congrArg₂ (mix _ _ _) (funext T.hg_at) (funext fun j => funext (T.woh_at j))) (funext fun j => funext (T.wor_at j)) |> (congrFun · k)

/-- The up-projection of a stacked row, by whichever half of the columns: the row mathematics' padded row. -/
theorem up_at (r : Fin 528) (s : ℕ) (hs : s + 7 = i.val * 512 + r.val) (hs' : s < 4098) (f : Fin 2816 → Fin 5632) (w : FVec Ideal S1024x2816 .bf16)
    (hw : ∀ k j, w (ix2 k j) = A.WU (ix2 k (f j))) (j : Fin 2816) :
    (if outside i r then 0 else ∑ k : Fin 1024, T.normed (ix2 r k) * w (ix2 k j)) = A.pad b s (f j) := by
  have hr := r.isLt
  unfold Args.pad Args.up
  by_cases h : outside i r
  · rw [if_pos h, dif_neg]
    unfold outside at h
    omega
  · have h1 : 1 ≤ s ∧ s - 1 < 4096 := by
      have hi := i.isLt
      unfold outside at h
      omega
    rw [if_neg h, dif_pos h1]
    refine Finset.sum_congr rfl fun k _ => ?_
    refine Ideal.mul_congr ((pay7_at ..).trans ?_) (hw k j)
    exact congrFun (congrArg₂ (rms _) (funext fun j => T.mixed_at r ⟨s - 1, h1.2⟩ (by dsimp only; omega) j) (funext T.ng_at)) k

/-- The first half's row is the row mathematics' padded row. -/
theorem upa_at (r : Fin 528) (s : ℕ) (hs : s + 7 = i.val * 512 + r.val) (hs' : s < 4098) (j : Fin 2816) :
    T.upa (ix2 r j) = A.pad b s ⟨j.val, by omega⟩ :=
  (pay10_at i ..).trans (T.up_at r s hs hs' (fun j => ⟨j.val, by omega⟩) _ T.wa_at j)

/-- The second half's row is the row mathematics' padded row. -/
theorem upb_at (r : Fin 528) (s : ℕ) (hs : s + 7 = i.val * 512 + r.val) (hs' : s < 4098) (j : Fin 2816) :
    T.upb (ix2 r j) = A.pad b s ⟨2816 + j.val, by omega⟩ :=
  (pay11_at i ..).trans (T.up_at r s hs hs' (fun j => ⟨2816 + j.val, by omega⟩) _ T.wb_at j)

/-- What the body stores at row `q` of its block, `u` and `v` being the two halves' shifted rows and `c` and `d` their taps: the result at the row's position. -/
theorem stored (q : Fin 512) (k : Fin 1024) (p : Fin 4096) (hp : p.val = i.val * 512 + q.val)
    (u0 u1 u2 v0 v1 v2 : FVec Ideal S512x2816 .f32) (c0 c1 c2 d0 d1 d2 : FVec Ideal S1x2816 .f32)
    (hu0 : ∀ j, u0 (ix2 q j) = T.upa (ix2 ⟨7 + q.val, by omega⟩ j)) (hu1 : ∀ j, u1 (ix2 q j) = T.upa (ix2 ⟨8 + q.val, by omega⟩ j))
    (hu2 : ∀ j, u2 (ix2 q j) = T.upa (ix2 ⟨9 + q.val, by omega⟩ j))
    (hv0 : ∀ j, v0 (ix2 q j) = T.upb (ix2 ⟨7 + q.val, by omega⟩ j)) (hv1 : ∀ j, v1 (ix2 q j) = T.upb (ix2 ⟨8 + q.val, by omega⟩ j))
    (hv2 : ∀ j, v2 (ix2 q j) = T.upb (ix2 ⟨9 + q.val, by omega⟩ j))
    (hc0 : ∀ j, c0 (ix2 0 j) = T.cwa (ix2 0 j)) (hc1 : ∀ j, c1 (ix2 0 j) = T.cwa (ix2 1 j)) (hc2 : ∀ j, c2 (ix2 0 j) = T.cwa (ix2 2 j))
    (hd0 : ∀ j, d0 (ix2 0 j) = T.cwb (ix2 0 j)) (hd1 : ∀ j, d1 (ix2 0 j) = T.cwb (ix2 1 j)) (hd2 : ∀ j, d2 (ix2 0 j) = T.cwb (ix2 2 j)) :
    k0_pay1 (F := Ideal) T.mixed (k0_pay14 (k0_pay12 u0 c0) (k0_pay13 u1 c1) u2 c2 T.cba) (k0_pay15 v0 d0 v1 d1) v2 (k0_pay16 d2) T.cbb T.wd T.fg
      (ix3 0 q k) = A.result b p k := by
  rw [pay1_at]
  unfold Args.result
  refine out_congr (fun k => T.mixed_at ⟨8 + q.val, by omega⟩ p (by dsimp only; omega) k) (fun j => ?_) T.wd_at T.fg_at k
  unfold Args.gated
  have hi := i.isLt
  refine Ideal.mul_congr ((pay14_at ..).trans (congrArg gelu (conv3_congr ?_ ?_ ?_ ?_ ?_ ?_ (T.cba_at j)))) (conv3_congr ?_ ?_ ?_ ?_ ?_ ?_ (T.cbb_at j))
  · exact (hu0 j).trans (T.upa_at _ _ (by dsimp only; omega) (by omega) j)
  · exact (hu1 j).trans (T.upa_at _ _ (by dsimp only; omega) (by omega) j)
  · exact (hu2 j).trans (T.upa_at _ _ (by dsimp only; omega) (by omega) j)
  · exact (hc0 j).trans (T.cwa_at 0 j)
  · exact (hc1 j).trans (T.cwa_at 1 j)
  · exact (hc2 j).trans (T.cwa_at 2 j)
  · exact (hv0 j).trans (T.upb_at _ _ (by dsimp only; omega) (by omega) j)
  · exact (hv1 j).trans (T.upb_at _ _ (by dsimp only; omega) (by omega) j)
  · exact (hv2 j).trans (T.upb_at _ _ (by dsimp only; omega) (by omega) j)
  · exact (hd0 j).trans (T.cwb_at 0 j)
  · exact (hd1 j).trans (T.cwb_at 1 j)
  · exact (hd2 j).trans (T.cwb_at 2 j)

end Tile

end Ffn
-- ==== Proof.FfnVal.lean ====
/- The channel mixer's result array: what each grid point stores is the row mathematics of `FfnSpec` on the argument arrays. -/
module

public import proofs.«01_k».proof.Proof.FfnTile
public import proofs.«01_k».proof.Proof.Gen.FfnIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Ffn

open Cert.FfnIdeal Cert.FfnIdeal.Gen

variable (m : (ℓ : Loc nD τ sig) → Buf (Elt Ideal) ℓ) (c : Dev nD)

/-- The kernel's arguments. -/
def args : Args 8 where
  X := m ((c : Thread nD τ).loc main_arg0)
  ZH := m ((c : Thread nD τ).loc main_arg1)
  ZR := m ((c : Thread nD τ).loc main_arg2)
  HG := m ((c : Thread nD τ).loc main_arg3)
  WO := m ((c : Thread nD τ).loc main_arg4)
  NG := m ((c : Thread nD τ).loc main_arg5)
  WU := m ((c : Thread nD τ).loc main_arg6)
  CW := m ((c : Thread nD τ).loc main_arg7)
  CB := m ((c : Thread nD τ).loc main_arg8)
  WD := m ((c : Thread nD τ).loc main_arg9)
  FG := m ((c : Thread nD τ).loc main_arg10)

/-- The index maps of the windows that move, and the grid point's second coordinate. -/
theorem idx : ∀ t : Fin cfg0.N,
    win0_0.index t = ![t.val / 8, (t.val % 8) * 32 - 1, 0] ∧ win0_1.index t = ![t.val / 8, t.val % 8, 0]
    ∧ win0_2.index t = ![t.val / 8, min ((t.val % 8 + 1) * 32) 255, 0]
    ∧ win0_3.index t = ![t.val / 8, (t.val % 8) * 32 - 1, 0] ∧ win0_4.index t = ![t.val / 8, t.val % 8, 0]
    ∧ win0_5.index t = ![t.val / 8, min ((t.val % 8 + 1) * 32) 255, 0]
    ∧ win0_6.index t = ![t.val / 8, (t.val % 8) * 32 - 1, 0] ∧ win0_7.index t = ![t.val / 8, t.val % 8, 0]
    ∧ win0_8.index t = ![t.val / 8, min ((t.val % 8 + 1) * 32) 255, 0]
    ∧ win0_21.index t = ![t.val / 8, t.val % 8, 0] ∧ (grid0.coords t 1).val = t.val % 8 ∧ t.val / 8 < 8 :=
  (by decide +kernel : ∀ t : Fin grid0.N, _)

/-- The index maps of the windows that stand still. -/
theorem idx_const : ∀ t : Fin cfg0.N,
    win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

/-- The batch row of grid point `t`. -/
def batch (t : Fin cfg0.N) : Fin 8 := ⟨t.val / 8, (idx t).2.2.2.2.2.2.2.2.2.2.2⟩

/-- The residual's stacked rows are the sequence's. -/
theorem x_rows (t : Fin cfg0.N) (r : Fin 528) (p : Fin 4096) (hp : p.val + 8 = t.val % 8 * 512 + r.val) :
    ladder (iblk m c 0 t) (iblk m c 1 t) (iblk m c 2 t) r = fun j => (args m c).X (ix3 (batch t) p j) := by
  funext j
  unfold ladder stack batch
  have hr := r.isLt
  split
  · blk_ext [iblk, V, idx t, args]
  · split <;> blk_ext [iblk, V, idx t, args]

/-- The convolution's stacked rows are the sequence's. -/
theorem h_rows (t : Fin cfg0.N) (r : Fin 528) (p : Fin 4096) (hp : p.val + 8 = t.val % 8 * 512 + r.val) :
    ladder (iblk m c 3 t) (iblk m c 4 t) (iblk m c 5 t) r = fun j => (args m c).ZH (ix3 (batch t) p j) := by
  funext j
  unfold ladder stack batch
  have hr := r.isLt
  split
  · blk_ext [iblk, V, idx t, args]
  · split <;> blk_ext [iblk, V, idx t, args]

/-- The retention's stacked rows are the sequence's. -/
theorem r_rows (t : Fin cfg0.N) (r : Fin 528) (p : Fin 4096) (hp : p.val + 8 = t.val % 8 * 512 + r.val) :
    ladder (iblk m c 6 t) (iblk m c 7 t) (iblk m c 8 t) r = fun j => (args m c).ZR (ix3 (batch t) p j) := by
  funext j
  unfold ladder stack batch
  have hr := r.isLt
  split
  · blk_ext [iblk, V, idx t, args]
  · split <;> blk_ext [iblk, V, idx t, args]

set_option maxHeartbeats 2000000 in
/-- The weight windows' blocks, read at an index: the argument's slice. -/
theorem weights (t : Fin cfg0.N) :
    (∀ j : Fin 512, iblk m c 9 t (ix2 0 j : S1x512.Idx) = (args m c).HG (ix1 j))
    ∧ (∀ (j : Fin 512) (k : Fin 1024), iblk m c 10 t (ix2 j k : S512x1024.Idx) = (args m c).WO (ix2 ⟨j.val, by omega⟩ k))
    ∧ (∀ (j : Fin 512) (k : Fin 1024), iblk m c 11 t (ix2 j k : S512x1024.Idx) = (args m c).WO (ix2 ⟨512 + j.val, by omega⟩ k))
    ∧ (∀ j : Fin 1024, iblk m c 12 t (ix2 0 j : S1x1024.Idx) = (args m c).NG (ix1 j))
    ∧ (∀ (k : Fin 1024) (j : Fin 2816), iblk m c 13 t (ix2 k j : S1024x2816.Idx) = (args m c).WU (ix2 k ⟨j.val, by omega⟩))
    ∧ (∀ (k : Fin 1024) (j : Fin 2816), iblk m c 14 t (ix2 k j : S1024x2816.Idx) = (args m c).WU (ix2 k ⟨2816 + j.val, by omega⟩))
    ∧ (∀ (k : Fin 3) (j : Fin 2816), iblk m c 15 t (ix2 k j : S3x2816.Idx) = (args m c).CW (ix2 k ⟨j.val, by omega⟩))
    ∧ (∀ (k : Fin 3) (j : Fin 2816), iblk m c 16 t (ix2 k j : S3x2816.Idx) = (args m c).CW (ix2 k ⟨2816 + j.val, by omega⟩))
    ∧ (∀ j : Fin 2816, iblk m c 17 t (ix2 0 j : S1x2816.Idx) = (args m c).CB (ix1 ⟨j.val, by omega⟩))
    ∧ (∀ j : Fin 2816, iblk m c 18 t (ix2 0 j : S1x2816.Idx) = (args m c).CB (ix1 ⟨2816 + j.val, by omega⟩))
    ∧ (∀ (j : Fin 2816) (k : Fin 1024), iblk m c 19 t (ix2 j k : S2816x1024.Idx) = (args m c).WD (ix2 j k))
    ∧ (∀ j : Fin 1024, iblk m c 20 t (ix2 0 j : S1x1024.Idx) = (args m c).FG (ix1 j)) := by
  refine ⟨?_, ?_, ?_, ?_, ?_, ?_, ?_, ?_, ?_, ?_, ?_, ?_⟩ <;> intros <;> blk_simp [iblk] <;> entry_read <;> pointwise [args] <;>
    blk_ext [idx_const t]

/-- Grid point `t`'s blocks and what they hold. -/
def tile (t : Fin cfg0.N) : Tile (args m c) (batch t) ⟨t.val % 8, by omega⟩ where
  x0 := iblk m c 0 t
  x1 := iblk m c 1 t
  x2 := iblk m c 2 t
  h0 := iblk m c 3 t
  h1 := iblk m c 4 t
  h2 := iblk m c 5 t
  r0 := iblk m c 6 t
  r1 := iblk m c 7 t
  r2 := iblk m c 8 t
  hg := iblk m c 9 t
  woh := iblk m c 10 t
  wor := iblk m c 11 t
  ng := iblk m c 12 t
  wa := iblk m c 13 t
  wb := iblk m c 14 t
  cwa := iblk m c 15 t
  cwb := iblk m c 16 t
  cba := iblk m c 17 t
  cbb := iblk m c 18 t
  wd := iblk m c 19 t
  fg := iblk m c 20 t
  x_rows := x_rows m c t
  h_rows := h_rows m c t
  r_rows := r_rows m c t
  hg_at := (weights m c t).1
  woh_at := (weights m c t).2.1
  wor_at := (weights m c t).2.2.1
  ng_at := (weights m c t).2.2.2.1
  wa_at := (weights m c t).2.2.2.2.1
  wb_at := (weights m c t).2.2.2.2.2.1
  cwa_at := (weights m c t).2.2.2.2.2.2.1
  cwb_at := (weights m c t).2.2.2.2.2.2.2.1
  cba_at := (weights m c t).2.2.2.2.2.2.2.2.1
  cbb_at := (weights m c t).2.2.2.2.2.2.2.2.2.1
  wd_at := (weights m c t).2.2.2.2.2.2.2.2.2.2.1
  fg_at := (weights m c t).2.2.2.2.2.2.2.2.2.2.2

set_option maxHeartbeats 2000000 in
/-- The result array is the row mathematics of the argument arrays. -/
theorem final : (dats m 0 c).arrAt 21 cfg0.N = (fun i => (args m c).result (i 0) (i 1) (i 2) : FVec Ideal S8x4096x1024 .f32) := by
  refine (dats m 0 c).arrAt_eq_of_covers 21 _ (by decide +kernel) fun t _ y => ?_
  blk_simp
  rw [after0_21]; unfold Gen.outsAt0; frame_open
  simp (disch := decide) only [↓ View.readCov_skip, ↓ View.readCov_cons_toLoadRect, ↓ View.readCov_fill]
  frame_out
  idx_vars y
  obtain rfl : y0 = 0 := Subsingleton.elim _ _
  have hc : (grid0.coords t 1).val = t.val % 8 := (idx t).2.2.2.2.2.2.2.2.2.2.1
  rw [hc]
  have e0 : batch t = ((cfg0.win 21).blk t).view.emb (ix3 0 y1 y2) 0 := Fin.ext (by unfold batch; blk_simp [idx t]; simp)
  have e1 : (⟨t.val % 8 * 512 + y1.val, by omega⟩ : Fin 4096) = ((cfg0.win 21).blk t).view.emb (ix3 0 y1 y2) 1 := Fin.ext (by blk_simp [idx t])
  have e2 : y2 = ((cfg0.win 21).blk t).view.emb (ix3 0 y1 y2) 2 := Fin.ext (by blk_simp [idx t])
  refine Eq.trans ?_ (congr (congrArg₂ (args m c).result e0 e1) e2)
  refine (tile m c t).stored y1 y2 ⟨t.val % 8 * 512 + y1.val, by omega⟩ rfl _ _ _ _ _ _ _ _ _ _ _ _ ?_ ?_ ?_ ?_ ?_ ?_ ?_ ?_ ?_ ?_ ?_ ?_
  all_goals
    intro j
    pointwise
  all_goals rfl

end Ffn
-- ==== Proof.FfnClaim.lean ====
/- The channel mixer's claims: its reference's frame, and kernel and reference ending with the same array. -/
module

public import proofs.«01_k».proof.Defs
public import proofs.«01_k».proof.Proof.FfnRef
public import proofs.«01_k».proof.Proof.FfnVal
public import proofs.«01_k».proof.Proof.Gen.FfnRefIdeal
public import Idealize.ShloMosaic.Lib.Claim

@[expose] public section

set_option maxRecDepth 16384

noncomputable section

open Idealize.ShloMosaic Idealize.ShloMosaic.TcCoe Idealize.SL.Sem

namespace Ffn

/-- The reference runs, leaves its arguments as they were, and ends with every counter at zero. -/
theorem reference_frame : Cert.quiescent_FfnRefIdeal (hFfnRefIdeal := Cert.FfnRefIdeal.Gen.facts) := by
  intro m g _
  exact (θ_run Cert.FfnRefIdeal.defs _ _).mono (fun r h => ⟨fun c => (h c).2, sem_eq_zero_of_no_sems (by decide) r.2⟩)
    (Cert.FfnRefIdeal.Value.run (F := Ideal) m g)

/-- Kernel and reference, on the same arguments, end with the same array. -/
theorem algebraic : Cert.algebraic_FfnIdeal_FfnRefIdeal (hFfnIdeal := Cert.FfnIdeal.Gen.facts) (hFfnRefIdeal := Cert.FfnRefIdeal.Gen.facts) := by
  pair_intro
  · run_from (Cert.FfnIdeal.Value.run_blocks m g)
  · refine θ_run_mono (Cert.FfnRefIdeal.Value.run m' g') ?_
    intro r hr c
    refine ⟨(hr c).1.trans ?_, (hr c).2⟩
    funext i
    obtain ⟨b, p, k, rfl⟩ : ∃ b p k, i = ix3 b p k := ⟨i 0, i 1, i 2, by funext a; fin_cases a <;> rfl⟩
    refine (Ffn.Ref.result_at _ b p k).trans ?_
    have e : Ffn.Ref.args (StableHlo.launchContents m' c) = Ffn.args m c := by
      unfold Ffn.Ref.args Ffn.args
      have h := hagree c
      obtain ⟨h0, h1, h2, h3, h4, h5, h6, h7, h8, h9, h10⟩ := h
      exact Args.mk.injEq .. |>.mpr ⟨h0, h1, h2, h3, h4, h5, h6, h7, h8, h9, h10⟩
    rw [e, Ffn.final]
    rfl

end Ffn
end
-- ==== Proof.SmpRef.lean ====
/- The sample's channel mixer's reference read at an index: the row mathematics of `FfnSpec`. -/
module

public import proofs.«01_k».proof.Proof.FfnSpec
public import proofs.«01_k».proof.Proof.Gen.SmpRefIdeal.Run

@[expose] public section

set_option maxRecDepth 16384

noncomputable section

open Idealize.ShloMosaic Idealize.ShloMosaic.TcCoe Idealize.SL.Sem

namespace Ffn.Smp.Ref

open Cert.SmpRefIdeal Cert.SmpRefIdeal.Gen Cert.SmpRefIdeal.Value

variable (W : Valuation τ sig (Elt Ideal))

/-- The reference's arguments. -/
def args : Args 4 where
  X := W (Proc.devRef .tc main_arg0)
  ZH := W (Proc.devRef .tc main_arg1)
  ZR := W (Proc.devRef .tc main_arg2)
  HG := W (Proc.devRef .tc main_arg3)
  WO := W (Proc.devRef .tc main_arg4)
  NG := W (Proc.devRef .tc main_arg5)
  WU := W (Proc.devRef .tc main_arg6)
  CW := W (Proc.devRef .tc main_arg7)
  CB := W (Proc.devRef .tc main_arg8)
  WD := W (Proc.devRef .tc main_arg9)
  FG := W (Proc.devRef .tc main_arg10)

/-- The mixed rows. -/
theorem mixed_at (b : Fin 4) (p : Fin 4096) (k : Fin 1024) :
    (show FVec Ideal S4x4096x1024 .f32 from res_main_v17 W) (ix3 b p k) = (args W).mixed b p k := by
  pointwise [res_main_v17, res_main_v0]
  exact (add_assoc _ _ _).symm

/-- The padded up-projection. -/
theorem pad_at (b : Fin 4) (s : Fin 4098) (c : Fin 5632) :
    (show FVec Ideal S4x4098x5632 .f32 from res_main_v32 W) (ix3 b s c) = (args W).pad b s.val c := by
  pointwise [res_main_v32]
  unfold Args.pad
  split
  · next h =>
    have e : ∀ j, (show FVec Ideal S4x4096x1024 .f32 from res_main_v17 W) (ix3 b ⟨s.val - 1, h.2⟩ j) = (args W).mixed b ⟨s.val - 1, h.2⟩ j :=
      fun j => mixed_at W b ⟨s.val - 1, h.2⟩ j
    refine Finset.sum_congr rfl fun k _ => ?_
    refine Ideal.mul_congr (Ideal.mul_congr (Ideal.mul_congr (e k) (congrArg (fun z => Ideal.rsqrt (Ideal.div z _ + _)) ?_)) rfl) rfl
    exact Finset.sum_congr rfl fun j _ => Ideal.mul_congr (e j) (e j)
  · exact (show ((((0#32 : BitVec 32).toInt : ℤ) : ℝ) : EReal) = 0 by simp)

/-- The convolved rows. -/
theorem conv_at (b : Fin 4) (p : Fin 4096) (c : Fin 5632) :
    (show FVec Ideal S4x4096x5632 .f32 from res_main_v55 W) (ix3 b p c) = (args W).conv b p.val c := by
  pointwise [res_main_v55]
  refine Ideal.add_congr (Ideal.add_congr (Ideal.add_congr (Ideal.mul_congr ?_ rfl) (Ideal.mul_congr ?_ rfl)) (Ideal.mul_congr ?_ rfl)) rfl
  · exact pad_at W b ⟨p.val, by omega⟩ c
  · exact (pad_at W b ⟨1 + p.val, by omega⟩ c).trans (congrArg (fun s => (args W).pad b s c) (add_comm _ _))
  · exact (pad_at W b ⟨2 + p.val, by omega⟩ c).trans (congrArg (fun s => (args W).pad b s c) (add_comm _ _))

/-- The rows before the last norm. -/
theorem last_at (b : Fin 4) (p : Fin 4096) (k : Fin 1024) :
    (show FVec Ideal S4x4096x1024 .f32 from res_main_v73 W) (ix3 b p k)
      = (args W).mixed b p k + ∑ c : Fin 2816, (args W).gated b p.val c * (args W).WD (ix2 c k) := by
  pointwise [res_main_v73, res_main_v56]
  refine Ideal.add_congr (mixed_at W b p k) (Finset.sum_congr rfl fun c _ => Ideal.mul_congr ?_ rfl)
  have ea := conv_at W b p ⟨c.val, by omega⟩
  have eb := conv_at W b p ⟨2816 + c.val, by omega⟩
  unfold Args.gated gelu
  rw [← ea, ← eb]
  refine Ideal.mul_congr ?_ rfl
  rw [← mul_assoc]
  exact Ideal.mul_congr (mul_comm _ _) rfl

/-- The reference's result array: the composed term of its last operations is the row mathematics of its arguments. -/
theorem result_at (b : Fin 4) (p : Fin 4096) (k : Fin 1024) :
    (show FVec Ideal S4x4096x1024 .f32 from mulf (mulf (res_main_v73 W) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v73 W) (res_main_v73 W)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (W (Proc.devRef .tc main_arg10))))) (ix3 b p k) = (args W).result b p k := by
  pointwise
  refine Ideal.mul_congr (Ideal.mul_congr (last_at W b p k) (congrArg (fun z => Ideal.rsqrt (Ideal.div z _ + _)) ?_)) rfl
  exact Finset.sum_congr rfl fun j _ => Ideal.mul_congr (last_at W b p j) (last_at W b p j)

end Ffn.Smp.Ref
-- ==== Proof.SmpVal.lean ====
/- The sample's channel mixer's result array: what each grid point stores is the row mathematics of `FfnSpec` on the argument arrays. -/
module

public import proofs.«01_k».proof.Proof.FfnTile
public import proofs.«01_k».proof.Proof.Gen.SmpIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Ffn.Smp

open Cert.SmpIdeal Cert.SmpIdeal.Gen

variable (m : (ℓ : Loc nD τ sig) → Buf (Elt Ideal) ℓ) (c : Dev nD)

/-- The kernel's arguments. -/
def args : Args 4 where
  X := m ((c : Thread nD τ).loc main_arg0)
  ZH := m ((c : Thread nD τ).loc main_arg1)
  ZR := m ((c : Thread nD τ).loc main_arg2)
  HG := m ((c : Thread nD τ).loc main_arg3)
  WO := m ((c : Thread nD τ).loc main_arg4)
  NG := m ((c : Thread nD τ).loc main_arg5)
  WU := m ((c : Thread nD τ).loc main_arg6)
  CW := m ((c : Thread nD τ).loc main_arg7)
  CB := m ((c : Thread nD τ).loc main_arg8)
  WD := m ((c : Thread nD τ).loc main_arg9)
  FG := m ((c : Thread nD τ).loc main_arg10)

/-- The index maps of the windows that move, and the grid point's second coordinate. -/
theorem idx : ∀ t : Fin cfg0.N,
    win0_0.index t = ![t.val / 8, (t.val % 8) * 32 - 1, 0] ∧ win0_1.index t = ![t.val / 8, t.val % 8, 0]
    ∧ win0_2.index t = ![t.val / 8, min ((t.val % 8 + 1) * 32) 255, 0]
    ∧ win0_3.index t = ![t.val / 8, (t.val % 8) * 32 - 1, 0] ∧ win0_4.index t = ![t.val / 8, t.val % 8, 0]
    ∧ win0_5.index t = ![t.val / 8, min ((t.val % 8 + 1) * 32) 255, 0]
    ∧ win0_6.index t = ![t.val / 8, (t.val % 8) * 32 - 1, 0] ∧ win0_7.index t = ![t.val / 8, t.val % 8, 0]
    ∧ win0_8.index t = ![t.val / 8, min ((t.val % 8 + 1) * 32) 255, 0]
    ∧ win0_21.index t = ![t.val / 8, t.val % 8, 0] ∧ (grid0.coords t 1).val = t.val % 8 ∧ t.val / 8 < 4 :=
  (by decide +kernel : ∀ t : Fin grid0.N, _)

/-- The index maps of the windows that stand still. -/
theorem idx_const : ∀ t : Fin cfg0.N,
    win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

/-- The batch row of grid point `t`. -/
def batch (t : Fin cfg0.N) : Fin 4 := ⟨t.val / 8, (idx t).2.2.2.2.2.2.2.2.2.2.2⟩

/-- The residual's stacked rows are the sequence's. -/
theorem x_rows (t : Fin cfg0.N) (r : Fin 528) (p : Fin 4096) (hp : p.val + 8 = t.val % 8 * 512 + r.val) :
    ladder (iblk m c 0 t) (iblk m c 1 t) (iblk m c 2 t) r = fun j => (args m c).X (ix3 (batch t) p j) := by
  funext j
  unfold ladder stack batch
  have hr := r.isLt
  split
  · blk_ext [iblk, V, idx t, args]
  · split <;> blk_ext [iblk, V, idx t, args]

/-- The convolution's stacked rows are the sequence's. -/
theorem h_rows (t : Fin cfg0.N) (r : Fin 528) (p : Fin 4096) (hp : p.val + 8 = t.val % 8 * 512 + r.val) :
    ladder (iblk m c 3 t) (iblk m c 4 t) (iblk m c 5 t) r = fun j => (args m c).ZH (ix3 (batch t) p j) := by
  funext j
  unfold ladder stack batch
  have hr := r.isLt
  split
  · blk_ext [iblk, V, idx t, args]
  · split <;> blk_ext [iblk, V, idx t, args]

/-- The retention's stacked rows are the sequence's. -/
theorem r_rows (t : Fin cfg0.N) (r : Fin 528) (p : Fin 4096) (hp : p.val + 8 = t.val % 8 * 512 + r.val) :
    ladder (iblk m c 6 t) (iblk m c 7 t) (iblk m c 8 t) r = fun j => (args m c).ZR (ix3 (batch t) p j) := by
  funext j
  unfold ladder stack batch
  have hr := r.isLt
  split
  · blk_ext [iblk, V, idx t, args]
  · split <;> blk_ext [iblk, V, idx t, args]

set_option maxHeartbeats 2000000 in
/-- The weight windows' blocks, read at an index: the argument's slice. -/
theorem weights (t : Fin cfg0.N) :
    (∀ j : Fin 512, iblk m c 9 t (ix2 0 j : S1x512.Idx) = (args m c).HG (ix1 j))
    ∧ (∀ (j : Fin 512) (k : Fin 1024), iblk m c 10 t (ix2 j k : S512x1024.Idx) = (args m c).WO (ix2 ⟨j.val, by omega⟩ k))
    ∧ (∀ (j : Fin 512) (k : Fin 1024), iblk m c 11 t (ix2 j k : S512x1024.Idx) = (args m c).WO (ix2 ⟨512 + j.val, by omega⟩ k))
    ∧ (∀ j : Fin 1024, iblk m c 12 t (ix2 0 j : S1x1024.Idx) = (args m c).NG (ix1 j))
    ∧ (∀ (k : Fin 1024) (j : Fin 2816), iblk m c 13 t (ix2 k j : S1024x2816.Idx) = (args m c).WU (ix2 k ⟨j.val, by omega⟩))
    ∧ (∀ (k : Fin 1024) (j : Fin 2816), iblk m c 14 t (ix2 k j : S1024x2816.Idx) = (args m c).WU (ix2 k ⟨2816 + j.val, by omega⟩))
    ∧ (∀ (k : Fin 3) (j : Fin 2816), iblk m c 15 t (ix2 k j : S3x2816.Idx) = (args m c).CW (ix2 k ⟨j.val, by omega⟩))
    ∧ (∀ (k : Fin 3) (j : Fin 2816), iblk m c 16 t (ix2 k j : S3x2816.Idx) = (args m c).CW (ix2 k ⟨2816 + j.val, by omega⟩))
    ∧ (∀ j : Fin 2816, iblk m c 17 t (ix2 0 j : S1x2816.Idx) = (args m c).CB (ix1 ⟨j.val, by omega⟩))
    ∧ (∀ j : Fin 2816, iblk m c 18 t (ix2 0 j : S1x2816.Idx) = (args m c).CB (ix1 ⟨2816 + j.val, by omega⟩))
    ∧ (∀ (j : Fin 2816) (k : Fin 1024), iblk m c 19 t (ix2 j k : S2816x1024.Idx) = (args m c).WD (ix2 j k))
    ∧ (∀ j : Fin 1024, iblk m c 20 t (ix2 0 j : S1x1024.Idx) = (args m c).FG (ix1 j)) := by
  refine ⟨?_, ?_, ?_, ?_, ?_, ?_, ?_, ?_, ?_, ?_, ?_, ?_⟩ <;> intros <;> blk_simp [iblk] <;> entry_read <;> pointwise [args] <;>
    blk_ext [idx_const t]

/-- Grid point `t`'s blocks and what they hold. -/
def tile (t : Fin cfg0.N) : Tile (args m c) (batch t) ⟨t.val % 8, by omega⟩ where
  x0 := iblk m c 0 t
  x1 := iblk m c 1 t
  x2 := iblk m c 2 t
  h0 := iblk m c 3 t
  h1 := iblk m c 4 t
  h2 := iblk m c 5 t
  r0 := iblk m c 6 t
  r1 := iblk m c 7 t
  r2 := iblk m c 8 t
  hg := iblk m c 9 t
  woh := iblk m c 10 t
  wor := iblk m c 11 t
  ng := iblk m c 12 t
  wa := iblk m c 13 t
  wb := iblk m c 14 t
  cwa := iblk m c 15 t
  cwb := iblk m c 16 t
  cba := iblk m c 17 t
  cbb := iblk m c 18 t
  wd := iblk m c 19 t
  fg := iblk m c 20 t
  x_rows := x_rows m c t
  h_rows := h_rows m c t
  r_rows := r_rows m c t
  hg_at := (weights m c t).1
  woh_at := (weights m c t).2.1
  wor_at := (weights m c t).2.2.1
  ng_at := (weights m c t).2.2.2.1
  wa_at := (weights m c t).2.2.2.2.1
  wb_at := (weights m c t).2.2.2.2.2.1
  cwa_at := (weights m c t).2.2.2.2.2.2.1
  cwb_at := (weights m c t).2.2.2.2.2.2.2.1
  cba_at := (weights m c t).2.2.2.2.2.2.2.2.1
  cbb_at := (weights m c t).2.2.2.2.2.2.2.2.2.1
  wd_at := (weights m c t).2.2.2.2.2.2.2.2.2.2.1
  fg_at := (weights m c t).2.2.2.2.2.2.2.2.2.2.2

set_option maxHeartbeats 2000000 in
/-- The result array is the row mathematics of the argument arrays. -/
theorem final : (dats m 0 c).arrAt 21 cfg0.N = (fun i => (args m c).result (i 0) (i 1) (i 2) : FVec Ideal S4x4096x1024 .f32) := by
  refine (dats m 0 c).arrAt_eq_of_covers 21 _ (by decide +kernel) fun t _ y => ?_
  blk_simp
  rw [after0_21]; unfold Gen.outsAt0; frame_open
  simp (disch := decide) only [↓ View.readCov_skip, ↓ View.readCov_cons_toLoadRect, ↓ View.readCov_fill]
  frame_out
  idx_vars y
  obtain rfl : y0 = 0 := Subsingleton.elim _ _
  have hc : (grid0.coords t 1).val = t.val % 8 := (idx t).2.2.2.2.2.2.2.2.2.2.1
  rw [hc]
  have e0 : batch t = ((cfg0.win 21).blk t).view.emb (ix3 0 y1 y2) 0 := Fin.ext (by unfold batch; blk_simp [idx t]; simp)
  have e1 : (⟨t.val % 8 * 512 + y1.val, by omega⟩ : Fin 4096) = ((cfg0.win 21).blk t).view.emb (ix3 0 y1 y2) 1 := Fin.ext (by blk_simp [idx t])
  have e2 : y2 = ((cfg0.win 21).blk t).view.emb (ix3 0 y1 y2) 2 := Fin.ext (by blk_simp [idx t])
  refine Eq.trans ?_ (congr (congrArg₂ (args m c).result e0 e1) e2)
  refine (tile m c t).stored y1 y2 ⟨t.val % 8 * 512 + y1.val, by omega⟩ rfl _ _ _ _ _ _ _ _ _ _ _ _ ?_ ?_ ?_ ?_ ?_ ?_ ?_ ?_ ?_ ?_ ?_ ?_
  all_goals
    intro j
    pointwise
  all_goals rfl

end Ffn.Smp
-- ==== Proof.SmpClaim.lean ====
/- The channel mixer's claims on the sample batch: its reference's frame, and kernel and reference ending with the same array. -/
module

public import proofs.«01_k».proof.Defs
public import proofs.«01_k».proof.Proof.SmpRef
public import proofs.«01_k».proof.Proof.SmpVal
public import proofs.«01_k».proof.Proof.Gen.SmpRefIdeal
public import Idealize.ShloMosaic.Lib.Claim

@[expose] public section

set_option maxRecDepth 16384

noncomputable section

open Idealize.ShloMosaic Idealize.ShloMosaic.TcCoe Idealize.SL.Sem

namespace Ffn.Smp

/-- The reference runs, leaves its arguments as they were, and ends with every counter at zero. -/
theorem reference_frame : Cert.quiescent_SmpRefIdeal (hSmpRefIdeal := Cert.SmpRefIdeal.Gen.facts) := by
  intro m g _
  exact (θ_run Cert.SmpRefIdeal.defs _ _).mono (fun r h => ⟨fun c => (h c).2, sem_eq_zero_of_no_sems (by decide) r.2⟩)
    (Cert.SmpRefIdeal.Value.run (F := Ideal) m g)

/-- Kernel and reference, on the same arguments, end with the same array. -/
theorem algebraic : Cert.algebraic_SmpIdeal_SmpRefIdeal (hSmpIdeal := Cert.SmpIdeal.Gen.facts) (hSmpRefIdeal := Cert.SmpRefIdeal.Gen.facts) := by
  pair_intro
  · run_from (Cert.SmpIdeal.Value.run_blocks m g)
  · refine θ_run_mono (Cert.SmpRefIdeal.Value.run m' g') ?_
    intro r hr c
    refine ⟨(hr c).1.trans ?_, (hr c).2⟩
    funext i
    obtain ⟨b, p, k, rfl⟩ : ∃ b p k, i = ix3 b p k := ⟨i 0, i 1, i 2, by funext a; fin_cases a <;> rfl⟩
    refine (Smp.Ref.result_at _ b p k).trans ?_
    have e : Smp.Ref.args (StableHlo.launchContents m' c) = Smp.args m c := by
      unfold Smp.Ref.args Smp.args
      have h := hagree c
      obtain ⟨h0, h1, h2, h3, h4, h5, h6, h7, h8, h9, h10⟩ := h
      exact Args.mk.injEq .. |>.mpr ⟨h0, h1, h2, h3, h4, h5, h6, h7, h8, h9, h10⟩
    rw [e, Smp.final]
    rfl

end Ffn.Smp
end
-- ==== Proof.InpRef.lean ====
/- The input projection's reference read at an index: the row mathematics of `InpSpec`. -/
module

public import proofs.«01_k».proof.Proof.InpSpec
public import proofs.«01_k».proof.Proof.Gen.InpRefIdeal.Run

@[expose] public section

set_option maxRecDepth 16384

noncomputable section

open Idealize.ShloMosaic Idealize.ShloMosaic.TcCoe Idealize.SL.Sem

namespace Inp.Ref

open Cert.InpRefIdeal Cert.InpRefIdeal.Gen Cert.InpRefIdeal.Value

variable (m : (ℓ : Loc nD τ sig) → Buf (Elt Ideal) ℓ) (c : Dev nD)

/-- The reference's arguments. -/
def args : Args 8 where
  X := m ((c.tc : Thread nD τ).loc main_arg0)
  G := m ((c.tc : Thread nD τ).loc main_arg1)
  W := m ((c.tc : Thread nD τ).loc main_arg2)
  CW := m ((c.tc : Thread nD τ).loc main_arg3)
  CB := m ((c.tc : Thread nD τ).loc main_arg4)

/-- A row of the padded projection, at whichever number the reading gives it. -/
theorem pad_at (b : Fin 8) (s s' : ℕ) (e : s = s') (k : Fin 1536) (z : EReal) (hz : z = 0) :
    (if h : 1 ≤ s ∧ s - 1 < 4096 then (args m c).proj b ⟨s - 1, h.2⟩ ⟨k.val, by omega⟩ else z) = (args m c).pad b s' k := by
  subst e hz
  rfl

/-- The reference's first result. -/
theorem conv_at (b : Fin 8) (p : Fin 4096) (k : Fin 1536) :
    (show FVec Ideal S8x4096x1536 .bf16 from res_out0 m c) (ix3 b p k) = (args m c).conv b p.val k := by
  have hz : (FloatOps.sitofp (F := Ideal) FTy.f32 0#32 : EReal) = 0 := (show ((((0#32 : BitVec 32).toInt : ℤ) : ℝ) : EReal) = 0 by simp)
  have hp : 1 ≤ p.val + 1 ∧ p.val + 1 - 1 < 4096 := by omega
  pointwise [res_main_v117]
  refine Ideal.add_congr (Ideal.add_congr (Ideal.add_congr (Ideal.mul_congr ?_ rfl) (Ideal.mul_congr ?_ rfl)) (Ideal.mul_congr ?_ rfl)) rfl
  · exact pad_at m c b p.val p.val rfl k _ hz
  · unfold Args.pad
    rw [dif_pos hp]
    rfl
  · exact pad_at m c b (2 + p.val) (p.val + 2) (add_comm _ _) k _ hz

/-- A column of the heads' projection, at whichever number the reading gives it. -/
theorem col_at (b : Fin 8) (p : Fin 4096) (s k : ℕ) (h : s < 3584) (e : s = 1536 + k) :
    (args m c).proj b p ⟨s, h⟩ = (args m c).col b p k := by
  subst e
  unfold Args.col
  rw [dif_pos h]

/-- The rotation of a head's first half, as the reading gives it. -/
theorem rotary_lo (p k l : ℕ) (hl : l = k % 64) (h : l < 32) {a a' u u' : EReal} (d : EReal) (ha : a = a') (hu : u = u') :
    a * Ideal.cos (angle p l) - u * Ideal.sin (angle p l) = rotary p (k % 64) a' u' d := by
  subst hl ha hu
  unfold rotary
  rw [if_pos h]

/-- The rotation of a head's second half, as the reading gives it. -/
theorem rotary_hi (p k l : ℕ) (hl : l = k % 64) (h : ¬ l < 32) {a a' d d' : EReal} (u : EReal) (ha : a = a') (hd : d = d') :
    a * Ideal.cos (angle p (l - 32)) + d * Ideal.sin (angle p (l - 32)) = rotary p (k % 64) a' u d' := by
  subst hl ha hd
  unfold rotary
  rw [if_neg h]

/-- The reference's second result. -/
theorem heads_at (b : Fin 8) (p : Fin 4096) (k : Fin 2048) :
    (show FVec Ideal S8x4096x2048 .bf16 from res_out1 m c) (ix3 b p k) = (args m c).heads b p k := by
  have hk := k.isLt
  have hq := Args.heads_queries (args m c) b p k
  have hkk := Args.heads_keys (args m c) b p k
  have hr := Args.heads_rest (args m c) b p k
  generalize (args m c).heads b p k = z at *
  pointwise [res_main_v118]
  split
  · next h0 =>
    refine Eq.trans ?_ (hq h0).symm
    split
    · next h =>
      refine rotary_lo p.val k.val (k.val % 64) rfl h _ ?_ ?_ <;> exact col_at m c b p _ _ _ (by omega)
    · next h =>
      refine rotary_hi p.val k.val (k.val % 64) rfl h _ ?_ ?_ <;> exact col_at m c b p _ _ _ (by omega)
  · next h0 =>
    split
    · next h1 =>
      refine Eq.trans (Ideal.mul_congr ?_ rfl) (hkk (by omega) (by omega)).symm
      split
      · next h =>
        refine rotary_lo p.val k.val ((k.val - 512) % 64) (by omega) h _ ?_ ?_ <;> exact col_at m c b p _ _ _ (by omega)
      · next h =>
        refine rotary_hi p.val k.val ((k.val - 512) % 64) (by omega) h _ ?_ ?_ <;> exact col_at m c b p _ _ _ (by omega)
    · next h1 =>
      refine Eq.trans ?_ (hr (by omega)).symm
      split
      · next h2 => exact col_at m c b p _ _ _ (by omega)
      · next h2 => exact col_at m c b p _ _ _ (by omega)

end Inp.Ref
-- ==== Proof.InpPay.lean ====
/- The input projection's payloads read at an index: each is the row mathematics of `InpSpec` on the loaded blocks. -/
module

public import proofs.«01_k».proof.Proof.InpSpec
public import proofs.«01_k».proof.Proof.Gen.InpIdeal.Skeleton

@[expose] public section

set_option maxRecDepth 16384

noncomputable section

open Idealize.ShloMosaic Idealize.ShloMosaic.TcCoe Idealize.SL.Sem

namespace Inp

open Cert.InpIdeal Cert.InpIdeal.Gen

/-- Row `r` of the stacked window of a sequence: the block, the first eight rows of the block after, the last eight rows of the block before. -/
def ladder (a : FVec Ideal S1x8x1024 .f32) (b : FVec Ideal S1x1024x1024 .f32) (c : FVec Ideal S1x8x1024 .f32) (r : Fin 1040) (j : Fin 1024) : EReal :=
  if h : r.val < 1024 then b (ix3 0 ⟨r.val, h⟩ j)
  else if h' : r.val - 1024 < 8 then c (ix3 0 ⟨r.val - 1024, h'⟩ j) else a (ix3 0 ⟨r.val - 1024 - 8, by omega⟩ j)

/-- The normed rows. -/
theorem pay2_at (a : FVec Ideal S1x8x1024 .f32) (b : FVec Ideal S1x1024x1024 .f32) (c : FVec Ideal S1x8x1024 .f32) (g : FVec Ideal S1x1024 .f32)
    (r : Fin 1040) (k : Fin 1024) :
    k0_pay2 (F := Ideal) b c a g (ix2 r k) = Ffn.rms (Ideal.ofBits .f32 0x44800000#32) (ladder a b c r) (fun j => g (ix2 0 j)) k := by
  pointwise [k0_pay2]
  rfl

/-- Whether stacked row `r` of tile `i` lies outside the sequence. -/
def outside (i : Fin 4) (r : Fin 1040) : Prop := (1032 ≤ r.val ∧ i.val = 0) ∨ ((1024 ≤ r.val ∧ r.val < 1032) ∧ i.val = 3)

instance (i : Fin 4) (r : Fin 1040) : Decidable (outside i r) := inferInstanceAs (Decidable (_ ∨ _))

/-- The mask's bit, on words. -/
theorem mask_bit (i : Fin 4) (r : Fin 1040) :
    (IntOp.ori
        (IntOp.andi (IntOp.cmpi CmpIPredicate.sge (BitVec.ofNat 32 r.val) 1032#32)
          (Scalar.cmpi CmpIPredicate.eq (BitVec.ofNat 32 i.val) 0#32))
        (IntOp.andi
          (IntOp.andi (IntOp.cmpi CmpIPredicate.sge (BitVec.ofNat 32 r.val) 1024#32)
            (IntOp.cmpi CmpIPredicate.slt (BitVec.ofNat 32 r.val) 1032#32))
          (Scalar.cmpi CmpIPredicate.eq (BitVec.ofNat 32 i.val) 3#32)) : BitVec 1) = if outside i r then 1#1 else 0#1 := by
  revert i r
  decide +kernel

/-- A choice by a decided bit. -/
theorem select_bit (p : Prop) [Decidable p] (a b : EReal) : Scalar.select (if p then 1#1 else 0#1) a b = if p then a else b := by
  split <;> simp [Scalar.select]

section Masked

variable (i : grid0.Coords) (q : Fin 4) (hq : (i 1).val = q.val) (y : FVec Ideal S1040x1024 .f32)
include hq

/-- The masked rows. -/
theorem pay4_at (r : Fin 1040) (k : Fin 1024) :
    k0_pay4 (F := Ideal) y (0 : EReal) (k0_pay3 i) (ix2 r k) = if outside q r then 0 else y (ix2 r k) := by
  have h := mask_bit q r
  rw [← hq] at h
  pointwise [k0_pay4, k0_pay3]
  rw [h, select_bit]

/-- The masked rows against a weight: a row outside the sequence gives nothing. -/
theorem sum_at {n : ℕ} (w : FVec Ideal ⟨2, ![1024, n]⟩ .bf16) (r : Fin 1040) (c : Fin n) :
    ∑ k : Fin 1024, k0_pay4 (F := Ideal) y (0 : EReal) (k0_pay3 i) (ix2 r k) * w (ix2 k c)
      = if outside q r then 0 else ∑ k : Fin 1024, y (ix2 r k) * w (ix2 k c) := by
  split
  · next h => exact Finset.sum_eq_zero fun k _ => by rw [pay4_at i q hq, if_pos h]; exact zero_mul _
  · next h => exact Finset.sum_congr rfl fun k _ => by rw [pay4_at i q hq, if_neg h]

/-- What the body stores of the convolution, at row `r` of its block: `f` the masked rows' projection. -/
theorem pay5_at (w : FVec Ideal S1024x1536 .bf16) (w0 w1 w2 d : FVec Ideal S1x1536 .f32)
    (r : Fin 1024) (c : Fin 1536) (f : Fin 1040 → EReal)
    (hf : ∀ u, (if outside q u then 0 else ∑ k : Fin 1024, y (ix2 u k) * w (ix2 k c)) = f u) :
    k0_pay5 (F := Ideal) y (Scalar.ofBits .f32 0x00000000#32) (k0_pay3 i) w w0 w1 w2 d (ix3 0 r c)
      = Ffn.conv3 (f ⟨(r.val + 1040 - 1) % 1040, by omega⟩) (f ⟨r.val, by omega⟩) (f ⟨(r.val + 1040 - 1039) % 1040, by omega⟩)
          (w0 (ix2 0 c)) (w1 (ix2 0 c)) (w2 (ix2 0 c)) (d (ix2 0 c)) := by
  pointwise [k0_pay5]
  unfold Ffn.conv3
  have key : ∀ u : Fin 1040, ∑ k : Fin 1024, k0_pay4 (F := Ideal) y (0 : EReal) (k0_pay3 i) (ix2 u k) * w (ix2 k c) = f u :=
    fun u => (sum_at (n := 1536) i q hq y w u c).trans (hf u)
  exact Ideal.add_congr (Ideal.add_congr (Ideal.add_congr (Ideal.mul_congr (key _) rfl) (Ideal.mul_congr (key _) rfl))
    (Ideal.mul_congr (key _) rfl)) rfl

/-- The heads' projection, at row `r` of the block. -/
theorem pay6_at (w : FVec Ideal S1024x2048 .bf16) (r : Fin 1024) (c : Fin 2048) :
    k0_pay6 (F := Ideal) y (Scalar.ofBits .f32 0x00000000#32) (k0_pay3 i) w (ix2 r c)
      = ∑ k : Fin 1024, y (ix2 ⟨r.val, by omega⟩ k) * w (ix2 k c) := by
  pointwise [k0_pay6]
  refine (sum_at (n := 2048) i q hq y w ⟨r.val, by omega⟩ c).trans (if_neg ?_)
  unfold outside
  dsimp only
  omega

end Masked

/-- The lanes of a head's first half, on words. -/
theorem lane_bit (l : Fin 128) :
    (IntOp.cmpi CmpIPredicate.eq (IntOp.andi (BitVec.ofNat 32 l.val) 32#32) 0#32 : BitVec 1) = if l.val % 64 < 32 then 1#1 else 0#1 := by
  revert l
  decide +kernel

/-- Lane `l` of the 128 columns at `o`, turned against its partner 32 lanes away: `cs` and `sn` the tables' entries there. -/
def turn (x : Fin 2048 → EReal) (o : ℕ) (ho : o + 128 ≤ 2048) (cs sn : EReal) (l : Fin 128) : EReal :=
  x ⟨o + l.val, by omega⟩ * cs
    + (if l.val % 64 < 32 then x ⟨o + (l.val + 128 - 96) % 128, by omega⟩ else x ⟨o + (l.val + 128 - 32) % 128, by omega⟩) * sn

variable (x : FVec Ideal S1024x2048 .f32) (cs sn : FVec Ideal S1024x128 .f32) (r : Fin 1024) (l : Fin 128)

/-- What the body stores of the queries, 128 columns at a time. -/
theorem queries_at :
    k0_pay10 (F := Ideal) x cs sn (ix3 0 r l) = turn (fun j => x (ix2 r j)) 0 (by decide) (cs (ix2 r l)) (sn (ix2 r l)) l
    ∧ k0_pay11 (F := Ideal) x cs sn (ix3 0 r l) = turn (fun j => x (ix2 r j)) 128 (by decide) (cs (ix2 r l)) (sn (ix2 r l)) l
    ∧ k0_pay13 (F := Ideal) (k0_pay12 x cs sn) (ix3 0 r l) = turn (fun j => x (ix2 r j)) 256 (by decide) (cs (ix2 r l)) (sn (ix2 r l)) l
    ∧ k0_pay14 (F := Ideal) x cs sn k0_pay9 (ix3 0 r l) = turn (fun j => x (ix2 r j)) 384 (by decide) (cs (ix2 r l)) (sn (ix2 r l)) l := by
  refine ⟨?_, ?_, ?_, ?_⟩ <;> pointwise [k0_pay10, k0_pay11, k0_pay12, k0_pay13, k0_pay14, k0_pay8, k0_pay9, lane_bit, select_bit] <;>
    unfold turn <;> simp only [Nat.zero_add]

/-- What the body stores of the keys, 128 columns at a time. -/
theorem keys_at :
    k0_pay15 (F := Ideal) x cs sn k0_pay9 (ix3 0 r l)
      = turn (fun j => x (ix2 r j)) 512 (by decide) (cs (ix2 r l)) (sn (ix2 r l)) l * Ideal.ofBits .f32 0x3E000000#32
    ∧ k0_pay18 (F := Ideal) (k0_pay16 x cs sn k0_pay9) k0_pay17 (ix3 0 r l)
      = turn (fun j => x (ix2 r j)) 640 (by decide) (cs (ix2 r l)) (sn (ix2 r l)) l * Ideal.ofBits .f32 0x3E000000#32
    ∧ k0_pay19 (F := Ideal) x cs sn k0_pay9 (ix3 0 r l)
      = turn (fun j => x (ix2 r j)) 768 (by decide) (cs (ix2 r l)) (sn (ix2 r l)) l * Ideal.ofBits .f32 0x3E000000#32
    ∧ k0_pay20 (F := Ideal) x cs sn k0_pay9 (ix3 0 r l)
      = turn (fun j => x (ix2 r j)) 896 (by decide) (cs (ix2 r l)) (sn (ix2 r l)) l * Ideal.ofBits .f32 0x3E000000#32 := by
  refine ⟨?_, ?_, ?_, ?_⟩ <;> pointwise [k0_pay15, k0_pay16, k0_pay17, k0_pay18, k0_pay19, k0_pay20, k0_pay8, k0_pay9, lane_bit, select_bit] <;>
    rfl

/-- What the body stores of the values and gates. -/
theorem rest_at (l : Fin 1024) : k0_pay1 (F := Ideal) (k0_pay21 x) (ix3 0 r l) = x (ix2 r ⟨1024 + l.val, by omega⟩) := by
  pointwise [k0_pay1, k0_pay21]

end Inp
-- ==== Proof.InpTile.lean ====
/- What one grid point of the input projection stores, for a batch of any size: the row mathematics of `InpSpec`, from what its blocks hold. -/
module

public import proofs.«01_k».proof.Proof.InpPay

@[expose] public section

set_option maxRecDepth 16384

noncomputable section

open Idealize.ShloMosaic Idealize.ShloMosaic.TcCoe Idealize.SL.Sem

namespace Inp

open Cert.InpIdeal Cert.InpIdeal.Gen

/-- A grid point that works on block `i` of positions. -/
def cell (i : Fin 4) : grid0.Coords := grid0.coords ⟨i.val, (by decide : ∀ i : Fin 4, i.val < grid0.N) i⟩

/-- It does. -/
theorem cell_at : ∀ i : Fin 4, (cell i 1).val = i.val := by decide +kernel

/-- The mask of block `i`'s rows outside the sequence. -/
def mask (i : Fin 4) : IVec S1040x1024 1 := k0_pay3 (cell i)

/-- The position of row `r` of block `i`. -/
def pos (i : Fin 4) (r : Fin 1024) : Fin 4096 := ⟨i.val * 1024 + r.val, by omega⟩

/-- An index of a block whose first extent is one. -/
theorem idx3_split {n k : ℕ} (x : (⟨3, ![1, n, k]⟩ : Shape).Idx) : ∃ r l, x = ix3 0 r l := ⟨x 1, x 2, by
  funext a
  fin_cases a
  · exact Subsingleton.elim (α := Fin 1) _ _
  · rfl
  · rfl⟩

/-- The tables are stored as they are. -/
theorem cosines (x : FVec Ideal S1024x128 .f32) : k0_pay7 (F := Ideal) x = x := by
  funext i
  idx_vars i
  pointwise [k0_pay7]

/-- The tables are stored as they are. -/
theorem sines (x : FVec Ideal S1024x128 .f32) : k0_pay8 (F := Ideal) x = x := by
  funext i
  idx_vars i
  pointwise [k0_pay8]

/-- A piece of 128 columns, placed in the block. -/
theorem piece {B : ℕ} (A : Args B) (b : Fin B) (i : Fin 4) (r : Fin 1024) (n : ℕ) (l : Fin n) (o : ℕ) (inb) (h : o + l.val < 2048) :
    A.heads b (pos i ((Rect.unit (s := S1x1024x2048) ![0, 0, o] ![1, 1024, n] inb).emb (ix3 0 r l) 1))
        ((Rect.unit (s := S1x1024x2048) ![0, 0, o] ![1, 1024, n] inb).emb (ix3 0 r l) 2)
      = A.heads b (pos i r) ⟨o + l.val, h⟩ := by
  refine congrArg₂ (A.heads b) (congrArg (pos i) (Fin.ext ?_)) (Fin.ext ?_)
  · show 0 + 1 * r.val = r.val
    omega
  · show o + 1 * l.val = o + l.val
    omega

/-- The blocks that a grid point loads for batch row `b` and block `i` of positions, and what they hold of the arguments `A`. -/
structure Tile {B : ℕ} (A : Args B) (b : Fin B) (i : Fin 4) where
  x0 : FVec Ideal S1x8x1024 .f32
  x1 : FVec Ideal S1x1024x1024 .f32
  x2 : FVec Ideal S1x8x1024 .f32
  g : FVec Ideal S1x1024 .f32
  wh : FVec Ideal S1024x1536 .bf16
  wr : FVec Ideal S1024x2048 .bf16
  cw : FVec Ideal S3x1536 .f32
  cb : FVec Ideal S1x1536 .f32
  cs : FVec Ideal S1024x128 .f32
  sn : FVec Ideal S1024x128 .f32
  x_rows : ∀ (r : Fin 1040) (p : Fin 4096),
    p.val = i.val * 1024 + r.val ∧ r.val < 1032 ∨ p.val + 1040 = i.val * 1024 + r.val ∧ 1032 ≤ r.val →
      ladder x0 x1 x2 r = fun j => A.X (ix3 b p j)
  g_at : ∀ j : Fin 1024, g (ix2 0 j) = A.G (ix1 j)
  wh_at : ∀ (k : Fin 1024) (j : Fin 1536), wh (ix2 k j) = A.W (ix2 k ⟨j.val, by omega⟩)
  wr_at : ∀ (k : Fin 1024) (j : Fin 2048), wr (ix2 k j) = A.W (ix2 k ⟨1536 + j.val, by omega⟩)
  cw_at : ∀ (k : Fin 3) (j : Fin 1536), cw (ix2 k j) = A.CW (ix2 k j)
  cb_at : ∀ j : Fin 1536, cb (ix2 0 j) = A.CB (ix1 j)
  cs_at : ∀ (r : Fin 1024) (l : Fin 128),
    cs (ix2 r l) = Ideal.cos (angle (i.val * 1024 + r.val) (if l.val % 64 < 32 then l.val % 64 else l.val % 64 - 32))
  sn_at : ∀ (r : Fin 1024) (l : Fin 128),
    sn (ix2 r l) = if l.val % 64 < 32 then -Ideal.sin (angle (i.val * 1024 + r.val) (l.val % 64))
      else Ideal.sin (angle (i.val * 1024 + r.val) (l.val % 64 - 32))

namespace Tile

variable {B : ℕ} {A : Args B} {b : Fin B} {i : Fin 4} (T : Tile A b i)

/-- The normed rows of the stacked window. -/
def xn : FVec Ideal S1040x1024 .f32 := k0_pay2 T.x1 T.x2 T.x0 T.g

/-- A normed row inside the sequence is the row mathematics' row. -/
theorem xn_at (r : Fin 1040) (p : Fin 4096)
    (hp : p.val = i.val * 1024 + r.val ∧ r.val < 1032 ∨ p.val + 1040 = i.val * 1024 + r.val ∧ 1032 ≤ r.val) (k : Fin 1024) :
    T.xn (ix2 r k) = A.normed b p k := by
  refine (pay2_at ..).trans ?_
  exact congrFun (congrArg₂ (Ffn.rms _) (T.x_rows r p hp) (funext T.g_at)) k

/-- The heads' projection of the rows. -/
def pr : FVec Ideal S1024x2048 .f32 :=
  k0_pay6 T.xn (Scalar.ofBits .f32 0x00000000#32) (mask i) T.wr

/-- It is the row mathematics' columns. -/
theorem pr_at (r : Fin 1024) (k : Fin 2048) : T.pr (ix2 r k) = A.col b (pos i r) k.val := by
  refine (pay6_at (cell i) i (cell_at i) _ _ r k).trans ?_
  unfold Args.col Args.proj
  rw [dif_pos (by omega)]
  exact Finset.sum_congr rfl fun j _ => Ideal.mul_congr (T.xn_at ⟨r.val, by omega⟩ (pos i r) (Or.inl ⟨rfl, by dsimp only; omega⟩) j) (T.wr_at j k)

/-- A turned lane is the row mathematics' rotation. -/
theorem turn_at (r : Fin 1024) (l : Fin 128) (o : ℕ) (ho : o + 128 ≤ 2048) (h : o % 64 = 0) :
    turn (fun j => T.pr (ix2 r j)) o ho (T.cs (ix2 r l)) (T.sn (ix2 r l)) l
      = rotary (pos i r).val ((o + l.val) % 64) (A.col b (pos i r) (o + l.val))
          (A.col b (pos i r) (o + l.val + 32)) (A.col b (pos i r) (o + l.val - 32)) := by
  have hl : (o + l.val) % 64 = l.val % 64 := by omega
  have hlt := l.isLt
  unfold turn rotary
  simp only [T.cs_at r l, T.sn_at r l, hl, T.pr_at]
  by_cases h' : l.val % 64 < 32
  · have e : o + (l.val + 128 - 96) % 128 = o + l.val + 32 := by omega
    rw [if_pos h', if_pos h', if_pos h', if_pos h', mul_neg, ← sub_eq_add_neg]
    simp only [e]
    rfl
  · have e : o + (l.val + 128 - 32) % 128 = o + l.val - 32 := by omega
    rw [if_neg h', if_neg h', if_neg h', if_neg h']
    simp only [e]
    rfl

/-- A block of the queries is the row mathematics'. -/
theorem query_piece (r : Fin 1024) (l : Fin 128) (o : ℕ) (ho : o + 128 ≤ 512) (h : o % 64 = 0) (inb) :
    turn (fun j => T.pr (ix2 r j)) o (by omega) (T.cs (ix2 r l)) (T.sn (ix2 r l)) l
      = A.heads b (pos i ((Rect.unit (s := S1x1024x2048) ![0, 0, o] ![1, 1024, 128] inb).emb (ix3 0 r l) 1))
          ((Rect.unit (s := S1x1024x2048) ![0, 0, o] ![1, 1024, 128] inb).emb (ix3 0 r l) 2) := by
  refine Eq.trans ?_ (piece A b i r 128 l o inb (by omega)).symm
  exact (T.turn_at r l o (by omega) h).trans (A.heads_queries b (pos i r) ⟨o + l.val, by omega⟩ (show o + l.val < 512 by omega)).symm

/-- A block of the keys is the row mathematics'. -/
theorem key_piece (r : Fin 1024) (l : Fin 128) (o : ℕ) (ho : 512 ≤ o ∧ o + 128 ≤ 1024) (h : o % 64 = 0) (inb) :
    turn (fun j => T.pr (ix2 r j)) o (by omega) (T.cs (ix2 r l)) (T.sn (ix2 r l)) l
        * Ideal.ofBits .f32 0x3E000000#32
      = A.heads b (pos i ((Rect.unit (s := S1x1024x2048) ![0, 0, o] ![1, 1024, 128] inb).emb (ix3 0 r l) 1))
          ((Rect.unit (s := S1x1024x2048) ![0, 0, o] ![1, 1024, 128] inb).emb (ix3 0 r l) 2) := by
  refine Eq.trans ?_ (piece A b i r 128 l o inb (by omega)).symm
  exact (Ideal.mul_congr (T.turn_at r l o (by omega) h) rfl).trans
    (A.heads_keys b (pos i r) ⟨o + l.val, by omega⟩ (show 512 ≤ o + l.val by omega) (show o + l.val < 1024 by omega)).symm

/-- A piece of the values and gates is the row mathematics'. -/
theorem rest_piece (r : Fin 1024) (l : Fin 1024) (inb) :
    T.pr (ix2 r ⟨1024 + l.val, by omega⟩)
      = A.heads b (pos i ((Rect.unit (s := S1x1024x2048) ![0, 0, 1024] ![1, 1024, 1024] inb).emb (ix3 0 r l) 1))
          ((Rect.unit (s := S1x1024x2048) ![0, 0, 1024] ![1, 1024, 1024] inb).emb (ix3 0 r l) 2) := by
  refine Eq.trans ?_ (piece A b i r 1024 l 1024 inb (by omega)).symm
  exact (T.pr_at r _).trans
    (A.heads_rest b (pos i r) ⟨1024 + l.val, by omega⟩ (show 1024 ≤ 1024 + l.val by omega)).symm

/-- A masked row of the convolution's projection is the padded sequence's row. -/
theorem up_at (k : Fin 1536) (u : Fin 1040) :
    (if outside i u then 0 else ∑ j : Fin 1024, T.xn (ix2 u j) * T.wh (ix2 j k))
      = A.pad b (if u.val < 1032 then i.val * 1024 + u.val + 1 else i.val * 1024 + u.val - 1039) k := by
  have hu := u.isLt
  have hi := i.isLt
  unfold Args.pad
  by_cases h : outside i u <;> have h' := h <;> unfold outside at h'
  · rw [if_pos h, dif_neg (by split <;> omega)]
  · rw [if_neg h, dif_pos (by split <;> omega)]
    unfold Args.proj
    refine Finset.sum_congr rfl fun j _ => Ideal.mul_congr (T.xn_at u _ ?_ j) (T.wh_at j k)
    simp only
    split <;> omega

/-- What the body stores of the convolution at row `r` of its block, `w0`, `w1` and `w2` being the taps: the first result at the row's position. -/
theorem stored (r : Fin 1024) (k : Fin 1536) (w0 w1 w2 : FVec Ideal S1x1536 .f32)
    (h0 : ∀ j, w0 (ix2 0 j) = T.cw (ix2 0 j)) (h1 : ∀ j, w1 (ix2 0 j) = T.cw (ix2 1 j)) (h2 : ∀ j, w2 (ix2 0 j) = T.cw (ix2 2 j)) :
    k0_pay5 (F := Ideal) T.xn (Scalar.ofBits .f32 0x00000000#32) (mask i) T.wh w0 w1 w2 T.cb (ix3 0 r k) = A.conv b (pos i r).val k := by
  refine (pay5_at (cell i) i (cell_at i) T.xn _ _ _ _ _ r k _ (T.up_at k)).trans ?_
  unfold Args.conv pos
  have hr := r.isLt
  refine Ffn.conv3_congr (congrArg (fun s => A.pad b s k) ?_) (congrArg (fun s => A.pad b s k) ?_)
    (congrArg (fun s => A.pad b s k) ?_) ((h0 k).trans (T.cw_at 0 k)) ((h1 k).trans (T.cw_at 1 k)) ((h2 k).trans (T.cw_at 2 k)) (T.cb_at k) <;>
    (try simp only) <;> split <;> omega

end Tile

end Inp
-- ==== Proof.InpClaim.lean ====
/- The input projection's claims: its reference's frame, and kernel and reference ending with the same arrays. -/
module

public import proofs.«01_k».proof.Defs
public import proofs.«01_k».proof.Proof.InpRef
public import proofs.«01_k».proof.Proof.InpVal
public import proofs.«01_k».proof.Proof.Gen.InpRefIdeal
public import Idealize.ShloMosaic.Lib.Claim

@[expose] public section

set_option maxRecDepth 16384

noncomputable section

open Idealize.ShloMosaic Idealize.ShloMosaic.TcCoe Idealize.SL.Sem

namespace Inp

/-- The reference runs, leaves its arguments as they were, and ends with every counter at zero. -/
theorem reference_frame : Cert.quiescent_InpRefIdeal (hInpRefIdeal := Cert.InpRefIdeal.Gen.facts) := by
  intro m g _
  exact (θ_run Cert.InpRefIdeal.defs _ _).mono (fun r h => ⟨fun c => (h c).2.2, sem_eq_zero_of_no_sems (by decide) r.2⟩)
    (Cert.InpRefIdeal.Value.run (F := Ideal) m g)

/-- Kernel and reference, on the same arguments, end with the same two arrays. -/
theorem algebraic : Cert.algebraic_InpIdeal_InpRefIdeal (hInpIdeal := Cert.InpIdeal.Gen.facts) (hInpRefIdeal := Cert.InpRefIdeal.Gen.facts) := by
  pair_intro
  · run_from (Cert.InpIdeal.Value.run_blocks m g)
  · refine θ_run_mono (Cert.InpRefIdeal.Value.run m' g') ?_
    intro r hr c
    have e : Inp.Ref.args m' c = Inp.args m c := by
      unfold Inp.Ref.args Inp.args
      obtain ⟨h0, h1, h2, h3, h4⟩ := hagree c
      exact Args.mk.injEq .. |>.mpr ⟨h0, h1, h2, h3, h4⟩
    refine ⟨(hr c).1.trans ?_, (hr c).2.1.trans ?_, (hr c).2.2⟩
    · funext i
      obtain ⟨b, p, k, rfl⟩ : ∃ b p k, i = ix3 b p k := ⟨i 0, i 1, i 2, by funext a; fin_cases a <;> rfl⟩
      refine (Inp.Ref.conv_at _ _ b p k).trans ?_
      rw [e, Inp.final10]
      rfl
    · funext i
      obtain ⟨b, p, k, rfl⟩ : ∃ b p k, i = ix3 b p k := ⟨i 0, i 1, i 2, by funext a; fin_cases a <;> rfl⟩
      refine (Inp.Ref.heads_at _ _ b p k).trans ?_
      rw [e, Inp.final11]
      rfl

end Inp
end
-- ==== Proof.SmpInRef.lean ====
/- The sample's input projection's reference read at an index: the row mathematics of `InpSpec`. -/
module

public import proofs.«01_k».proof.Proof.InpSpec
public import proofs.«01_k».proof.Proof.Gen.SmpInRefIdeal.Run

@[expose] public section

set_option maxRecDepth 16384

noncomputable section

open Idealize.ShloMosaic Idealize.ShloMosaic.TcCoe Idealize.SL.Sem

namespace Inp.Smp.Ref

open Cert.SmpInRefIdeal Cert.SmpInRefIdeal.Gen Cert.SmpInRefIdeal.Value

variable (m : (ℓ : Loc nD τ sig) → Buf (Elt Ideal) ℓ) (c : Dev nD)

/-- The reference's arguments. -/
def args : Args 4 where
  X := m ((c.tc : Thread nD τ).loc main_arg0)
  G := m ((c.tc : Thread nD τ).loc main_arg1)
  W := m ((c.tc : Thread nD τ).loc main_arg2)
  CW := m ((c.tc : Thread nD τ).loc main_arg3)
  CB := m ((c.tc : Thread nD τ).loc main_arg4)

/-- A row of the padded projection, at whichever number the reading gives it. -/
theorem pad_at (b : Fin 4) (s s' : ℕ) (e : s = s') (k : Fin 1536) (z : EReal) (hz : z = 0) :
    (if h : 1 ≤ s ∧ s - 1 < 4096 then (args m c).proj b ⟨s - 1, h.2⟩ ⟨k.val, by omega⟩ else z) = (args m c).pad b s' k := by
  subst e hz
  rfl

/-- The reference's first result. -/
theorem conv_at (b : Fin 4) (p : Fin 4096) (k : Fin 1536) :
    (show FVec Ideal S4x4096x1536 .bf16 from res_out0 m c) (ix3 b p k) = (args m c).conv b p.val k := by
  have hz : (FloatOps.sitofp (F := Ideal) FTy.f32 0#32 : EReal) = 0 := (show ((((0#32 : BitVec 32).toInt : ℤ) : ℝ) : EReal) = 0 by simp)
  have hp : 1 ≤ p.val + 1 ∧ p.val + 1 - 1 < 4096 := by omega
  pointwise [res_main_v117]
  refine Ideal.add_congr (Ideal.add_congr (Ideal.add_congr (Ideal.mul_congr ?_ rfl) (Ideal.mul_congr ?_ rfl)) (Ideal.mul_congr ?_ rfl)) rfl
  · exact pad_at m c b p.val p.val rfl k _ hz
  · unfold Args.pad
    rw [dif_pos hp]
    rfl
  · exact pad_at m c b (2 + p.val) (p.val + 2) (add_comm _ _) k _ hz

/-- A column of the heads' projection, at whichever number the reading gives it. -/
theorem col_at (b : Fin 4) (p : Fin 4096) (s k : ℕ) (h : s < 3584) (e : s = 1536 + k) :
    (args m c).proj b p ⟨s, h⟩ = (args m c).col b p k := by
  subst e
  unfold Args.col
  rw [dif_pos h]

/-- The rotation of a head's first half, as the reading gives it. -/
theorem rotary_lo (p k l : ℕ) (hl : l = k % 64) (h : l < 32) {a a' u u' : EReal} (d : EReal) (ha : a = a') (hu : u = u') :
    a * Ideal.cos (angle p l) - u * Ideal.sin (angle p l) = rotary p (k % 64) a' u' d := by
  subst hl ha hu
  unfold rotary
  rw [if_pos h]

/-- The rotation of a head's second half, as the reading gives it. -/
theorem rotary_hi (p k l : ℕ) (hl : l = k % 64) (h : ¬ l < 32) {a a' d d' : EReal} (u : EReal) (ha : a = a') (hd : d = d') :
    a * Ideal.cos (angle p (l - 32)) + d * Ideal.sin (angle p (l - 32)) = rotary p (k % 64) a' u d' := by
  subst hl ha hd
  unfold rotary
  rw [if_neg h]

/-- The reference's second result. -/
theorem heads_at (b : Fin 4) (p : Fin 4096) (k : Fin 2048) :
    (show FVec Ideal S4x4096x2048 .bf16 from res_out1 m c) (ix3 b p k) = (args m c).heads b p k := by
  have hk := k.isLt
  have hq := Args.heads_queries (args m c) b p k
  have hkk := Args.heads_keys (args m c) b p k
  have hr := Args.heads_rest (args m c) b p k
  generalize (args m c).heads b p k = z at *
  pointwise [res_main_v118]
  split
  · next h0 =>
    refine Eq.trans ?_ (hq h0).symm
    split
    · next h =>
      refine rotary_lo p.val k.val (k.val % 64) rfl h _ ?_ ?_ <;> exact col_at m c b p _ _ _ (by omega)
    · next h =>
      refine rotary_hi p.val k.val (k.val % 64) rfl h _ ?_ ?_ <;> exact col_at m c b p _ _ _ (by omega)
  · next h0 =>
    split
    · next h1 =>
      refine Eq.trans (Ideal.mul_congr ?_ rfl) (hkk (by omega) (by omega)).symm
      split
      · next h =>
        refine rotary_lo p.val k.val ((k.val - 512) % 64) (by omega) h _ ?_ ?_ <;> exact col_at m c b p _ _ _ (by omega)
      · next h =>
        refine rotary_hi p.val k.val ((k.val - 512) % 64) (by omega) h _ ?_ ?_ <;> exact col_at m c b p _ _ _ (by omega)
    · next h1 =>
      refine Eq.trans ?_ (hr (by omega)).symm
      split
      · next h2 => exact col_at m c b p _ _ _ (by omega)
      · next h2 => exact col_at m c b p _ _ _ (by omega)

end Inp.Smp.Ref
-- ==== Proof.SmpInVal.lean ====
/- The sample's input projection's result arrays: what each grid point stores is the row mathematics of `InpSpec` on the argument arrays. -/
module

public import proofs.«01_k».proof.Proof.InpTile
public import proofs.«01_k».proof.Proof.Gen.SmpInIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Inp.Smp

open Cert.SmpInIdeal Cert.SmpInIdeal.Gen

variable (m : (ℓ : Loc nD τ sig) → Buf (Elt Ideal) ℓ) (c : Dev nD)

/-- The kernel's arguments. -/
def args : Args 4 where
  X := m ((c : Thread nD τ).loc main_arg0)
  G := m ((c : Thread nD τ).loc main_arg1)
  W := m ((c : Thread nD τ).loc main_arg2)
  CW := m ((c : Thread nD τ).loc main_arg3)
  CB := m ((c : Thread nD τ).loc main_arg4)

/-- The index maps of the windows that move, and the grid point's second coordinate. -/
theorem idx : ∀ t : Fin cfg0.N,
    win0_0.index t = ![t.val / 4, (t.val % 4) * 128 - 1, 0] ∧ win0_1.index t = ![t.val / 4, t.val % 4, 0]
    ∧ win0_2.index t = ![t.val / 4, min ((t.val % 4 + 1) * 128) 511, 0]
    ∧ win0_8.index t = ![t.val % 4, 0] ∧ win0_9.index t = ![t.val % 4, 0]
    ∧ win0_10.index t = ![t.val / 4, t.val % 4, 0] ∧ win0_11.index t = ![t.val / 4, t.val % 4, 0]
    ∧ (grid0.coords t 1).val = t.val % 4 ∧ t.val / 4 < 4 :=
  (by decide +kernel : ∀ t : Fin grid0.N, _)

/-- The index maps of the windows that stand still. -/
theorem idx_const : ∀ t : Fin cfg0.N,
    win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The batch row of grid point `t`. -/
def batch (t : Fin cfg0.N) : Fin 4 := ⟨t.val / 4, (idx t).2.2.2.2.2.2.2.2⟩

/-- The stacked rows are the sequence's. -/
theorem x_rows (t : Fin cfg0.N) (r : Fin 1040) (p : Fin 4096)
    (hp : p.val = t.val % 4 * 1024 + r.val ∧ r.val < 1032 ∨ p.val + 1040 = t.val % 4 * 1024 + r.val ∧ 1032 ≤ r.val) :
    ladder (iblk m c 0 t) (iblk m c 1 t) (iblk m c 2 t) r = fun j => (args m c).X (ix3 (batch t) p j) := by
  funext j
  unfold ladder batch
  have hr := r.isLt
  split
  · blk_ext [iblk, V, idx t, args]
  · split <;> blk_ext [iblk, V, idx t, args]

set_option maxHeartbeats 1000000 in
/-- The weight windows' blocks, read at an index: the argument's slice. -/
theorem weights (t : Fin cfg0.N) :
    (∀ j : Fin 1024, iblk m c 3 t (ix2 0 j : S1x1024.Idx) = (args m c).G (ix1 j))
    ∧ (∀ (k : Fin 1024) (j : Fin 1536), iblk m c 4 t (ix2 k j : S1024x1536.Idx) = (args m c).W (ix2 k ⟨j.val, by omega⟩))
    ∧ (∀ (k : Fin 1024) (j : Fin 2048), iblk m c 5 t (ix2 k j : S1024x2048.Idx) = (args m c).W (ix2 k ⟨1536 + j.val, by omega⟩))
    ∧ (∀ (k : Fin 3) (j : Fin 1536), iblk m c 6 t (ix2 k j : S3x1536.Idx) = (args m c).CW (ix2 k j))
    ∧ (∀ j : Fin 1536, iblk m c 7 t (ix2 0 j : S1x1536.Idx) = (args m c).CB (ix1 j)) := by
  refine ⟨?_, ?_, ?_, ?_, ?_⟩ <;> intros <;> blk_simp [iblk] <;> entry_read <;> pointwise [args] <;>
    blk_ext [idx_const t]

/-- The rotary tables' blocks, read at an index. -/
theorem tables (t : Fin cfg0.N) (r : Fin 1024) (l : Fin 128) :
    iblk m c 8 t (ix2 r l : S1024x128.Idx)
        = Ideal.cos (angle (t.val % 4 * 1024 + r.val) (if l.val % 64 < 32 then l.val % 64 else l.val % 64 - 32))
    ∧ iblk m c 9 t (ix2 r l : S1024x128.Idx)
        = (if l.val % 64 < 32 then -Ideal.sin (angle (t.val % 4 * 1024 + r.val) (l.val % 64))
           else Ideal.sin (angle (t.val % 4 * 1024 + r.val) (l.val % 64 - 32))) := by
  refine ⟨?_, ?_⟩ <;> blk_simp [iblk] <;> entry_read <;> pointwise <;>
    blk_simp [idx t]
  · split <;> rfl
  · split <;> rfl

/-- Grid point `t`'s blocks and what they hold. -/
def tile (t : Fin cfg0.N) : Tile (args m c) (batch t) ⟨t.val % 4, by omega⟩ where
  x0 := iblk m c 0 t
  x1 := iblk m c 1 t
  x2 := iblk m c 2 t
  g := iblk m c 3 t
  wh := iblk m c 4 t
  wr := iblk m c 5 t
  cw := iblk m c 6 t
  cb := iblk m c 7 t
  cs := iblk m c 8 t
  sn := iblk m c 9 t
  x_rows := x_rows m c t
  g_at := (weights m c t).1
  wh_at := (weights m c t).2.1
  wr_at := (weights m c t).2.2.1
  cw_at := (weights m c t).2.2.2.1
  cb_at := (weights m c t).2.2.2.2
  cs_at := fun r l => (tables m c t r l).1
  sn_at := fun r l => (tables m c t r l).2

/-- The grid point's mask is its block's. -/
theorem mask_of (t : Fin cfg0.N) : k0_pay3 (grid0.coords t) = mask ⟨t.val % 4, by omega⟩ := by
  have h : (grid0.coords t 1).val = (cell ⟨t.val % 4, by omega⟩ 1).val :=
    (idx t).2.2.2.2.2.2.2.1.trans (cell_at ⟨t.val % 4, by omega⟩).symm
  unfold mask k0_pay3 Cert.InpIdeal.Gen.k0_pay3
  rw [h]

/-- The tables are stored as they are. -/
theorem cosine_store (x : FVec Ideal S1024x128 .f32) : k0_pay7 (F := Ideal) x = x := cosines x

/-- The tables are stored as they are. -/
theorem sine_store (x : FVec Ideal S1024x128 .f32) : k0_pay8 (F := Ideal) x = x := sines x

set_option maxHeartbeats 2000000 in
/-- The convolution's array is the row mathematics of the argument arrays. -/
theorem final10 : (dats m 0 c).arrAt 10 cfg0.N = (fun i => (args m c).conv (i 0) (i 1).val (i 2) : FVec Ideal S4x4096x1536 .bf16) := by
  refine (dats m 0 c).arrAt_eq_of_covers 10 _ (by decide +kernel) fun t _ y => ?_
  blk_simp
  rw [after0_10]; unfold Gen.outsAt0; frame_open
  simp (disch := decide) only [↓ View.readCov_skip, ↓ View.readCov_cons_toLoadRect, ↓ View.readCov_fill]
  frame_out
  idx_vars y
  obtain rfl : y0 = 0 := Subsingleton.elim _ _
  have e0 : batch t = ((cfg0.win 10).blk t).view.emb (ix3 0 y1 y2) 0 := Fin.ext (by unfold batch; blk_simp [idx t]; simp)
  have e1 : (pos ⟨t.val % 4, by omega⟩ y1).val = win0_10.index t 1 * 1024 + y1.val := by rw [(idx t).2.2.2.2.2.1]; rfl
  have e2 : y2 = ((cfg0.win 10).blk t).view.emb (ix3 0 y1 y2) 2 := Fin.ext (by blk_simp [idx t])
  refine Eq.trans ?_ (congr (congrArg₂ (args m c).conv e0 e1) e2)
  rw [mask_of]
  refine (tile m c t).stored y1 y2 _ _ _ ?_ ?_ ?_
  all_goals
    intro j
    pointwise
  all_goals rfl

set_option maxHeartbeats 2000000 in
/-- The queries', keys', values' and gates' array is the row mathematics of the argument arrays. -/
theorem final11 : (dats m 0 c).arrAt 11 cfg0.N = (fun i => (args m c).heads (i 0) (i 1) (i 2) : FVec Ideal S4x4096x2048 .bf16) := by
  refine (dats m 0 c).arrAt_eq_of_covers 11 _ (by decide +kernel) fun t _ y => ?_
  blk_simp
  rw [after0_11]; unfold Gen.outsAt0; frame_open
  simp (disch := decide) only [↓ View.readCov_skip, ↓ View.readCov_cons_toLoadRect, ↓ View.readCov_fill]
  frame_out
  simp only [cosine_store, sine_store]
  have e : k0_pay6 (F := Ideal) (k0_pay2 (iblk m c 1 t) (iblk m c 2 t) (iblk m c 0 t) (iblk m c 3 t)) (FloatOps.ofBits .f32 0#32)
      (k0_pay3 (grid0.coords t)) (iblk m c 5 t) = (tile m c t).pr := by
    rw [mask_of]
    with_unfolding_all rfl
  simp only [e]
  refine (View.canon_apply_of_pieces (fun y => (args m c).heads (batch t) (pos ⟨t.val % 4, by omega⟩ (y 1)) (y 2)) _ ?_ y
    (View.cover_of_tiledBy _ ![1, 1024, 128] (by sl_kernel_rfl) y)).trans ?_
  · have q := fun r l => queries_at ((tile m c t).pr) (iblk m c 8 t) (iblk m c 9 t) r l
    have k := fun r l => keys_at ((tile m c t).pr) (iblk m c 8 t) (iblk m c 9 t) r l
    simp only [List.forall_mem_cons]
    refine ⟨fun x => ?_, fun x => ?_, fun x => ?_, fun x => ?_, fun x => ?_, fun x => ?_, fun x => ?_, fun x => ?_, fun x => ?_,
      fun _ h => absurd h List.not_mem_nil⟩ <;> obtain ⟨r, l, rfl⟩ := idx3_split x
    · exact (rest_at ((tile m c t).pr) r l).trans ((tile m c t).rest_piece r l _)
    · exact (k r l).2.2.2.trans ((tile m c t).key_piece r l 896 (by omega) rfl _)
    · exact (k r l).2.2.1.trans ((tile m c t).key_piece r l 768 (by omega) rfl _)
    · exact (k r l).2.1.trans ((tile m c t).key_piece r l 640 (by omega) rfl _)
    · exact (k r l).1.trans ((tile m c t).key_piece r l 512 (by omega) rfl _)
    · exact (q r l).2.2.2.trans ((tile m c t).query_piece r l 384 (by omega) rfl _)
    · exact (q r l).2.2.1.trans ((tile m c t).query_piece r l 256 (by omega) rfl _)
    · exact (q r l).2.1.trans ((tile m c t).query_piece r l 128 (by omega) rfl _)
    · exact (q r l).1.trans ((tile m c t).query_piece r l 0 (by omega) rfl _)
  idx_vars y
  obtain rfl : y0 = 0 := Subsingleton.elim _ _
  have e0 : batch t = ((cfg0.win 11).blk t).view.emb (ix3 0 y1 y2) 0 := Fin.ext (by unfold batch; blk_simp [idx t]; simp)
  have e1 : pos ⟨t.val % 4, by omega⟩ y1 = ((cfg0.win 11).blk t).view.emb (ix3 0 y1 y2) 1 := Fin.ext (by unfold pos; blk_simp [idx t])
  have e2 : y2 = ((cfg0.win 11).blk t).view.emb (ix3 0 y1 y2) 2 := Fin.ext (by blk_simp [idx t])
  exact congr (congrArg₂ (args m c).heads e0 e1) e2

end Inp.Smp
-- ==== Proof.SmpInClaim.lean ====
/- The sample's input projection's claims: its reference's frame, and kernel and reference ending with the same arrays. -/
module

public import proofs.«01_k».proof.Defs
public import proofs.«01_k».proof.Proof.SmpInRef
public import proofs.«01_k».proof.Proof.SmpInVal
public import proofs.«01_k».proof.Proof.Gen.SmpInRefIdeal
public import Idealize.ShloMosaic.Lib.Claim

@[expose] public section

set_option maxRecDepth 16384

noncomputable section

open Idealize.ShloMosaic Idealize.ShloMosaic.TcCoe Idealize.SL.Sem

namespace Inp.Smp

/-- The reference runs, leaves its arguments as they were, and ends with every counter at zero. -/
theorem reference_frame : Cert.quiescent_SmpInRefIdeal (hSmpInRefIdeal := Cert.SmpInRefIdeal.Gen.facts) := by
  intro m g _
  exact (θ_run Cert.SmpInRefIdeal.defs _ _).mono (fun r h => ⟨fun c => (h c).2.2, sem_eq_zero_of_no_sems (by decide) r.2⟩)
    (Cert.SmpInRefIdeal.Value.run (F := Ideal) m g)

/-- Kernel and reference, on the same arguments, end with the same two arrays. -/
theorem algebraic : Cert.algebraic_SmpInIdeal_SmpInRefIdeal (hSmpInIdeal := Cert.SmpInIdeal.Gen.facts) (hSmpInRefIdeal := Cert.SmpInRefIdeal.Gen.facts) := by
  pair_intro
  · run_from (Cert.SmpInIdeal.Value.run_blocks m g)
  · refine θ_run_mono (Cert.SmpInRefIdeal.Value.run m' g') ?_
    intro r hr c
    have e : Inp.Smp.Ref.args m' c = Inp.Smp.args m c := by
      unfold Inp.Smp.Ref.args Inp.Smp.args
      obtain ⟨h0, h1, h2, h3, h4⟩ := hagree c
      exact Args.mk.injEq .. |>.mpr ⟨h0, h1, h2, h3, h4⟩
    refine ⟨(hr c).1.trans ?_, (hr c).2.1.trans ?_, (hr c).2.2⟩
    · funext i
      obtain ⟨b, p, k, rfl⟩ : ∃ b p k, i = ix3 b p k := ⟨i 0, i 1, i 2, by funext a; fin_cases a <;> rfl⟩
      refine (Inp.Smp.Ref.conv_at _ _ b p k).trans ?_
      rw [e, Inp.Smp.final10]
      rfl
    · funext i
      obtain ⟨b, p, k, rfl⟩ : ∃ b p k, i = ix3 b p k := ⟨i 0, i 1, i 2, by funext a; fin_cases a <;> rfl⟩
      refine (Inp.Smp.Ref.heads_at _ _ b p k).trans ?_
      rw [e, Inp.Smp.final11]
      rfl

end Inp.Smp
end
-- ==== Proof.SmpRetRun.lean ====
/- The retention body run once, at any float values: through its four counted loops by their invariants. What it leaves in
   the output's buffer is named by the loops' recursions, over whatever the scratch held before. -/
module

public import proofs.«01_k».proof.Proof.Gen.SmpRetIdeal.Frame.Runs

@[expose] public section

set_option maxRecDepth 16384

noncomputable section

namespace Rt.Smp

open Cert.SmpRetIdeal Cert.SmpRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
  (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole)
  (arg6 : Memref sig .tc .vmem S2x512x256 .f32) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole)
  (arg10 : Memref sig .tc .vmem S2x256x128 .f32) (harg10 : arg10.IsWhole) (arg11 : Memref sig .tc .vmem S2x1x128 .f32) (harg11 : arg11.IsWhole) (arg12 : Memref sig .tc .vmem S2x1x128 .f32) (harg12 : arg12.IsWhole)
  (arg13 : Memref sig .tc .vmem S256x256 .bf16) (harg13 : arg13.IsWhole) (arg14 : Memref sig .tc .vmem S1x256 .f32) (harg14 : arg14.IsWhole) (arg15 : Memref sig .tc .vmem S1x256 .f32) (harg15 : arg15.IsWhole)
  (arg16 : Memref sig .tc .vmem S1x4096x256 .bf16) (harg16 : arg16.IsWhole) (arg17 : Memref sig .tc .vmem S4096x256 .f32) (harg17 : arg17.IsWhole) (arg18 : Memref sig .tc .vmem S16x2x256x128 .f32) (harg18 : arg18.IsWhole) (arg19 : Memref sig .tc .vmem S16x2x128x128 .bf16) (harg19 : arg19.IsWhole)
  (x0 : Vec F S1x4096x256 .bf16) (x1 : Vec F S1x4096x256 .bf16) (x2 : Vec F S1x4096x256 .bf16) (x3 : Vec F S1x4096x256 .bf16) (x4 : Vec F S2x512x256 .f32) (x5 : Vec F S2x256x128 .f32) (x6 : Vec F S2x256x128 .f32) (x7 : Vec F S2x256x128 .f32) (x8 : Vec F S2x256x128 .f32) (x9 : Vec F S2x1x128 .f32) (x10 : Vec F S2x1x128 .f32) (x11 : Vec F S256x256 .bf16) (x12 : Vec F S1x256 .f32) (x13 : Vec F S1x256 .f32)

/-- The chunks' key–value products after the first loop, written over `g`. -/
def kv (g : BufTy.Contents (Elt F) arg18.view.ty) : BufTy.Contents (Elt F) arg18.view.ty :=
  arg18.view.writes (Elt F) g (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (harg3.unread x1) (harg4.unread x2) (harg8.unread x6) (harg10.unread x8) k0_t1_loop.trips)

/-- The backward states after the second loop, written over `h`. -/
def back (g : BufTy.Contents (Elt F) arg18.view.ty) (h : BufTy.Contents (Elt F) arg19.view.ty) : BufTy.Contents (Elt F) arg19.view.ty :=
  arg19.view.writes (Elt F) h (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) k0_t2_loop.trips).2

/-- The retention rows after the third loop, written over `e`. -/
def rows (e : BufTy.Contents (Elt F) arg17.view.ty) (g : BufTy.Contents (Elt F) arg18.view.ty) (h : BufTy.Contents (Elt F) arg19.view.ty) :
    BufTy.Contents (Elt F) arg17.view.ty :=
  arg17.view.writes (Elt F) e (st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (Scalar.ofBits .bf16 0x0000#16) (harg2.unread x0) (harg3.unread x1) (harg4.unread x2) (harg6.unread x4) (harg7.unread x5) (harg9.unread x7) (harg11.unread x9)
    (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) k0_t3_loop.trips).2

/-- The output block after the fourth loop, written over `d`. -/
def left (d : BufTy.Contents (Elt F) arg16.view.ty) (e : BufTy.Contents (Elt F) arg17.view.ty) (g : BufTy.Contents (Elt F) arg18.view.ty) (h : BufTy.Contents (Elt F) arg19.view.ty) :
    BufTy.Contents (Elt F) arg16.view.ty :=
  arg16.view.writes (Elt F) d (pb_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    (View.readAt (Elt F) arg13.view (Rect.unit (s := S256x256) ![0, 0] S256x256.size inb_S256x256_S256x256_0_0).toLoadRect (harg13.unread x11))
    (harg5.unread x3) (harg14.unread x12) (harg15.unread x13)
    (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) k0_t4_loop.trips)

set_option maxHeartbeats 2000000 in
/-- The body's triple: the inputs come back as they were, the scratch at some contents, the output's buffer at `left`. -/
theorem run (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13
        ∗ (∃ d e g h, arg16.view.loc (c : Thread nD τ) ↦[arg16.view.set]{fullShare} left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 d e g h) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists f14, fs0, fs1, fs2
    unfold left rows back kv
    iexact H14
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Rt.Smp

end
-- ==== Proof.SmpRetFrame.lean ====
/- The retention program's frame and its run with the result named, both from the one run of its body: the frame forgets
   what the output's buffer holds; the named run takes a value that every `left` reads back to. -/
module

public import proofs.«01_k».proof.Proof.SmpRetRun
public import Idealize.ShloMosaic.Lib.Claim

@[expose] public section

set_option maxRecDepth 16384

noncomputable section

namespace Rt.Smp

open Cert.SmpRetIdeal Cert.SmpRetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)
variable (o : Dev nD → Fin cfg0.N → Vec F S1x4096x256 .bf16)

/-- The output window, the one the frame forgets. -/
def forgets : Fin 15 → Bool := fun w => w.val == 14

/-- The pipeline's proof data: each input's block stays, the output's buffer ends at `o`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => o c t
  Φ _ := Pipeline.ΦA spec0 c
  q w := Pipeline.shareOf spec0 w
  owed _ := 0

/-- The arrays are as the region finds them. -/
theorem A_eq (c : Dev nD) (w : Fin cfg0.W) : (dats m o 0 c).A w = V m c (Pipeline.arrRef spec0 w) := by
  dsimp only [dats]

/-- What input window 0 holds after the body: its block. -/
theorem after_0 (c : Dev nD) (t : Fin cfg0.N) : (dats m o 0 c).after 0 t = iblk m c 0 t := by dsimp only [dats]
/-- What input window 0 holds before the body: its block. -/
theorem before_0 (c : Dev nD) (t : Fin cfg0.N) (d) : (dats m o 0 c).before 0 t d = iblk m c 0 t :=
  before0_0_of m (dats m o 0 c) (A_eq m o c 0) (after_0 m o c) t d
/-- What input window 1 holds after the body: its block. -/
theorem after_1 (c : Dev nD) (t : Fin cfg0.N) : (dats m o 0 c).after 1 t = iblk m c 1 t := by dsimp only [dats]
/-- What input window 1 holds before the body: its block. -/
theorem before_1 (c : Dev nD) (t : Fin cfg0.N) (d) : (dats m o 0 c).before 1 t d = iblk m c 1 t :=
  before0_1_of m (dats m o 0 c) (A_eq m o c 1) (after_1 m o c) t d
/-- What input window 2 holds after the body: its block. -/
theorem after_2 (c : Dev nD) (t : Fin cfg0.N) : (dats m o 0 c).after 2 t = iblk m c 2 t := by dsimp only [dats]
/-- What input window 2 holds before the body: its block. -/
theorem before_2 (c : Dev nD) (t : Fin cfg0.N) (d) : (dats m o 0 c).before 2 t d = iblk m c 2 t :=
  before0_2_of m (dats m o 0 c) (A_eq m o c 2) (after_2 m o c) t d
/-- What input window 3 holds after the body: its block. -/
theorem after_3 (c : Dev nD) (t : Fin cfg0.N) : (dats m o 0 c).after 3 t = iblk m c 3 t := by dsimp only [dats]
/-- What input window 3 holds before the body: its block. -/
theorem before_3 (c : Dev nD) (t : Fin cfg0.N) (d) : (dats m o 0 c).before 3 t d = iblk m c 3 t :=
  before0_3_of m (dats m o 0 c) (A_eq m o c 3) (after_3 m o c) t d
/-- What input window 4 holds after the body: its block. -/
theorem after_4 (c : Dev nD) (t : Fin cfg0.N) : (dats m o 0 c).after 4 t = iblk m c 4 t := by dsimp only [dats]
/-- What input window 4 holds before the body: its block. -/
theorem before_4 (c : Dev nD) (t : Fin cfg0.N) (d) : (dats m o 0 c).before 4 t d = iblk m c 4 t :=
  before0_4_of m (dats m o 0 c) (A_eq m o c 4) (after_4 m o c) t d
/-- What input window 5 holds after the body: its block. -/
theorem after_5 (c : Dev nD) (t : Fin cfg0.N) : (dats m o 0 c).after 5 t = iblk m c 5 t := by dsimp only [dats]
/-- What input window 5 holds before the body: its block. -/
theorem before_5 (c : Dev nD) (t : Fin cfg0.N) (d) : (dats m o 0 c).before 5 t d = iblk m c 5 t :=
  before0_5_of m (dats m o 0 c) (A_eq m o c 5) (after_5 m o c) t d
/-- What input window 6 holds after the body: its block. -/
theorem after_6 (c : Dev nD) (t : Fin cfg0.N) : (dats m o 0 c).after 6 t = iblk m c 6 t := by dsimp only [dats]
/-- What input window 6 holds before the body: its block. -/
theorem before_6 (c : Dev nD) (t : Fin cfg0.N) (d) : (dats m o 0 c).before 6 t d = iblk m c 6 t :=
  before0_6_of m (dats m o 0 c) (A_eq m o c 6) (after_6 m o c) t d
/-- What input window 7 holds after the body: its block. -/
theorem after_7 (c : Dev nD) (t : Fin cfg0.N) : (dats m o 0 c).after 7 t = iblk m c 7 t := by dsimp only [dats]
/-- What input window 7 holds before the body: its block. -/
theorem before_7 (c : Dev nD) (t : Fin cfg0.N) (d) : (dats m o 0 c).before 7 t d = iblk m c 7 t :=
  before0_7_of m (dats m o 0 c) (A_eq m o c 7) (after_7 m o c) t d
/-- What input window 8 holds after the body: its block. -/
theorem after_8 (c : Dev nD) (t : Fin cfg0.N) : (dats m o 0 c).after 8 t = iblk m c 8 t := by dsimp only [dats]
/-- What input window 8 holds before the body: its block. -/
theorem before_8 (c : Dev nD) (t : Fin cfg0.N) (d) : (dats m o 0 c).before 8 t d = iblk m c 8 t :=
  before0_8_of m (dats m o 0 c) (A_eq m o c 8) (after_8 m o c) t d
/-- What input window 9 holds after the body: its block. -/
theorem after_9 (c : Dev nD) (t : Fin cfg0.N) : (dats m o 0 c).after 9 t = iblk m c 9 t := by dsimp only [dats]
/-- What input window 9 holds before the body: its block. -/
theorem before_9 (c : Dev nD) (t : Fin cfg0.N) (d) : (dats m o 0 c).before 9 t d = iblk m c 9 t :=
  before0_9_of m (dats m o 0 c) (A_eq m o c 9) (after_9 m o c) t d
/-- What input window 10 holds after the body: its block. -/
theorem after_10 (c : Dev nD) (t : Fin cfg0.N) : (dats m o 0 c).after 10 t = iblk m c 10 t := by dsimp only [dats]
/-- What input window 10 holds before the body: its block. -/
theorem before_10 (c : Dev nD) (t : Fin cfg0.N) (d) : (dats m o 0 c).before 10 t d = iblk m c 10 t :=
  before0_10_of m (dats m o 0 c) (A_eq m o c 10) (after_10 m o c) t d
/-- What input window 11 holds after the body: its block. -/
theorem after_11 (c : Dev nD) (t : Fin cfg0.N) : (dats m o 0 c).after 11 t = iblk m c 11 t := by dsimp only [dats]
/-- What input window 11 holds before the body: its block. -/
theorem before_11 (c : Dev nD) (t : Fin cfg0.N) (d) : (dats m o 0 c).before 11 t d = iblk m c 11 t :=
  before0_11_of m (dats m o 0 c) (A_eq m o c 11) (after_11 m o c) t d
/-- What input window 12 holds after the body: its block. -/
theorem after_12 (c : Dev nD) (t : Fin cfg0.N) : (dats m o 0 c).after 12 t = iblk m c 12 t := by dsimp only [dats]
/-- What input window 12 holds before the body: its block. -/
theorem before_12 (c : Dev nD) (t : Fin cfg0.N) (d) : (dats m o 0 c).before 12 t d = iblk m c 12 t :=
  before0_12_of m (dats m o 0 c) (A_eq m o c 12) (after_12 m o c) t d
/-- What input window 13 holds after the body: its block. -/
theorem after_13 (c : Dev nD) (t : Fin cfg0.N) : (dats m o 0 c).after 13 t = iblk m c 13 t := by dsimp only [dats]
/-- What input window 13 holds before the body: its block. -/
theorem before_13 (c : Dev nD) (t : Fin cfg0.N) (d) : (dats m o 0 c).before 13 t d = iblk m c 13 t :=
  before0_13_of m (dats m o 0 c) (A_eq m o c 13) (after_13 m o c) t d

/-- The body's precondition window by window, the output's buffer at what `Y` says of it. -/
def bodyPre (Y : Dev nD → Fin cfg0.N → sProp (MT nD τ sig Unit (Elt F) ℕ (UR sig nD τ) ℕ)) (c : Dev nD) (t : Fin cfg0.N) : sProp (MT nD τ sig Unit (Elt F) ℕ (UR sig nD τ) ℕ) :=
  iprop((dats m o 0 c).Φ t.castSucc ∗ (dats m o 0 c).owesAt () t.castSucc
    ∗ (∃ d, owns (c : Thread nD τ) (ms0_0 t) fullShare ((dats m o 0 c).before 0 t d))
    ∗ (∃ d, owns (c : Thread nD τ) (ms0_1 t) fullShare ((dats m o 0 c).before 1 t d))
    ∗ (∃ d, owns (c : Thread nD τ) (ms0_2 t) fullShare ((dats m o 0 c).before 2 t d))
    ∗ (∃ d, owns (c : Thread nD τ) (ms0_3 t) fullShare ((dats m o 0 c).before 3 t d))
    ∗ (∃ d, owns (c : Thread nD τ) (ms0_4 t) fullShare ((dats m o 0 c).before 4 t d))
    ∗ (∃ d, owns (c : Thread nD τ) (ms0_5 t) fullShare ((dats m o 0 c).before 5 t d))
    ∗ (∃ d, owns (c : Thread nD τ) (ms0_6 t) fullShare ((dats m o 0 c).before 6 t d))
    ∗ (∃ d, owns (c : Thread nD τ) (ms0_7 t) fullShare ((dats m o 0 c).before 7 t d))
    ∗ (∃ d, owns (c : Thread nD τ) (ms0_8 t) fullShare ((dats m o 0 c).before 8 t d))
    ∗ (∃ d, owns (c : Thread nD τ) (ms0_9 t) fullShare ((dats m o 0 c).before 9 t d))
    ∗ (∃ d, owns (c : Thread nD τ) (ms0_10 t) fullShare ((dats m o 0 c).before 10 t d))
    ∗ (∃ d, owns (c : Thread nD τ) (ms0_11 t) fullShare ((dats m o 0 c).before 11 t d))
    ∗ (∃ d, owns (c : Thread nD τ) (ms0_12 t) fullShare ((dats m o 0 c).before 12 t d))
    ∗ (∃ d, owns (c : Thread nD τ) (ms0_13 t) fullShare ((dats m o 0 c).before 13 t d))
    ∗ Y c t)

/-- What the body leaves in the output's buffer at point `t`, over whatever the buffers held. -/
def leftAt (c : Dev nD) (t : Fin cfg0.N) :=
  left (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's postcondition, the output's buffer at what `X` says of it. -/
def bodyPost (X : Dev nD → Fin cfg0.N → sProp (MT nD τ sig Unit (Elt F) ℕ (UR sig nD τ) ℕ)) (c : Dev nD) (t : Fin cfg0.N) : sProp (MT nD τ sig Unit (Elt F) ℕ (UR sig nD τ) ℕ) :=
  iprop((dats m o 0 c).Φ t.succ ∗ (dats m o 0 c).owesAt () t.succ
    ∗ owns (c : Thread nD τ) (ms0_0 t) fullShare ((dats m o 0 c).after 0 t)
    ∗ owns (c : Thread nD τ) (ms0_1 t) fullShare ((dats m o 0 c).after 1 t)
    ∗ owns (c : Thread nD τ) (ms0_2 t) fullShare ((dats m o 0 c).after 2 t)
    ∗ owns (c : Thread nD τ) (ms0_3 t) fullShare ((dats m o 0 c).after 3 t)
    ∗ owns (c : Thread nD τ) (ms0_4 t) fullShare ((dats m o 0 c).after 4 t)
    ∗ owns (c : Thread nD τ) (ms0_5 t) fullShare ((dats m o 0 c).after 5 t)
    ∗ owns (c : Thread nD τ) (ms0_6 t) fullShare ((dats m o 0 c).after 6 t)
    ∗ owns (c : Thread nD τ) (ms0_7 t) fullShare ((dats m o 0 c).after 7 t)
    ∗ owns (c : Thread nD τ) (ms0_8 t) fullShare ((dats m o 0 c).after 8 t)
    ∗ owns (c : Thread nD τ) (ms0_9 t) fullShare ((dats m o 0 c).after 9 t)
    ∗ owns (c : Thread nD τ) (ms0_10 t) fullShare ((dats m o 0 c).after 10 t)
    ∗ owns (c : Thread nD τ) (ms0_11 t) fullShare ((dats m o 0 c).after 11 t)
    ∗ owns (c : Thread nD τ) (ms0_12 t) fullShare ((dats m o 0 c).after 12 t)
    ∗ owns (c : Thread nD τ) (ms0_13 t) fullShare ((dats m o 0 c).after 13 t)
    ∗ X c t)

set_option maxHeartbeats 1600000 in
/-- The body at any point, for any `Y` the buffer can be taken from and any `X` that `leftAt` gives. -/
theorem sound_body (Y X : Dev nD → Fin cfg0.N → sProp (MT nD τ sig Unit (Elt F) ℕ (UR sig nD τ) ℕ)) (c : Dev nD) (t : Fin cfg0.N)
    (hY : Y c t ⊢ iprop(∃ d, owns (c : Thread nD τ) (ms0_14 t) fullShare d))
    (hX : iprop(∃ d e g h, (ms0_14 t).view.loc (c : Thread nD τ) ↦[(ms0_14 t).view.set]{fullShare} leftAt m c t d e g h) ⊢ X c t) :
    bodyPre m o Y c t ⊢ wp frame (wpE (defs₀ (F := F)) Variants.none c none) Set.univ (bodyAt0 t) (fun _ => bodyPost m o X c t) := by
  unfold bodyPre bodyPost bodyAt0
  simp only [before_0, before_1, before_2, before_3, before_4, before_5, before_6, before_7, before_8, before_9, before_10, before_11, before_12, before_13]
  rw [show (dats m o 0 c).Φ t.succ = (dats m o 0 c).Φ t.castSucc from rfl,
    show (dats m o 0 c).owesAt () t.succ = (dats m o 0 c).owesAt () t.castSucc from rfl,
    after_0, after_1, after_2, after_3, after_4, after_5, after_6, after_7, after_8, after_9, after_10, after_11, after_12, after_13]
  rw [show (dats m o 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply ((run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply hY; iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply hX
  iexact H14

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The body obligation with the output forgotten. -/
theorem obligation_forget (c : Dev nD) : BodyObligation (dats (F := F) m o 0 c) (defs₀ (F := F)) Variants.none () Set.univ forgets := fun t => by
  rw [bigSep_W0, bigSep_W0, row]
  refine triple_restated (sound_body m o (fun c t => iprop(∃ d, owns (c : Thread nD τ) (ms0_14 t) fullShare d)) (fun c t => iprop(∃ d, owns (c : Thread nD τ) (ms0_14 t) fullShare d)) c t .rfl ?_) rfl .rfl fun _ => .rfl
  iintro ⟨%d, %e, %g, %h, H⟩
  unfold owns
  iexists _, _; isplitr; swap; · iexact H
  ipureintro; rfl

/-- The body obligation with the output named. -/
theorem obligation (ho : ∀ c t d e g h, (ms0_14 t).view.read (Elt F) (leftAt m c t d e g h) = o c t) (c : Dev nD) :
    BodyObligation (dats (F := F) m o 0 c) (defs₀ (F := F)) Variants.none () Set.univ := fun t => by
  rw [bigSep_W0, bigSep_W0, row]
  refine triple_restated (sound_body m o (fun c t => iprop(∃ d, owns (c : Thread nD τ) (ms0_14 t) fullShare ((dats m o 0 c).before 14 t d))) (fun c t => owns (c : Thread nD τ) (ms0_14 t) fullShare (o c t)) c t ?_ ?_) rfl .rfl fun _ => .rfl
  · iintro ⟨%d, H⟩
    iexists _; iexact H
  iintro ⟨%d, %e, %g, %h, H⟩
  unfold owns
  iexists _; isplitr; swap; · iexact H
  ipureintro; exact ho c t d e g h

set_option backward.isDefEq.respectTransparency.types false in
/-- The launch with the output forgotten: the inputs' arrays stay, and every counter ends at zero. -/
theorem run_forget : θ_run defs (onTc (τ := τ) (main (F := F))) (s₀ m ρ)
    (fun r => (Pipeline.RDat.FramePost (cfgs 0) (fun c => (dats m o 0 c).toRForget forgets) (V m)) r ∧ r.2.sem = fun _ => 0) :=
  Pipeline.θ_run_frame_forget_shared (Q' := _) cfgs (dats m o) (0 : Fin 1) launch₀0 defs₀ Variants.none forgets m ρ main
    (hbody := fun c => (obligation_forget m o c).loose) (hq := fun _ _ _ => rfl)
    (howed := fun _ _ => rfl) (V := V m) (hmain := hmain m Variants.none) (hA := A_eq m o) (hΦ := fun _ _ => rfl)

set_option backward.isDefEq.respectTransparency.types false in
/-- The launch with the output named. -/
theorem run_named (ho : ∀ c t d e g h, (ms0_14 t).view.read (Elt F) (leftAt m c t d e g h) = o c t) :
    θ_run defs (onTc (τ := τ) (main (F := F))) (s₀ m ρ) (fun r => (Pipeline.FramePost cfgs (dats m o) 0 (V m)) r ∧ r.2.sem = fun _ => 0) :=
  Pipeline.θ_run_frame_shared (Q' := _) cfgs (dats m o) (0 : Fin 1) launch₀0 defs₀ Variants.none m ρ main
    (hbody := fun c => (obligation m o ho c).loose) (hq := fun _ _ _ => rfl)
    (howed := fun _ _ => rfl) (V := V m) (hmain := hmain m Variants.none) (hA := A_eq m o) (hΦ := fun _ _ => rfl)

/-- The program runs, its arguments end as they were, and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  let o : Dev nD → Fin cfg0.N → Vec F S1x4096x256 .bf16 := fun _ t => Pipeline.Dat.unnamed (cfg := cfg0) 14 t
  (θ_run defs _ _).mono (fun r h => ⟨fun c =>
      ⟨((h.1.arr_in c 3 rfl).trans ((A_eq m o c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_forget m ρ o)

end Rt.Smp

end
-- ==== Proof.SmpRetClaim.lean ====
/- The retention program's frames, over the machine's floats and over the reals. -/
module

public import proofs.«01_k».proof.Defs
public import proofs.«01_k».proof.Proof.Gen.SmpRet
public import proofs.«01_k».proof.Proof.SmpRetFrame

@[expose] public section

set_option maxRecDepth 100000

noncomputable section

namespace Rt.Smp

open Idealize.ShloMosaic Idealize.SL.Sem

/-- The idealised retention program's frame. -/
theorem frame_ideal : Cert.quiescent_SmpRetIdeal (hSmpRetIdeal := Cert.SmpRetIdeal.Gen.facts) := fun m ρ _ => frame_any m ρ

set_option backward.isDefEq.respectTransparency false
set_option backward.isDefEq.respectTransparency.types false
variable {F : FTy → Type} [FloatOps F]

set_option maxHeartbeats 8000000 in
/-- The kernel bodies are the same. -/
theorem b_same : Cert.SmpRet.cc0_retention (F := F) = Cert.SmpRetIdeal.cc0_retention (F := F) := by exact rfl

set_option maxHeartbeats 8000000 in
/-- The body tables are the same: one label, the kernel's body. -/
theorem d_same : Cert.SmpRet.defs₀ (F := F) = Cert.SmpRetIdeal.defs₀ (F := F) := by
  funext p
  cases p with
  | tc =>
    funext ℓ a
    revert ℓ
    intro ⟨n, hn⟩
    cases n with
    | zero =>
      intro a
      cases a
      exact rfl
    | succ n => exact absurd hn (by simp)
  | scScalar i => exact rfl
  | scVector i j => exact rfl

set_option maxHeartbeats 8000000 in
/-- The host programs are the same. -/
theorem m_same : Cert.SmpRet.main (F := F) = Cert.SmpRetIdeal.main (F := F) := by exact rfl

set_option maxHeartbeats 8000000 in
/-- The retention program's frame: its text is the idealised program's, so the same run serves. -/
theorem frame_bits : Cert.quiescent_SmpRet (hSmpRet := Cert.SmpRet.Gen.facts) := by
  intro m ρ _
  show θ_run (Pipeline.defs Cert.SmpRet.pcfgs Cert.SmpRet.defs₀) _ _ _
  rw [d_same, m_same]
  exact frame_any (F := Bits) m ρ

end Rt.Smp

end
-- ==== Proof.SmpRetRef.lean ====
/- The retention reference read at an index: the mathematics of `RetSpec`, for a row of finite numbers. -/
module

public import proofs.«01_k».proof.Proof.RetSpec
public import proofs.«01_k».proof.Proof.InpSpec
public import proofs.«01_k».proof.Proof.Gen.SmpRetRefIdeal.Run

@[expose] public section

set_option maxRecDepth 16384

noncomputable section

open Idealize.ShloMosaic Idealize.ShloMosaic.TcCoe Idealize.SL.Sem

namespace Rt.Smp.Ref

open Cert.SmpRetRefIdeal Cert.SmpRetRefIdeal.Gen Cert.SmpRetRefIdeal.Value

variable (m : (ℓ : Loc nD τ sig) → Buf (Elt Ideal) ℓ) (c : Dev nD)

/-- The projected row, and the norm's scale and shift. -/
def X : FVec Ideal ⟨3, ![4, 4096, 2048]⟩ .bf16 := m ((c.tc : Thread nD τ).loc main_arg0)
def G : FVec Ideal ⟨1, ![512]⟩ .f32 := m ((c.tc : Thread nD τ).loc main_arg1)
def H : FVec Ideal ⟨1, ![512]⟩ .f32 := m ((c.tc : Thread nD τ).loc main_arg2)

/-- The zero a mask puts in. -/
theorem mask_zero : (id (constant (F := Ideal) S_ FTy.f32 0#32) ix0 : EReal) = 0 := by
  show Ideal.ofBits FTy.f32 0#32 = 0
  simp

/-- A forward decay. -/
theorem decay_f (s w : Fin 4096) (k : Fin 512) :
    (if 0 ≤ FloatOps.sitofp (F := Ideal) FTy.f32 (BitVec.ofNat 32 s.val) - FloatOps.sitofp (F := Ideal) FTy.f32 (BitVec.ofNat 32 w.val) then
      Ideal.exp ((if 0 ≤ FloatOps.sitofp (F := Ideal) FTy.f32 (BitVec.ofNat 32 s.val) - FloatOps.sitofp (F := Ideal) FTy.f32 (BitVec.ofNat 32 w.val) then
          FloatOps.sitofp (F := Ideal) FTy.f32 (BitVec.ofNat 32 s.val) - FloatOps.sitofp (F := Ideal) FTy.f32 (BitVec.ofNat 32 w.val) else id (constant (F := Ideal) S_ FTy.f32 0#32) ix0)
        * Ideal.log (1 - Ideal.pow (Ideal.ofBits FTy.f32 1073741824#32) (Ideal.ofBits FTy.f32 3231711232#32
            - FloatOps.sitofp (F := Ideal) FTy.f32 (BitVec.ofNat 32 (k.val / 64))))) else id (constant (F := Ideal) S_ FTy.f32 0#32) ix0)
      = (((if w.val ≤ s.val then Real.exp (((s.val : ℝ) - w.val) * LF (k.val / 64)) else 0 : ℝ)) : EReal) := by
  rw [mask_zero]
  rw [log_f _ (by omega), sit _ (by omega), sit _ (by omega)]
  have h0 := sub_nonneg_coe s.val w.val
  by_cases hsw : w.val ≤ s.val
  · rw [if_pos (h0.2 hsw), if_pos (h0.2 hsw), if_pos hsw, ← EReal.coe_sub, ← EReal.coe_mul, Ideal.exp_coe]
  · rw [if_neg (fun h => hsw (h0.1 h)), if_neg hsw, EReal.coe_zero]

/-- A backward decay. -/
theorem decay_b (s w : Fin 4096) (k : Fin 512) :
    (if 0 < FloatOps.sitofp (F := Ideal) FTy.f32 (BitVec.ofNat 32 w.val) - FloatOps.sitofp (F := Ideal) FTy.f32 (BitVec.ofNat 32 s.val) then
      Ideal.exp ((if 0 < FloatOps.sitofp (F := Ideal) FTy.f32 (BitVec.ofNat 32 w.val) - FloatOps.sitofp (F := Ideal) FTy.f32 (BitVec.ofNat 32 s.val) then
          FloatOps.sitofp (F := Ideal) FTy.f32 (BitVec.ofNat 32 w.val) - FloatOps.sitofp (F := Ideal) FTy.f32 (BitVec.ofNat 32 s.val) else id (constant (F := Ideal) S_ FTy.f32 0#32) ix0)
        * Ideal.log (1 - Ideal.pow (Ideal.ofBits FTy.f32 1073741824#32) (Ideal.ofBits FTy.f32 3232759808#32
            - FloatOps.sitofp (F := Ideal) FTy.f32 (BitVec.ofNat 32 (k.val / 64))))) else id (constant (F := Ideal) S_ FTy.f32 0#32) ix0)
      = (((if w.val ≤ s.val then 0 else Real.exp (((w.val : ℝ) - s.val) * LB (k.val / 64)) : ℝ)) : EReal) := by
  rw [mask_zero]
  rw [log_b _ (by omega), sit _ (by omega), sit _ (by omega)]
  have h0 : (0 < ((w.val : ℝ) : EReal) - ((s.val : ℝ) : EReal)) ↔ ¬ w.val ≤ s.val := by
    rw [← EReal.coe_sub, EReal.coe_pos, sub_pos, Nat.cast_lt, not_le]
  by_cases hsw : w.val ≤ s.val
  · rw [if_neg (fun h => h0.1 h hsw), if_pos hsw, EReal.coe_zero]
  · rw [if_pos (h0.2 hsw), if_pos (h0.2 hsw), if_neg hsw, ← EReal.coe_sub, ← EReal.coe_mul, Ideal.exp_coe]

theorem X_at (hX : Fin' (X m c)) (b : Fin 4) (s : Fin 4096) (k : ℕ) (hk : k < 2048) (hk' : k < 1536) :
    m (c.tc.loc main_arg0) (ix3 b s ⟨k, hk⟩) = ((xr (X m c) b s.val k : ℝ) : EReal) := xr_at (X m c) hX b s k hk hk'

set_option maxHeartbeats 4000000
/-- The reference's result. -/
theorem out_at (hX : Fin' (X m c)) (b : Fin 4) (s : Fin 4096) (k : Fin 512) :
    (show FVec Ideal S4x4096x512 .bf16 from res_out0 m c) (ix3 b s k) = result (X m c) b (G m c (ix1 k)) (H m c (ix1 k)) s.val k.val := by
  pointwise [res_main_v98]
  simp (disch := omega) only [X_at m c hX, decay_f, decay_b, ← EReal.coe_mul, ← coe_sum, ← EReal.coe_add, gate_eq]
  simp only [glob_sum (X m c) b s.val k.val k.val rfl, glob_sum (X m c) b s.val k.val _ (head_of k _), div64, ← EReal.coe_sub,
    ← EReal.coe_mul, ← coe_sum]
  unfold result varG ocG
  simp only [← head_of k]
  rw [← xe_at (X m c) b s (1536 + k.val) (by omega)]
  rfl

end Rt.Smp.Ref

end
-- ==== Proof.SmpRetPay.lean ====
/- The sample batch's retention body has the payloads of the prompt's: what they hold, from the prompt's. -/
module

public import proofs.«01_k».proof.Proof.Gen.SmpRetIdeal.Skeleton
public import proofs.«01_k».proof.Proof.RetPay

@[expose] public section

set_option maxRecDepth 16384

noncomputable section

open Idealize.ShloMosaic Idealize.ShloMosaic.TcCoe Idealize.SL.Sem

namespace Rt.Smp

open Cert.SmpRetIdeal Cert.SmpRetIdeal.Gen

theorem pay2_at (r l : Fin 128) : k0_pay2 (F := Ideal) (ix2 r l) = ((same r.val l.val : ℝ) : EReal) :=
  Rt.pay2_at r l

theorem pay13_at (a b x y) (K V X Y : ℕ → ℕ → ℝ) (ha : ∀ (u : Fin 256) (r : Fin 128), a (ix3 0 u r : S1x256x128.Idx) = ((K u.val r.val : ℝ) : EReal))
    (hb : ∀ (u : Fin 256) (r : Fin 128), b (ix3 0 u r : S1x256x128.Idx) = ((V u.val r.val : ℝ) : EReal))
    (hx : ∀ (u : Fin 256) (r : Fin 128), x (ix3 0 u r : S1x256x128.Idx) = ((X u.val r.val : ℝ) : EReal))
    (hy : ∀ (u : Fin 256) (r : Fin 128), y (ix3 0 u r : S1x256x128.Idx) = ((Y u.val r.val : ℝ) : EReal)) (r : Fin 256) (l : Fin 128) :
    k0_pay13 (F := Ideal) k0_pay2 a b x y (ix4 0 0 r l)
      = (((if r.val < 128 then kvOf K V X r.val l.val else kvOf K V Y (r.val - 128) l.val) : ℝ) : EReal) :=
  Rt.pay13_at a b x y K V X Y ha hb hx hy r l

theorem pay5_at (a b x y) (K V X Y : ℕ → ℕ → ℝ) (ha : ∀ (u : Fin 256) (r : Fin 128), a (ix3 0 u r : S1x256x128.Idx) = ((K u.val r.val : ℝ) : EReal))
    (hb : ∀ (u : Fin 256) (r : Fin 128), b (ix3 0 u r : S1x256x128.Idx) = ((V u.val r.val : ℝ) : EReal))
    (hx : ∀ (u : Fin 256) (r : Fin 128), x (ix3 0 u r : S1x256x128.Idx) = ((X u.val r.val : ℝ) : EReal))
    (hy : ∀ (u : Fin 256) (r : Fin 128), y (ix3 0 u r : S1x256x128.Idx) = ((Y u.val r.val : ℝ) : EReal)) (r : Fin 256) (l : Fin 128) :
    k0_pay5 (F := Ideal) (k0_pay14 a) (k0_pay15 b) (k0_pay16 a x) y (ix4 0 0 r l)
      = (((if r.val < 128 then kvOf K V X r.val l.val else kvOf K V Y (r.val - 128) l.val) : ℝ) : EReal) :=
  Rt.pay5_at a b x y K V X Y ha hb hx hy r l

section Row

variable (q k v : Vec Ideal S1x256x128 .bf16) (s : FVec Ideal S128x128 .f32) (f g : Vec Ideal S1x256x128 .f32) (e : Vec Ideal S1x512x256 .f32) (sb : Vec Ideal S1x1x128x128 .bf16)
  (Q K V F G D S B : ℕ → ℕ → ℝ)
  (hq : ∀ (u : Fin 256) (r : Fin 128), q (ix3 0 u r) = ((Q u.val r.val : ℝ) : EReal))
  (hk : ∀ (u : Fin 256) (r : Fin 128), k (ix3 0 u r) = ((K u.val r.val : ℝ) : EReal))
  (hv : ∀ (u : Fin 256) (r : Fin 128), v (ix3 0 u r) = ((V u.val r.val : ℝ) : EReal))
  (hs : ∀ (u r : Fin 128), s (ix2 u r) = ((S u.val r.val : ℝ) : EReal))
  (hf : ∀ (u : Fin 256) (r : Fin 128), f (ix3 0 u r) = ((F u.val r.val : ℝ) : EReal))
  (hg : ∀ (u : Fin 256) (r : Fin 128), g (ix3 0 u r) = ((G u.val r.val : ℝ) : EReal))
  (he : ∀ (u : Fin 512) (r : Fin 256), e (ix3 0 u r) = ((D u.val r.val : ℝ) : EReal))
  (hb : ∀ (u r : Fin 128), sb (ix4 0 0 u r) = ((B u.val r.val : ℝ) : EReal))

include hq hk hv hs hf hg he hb

theorem pay20_at (r : Fin 256) (l : Fin 128) :
    k0_pay20 (F := Ideal) k0_pay1 (Scalar.ofBits .bf16 0x0000#16) s (k0_pay17 v) (k0_pay18 k0_pay1 (Scalar.ofBits .bf16 0x0000#16) q k e f g) (k0_pay19 k0_pay1 (Scalar.ofBits .bf16 0x0000#16) v) sb (ix2 r l)
      = ((rowOf Q K V F G D S B r.val l.val : ℝ) : EReal) :=
  Rt.pay20_at q k v s f g e sb Q K V F G D S B hq hk hv hs hf hg he hb r l

theorem pay26_at (r : Fin 256) (l : Fin 128) :
    k0_pay26 (F := Ideal) k0_pay1 (Scalar.ofBits .bf16 0x0000#16) s (k0_pay22 q) (k0_pay23 k) (k0_pay24 v) (k0_pay25 k0_pay1 (Scalar.ofBits .bf16 0x0000#16) q) (constant S512x256 .f32 0x00000000#32) e f g sb (ix2 r l)
      = ((rowOf Q K V F G D S B r.val l.val : ℝ) : EReal) :=
  Rt.pay26_at q k v s f g e sb Q K V F G D S B hq hk hv hs hf hg he hb r l

end Row

theorem pay12_at (a : Vec Ideal S256x256 .bf16) (x : Vec Ideal S512x256 .f32) (g b : Vec Ideal S1x256 .f32) (e : Vec Ideal S1x512x256 .bf16) (R A : ℕ → ℕ → ℝ) (E : ℕ → ℕ → EReal)
    (ha : ∀ u j : Fin 256, a (ix2 u j) = ((A u.val j.val : ℝ) : EReal))
    (hx : ∀ (u : Fin 512) (j : Fin 256), x (ix2 u j) = ((R u.val j.val : ℝ) : EReal))
    (he : ∀ (u : Fin 512) (j : Fin 256), e (ix3 0 u j) = E u.val j.val) (r : Fin 512) (l : Fin 256) :
    k0_pay12 (F := Ideal) (k0_pay28 (k0_pay11 a) x g b e) (ix3 0 r l) = outOf R A E (g (ix2 0 l)) (b (ix2 0 l)) r.val l.val :=
  Rt.pay12_at a x g b e R A E ha hx he r l

theorem pay21_at (a b x) (r : Fin 128) (l : Fin 128) : k0_pay21 (F := Ideal) a b x (ix2 r l) = a (ix2 r l) * b (ix3 0 0 l) + x (ix4 0 0 r l) :=
  Rt.pay21_at a b x r l

theorem pay10_at (a b x) (r : Fin 128) (l : Fin 128) : k0_pay10 (F := Ideal) (k0_pay27 a b) x (ix2 r l) = a (ix2 r l) * b (ix3 0 0 l) + x (ix4 0 0 r l) :=
  Rt.pay10_at a b x r l

theorem pay6_at (a) (r : Fin 128) (l : Fin 128) : k0_pay6 (F := Ideal) a (ix4 0 0 r l) = a (ix2 r l) :=
  Rt.pay6_at a r l

theorem pay8_at (a) (r : Fin 128) (l : Fin 128) : k0_pay8 (F := Ideal) a (ix4 0 0 r l) = a (ix2 r l) :=
  Rt.pay8_at a r l

theorem pay3_at (r : Fin 128) (l : Fin 128) : k0_pay3 (F := Ideal) (ix2 r l) = ((0 : ℝ) : EReal) :=
  Rt.pay3_at r l

theorem pay4_at (r : Fin 128) (l : Fin 128) : k0_pay4 (F := Ideal) (ix2 r l) = ((0 : ℝ) : EReal) :=
  Rt.pay4_at r l

theorem pay7_at (a b x) (r : Fin 128) (l : Fin 128) : k0_pay7 (F := Ideal) a b x (ix2 r l) = a (ix2 r l) * b (ix3 0 0 l) + x (ix4 0 0 r l) :=
  Rt.pay7_at a b x r l

theorem pay9_at (a b x) (r : Fin 128) (l : Fin 128) : k0_pay9 (F := Ideal) a b x (ix2 r l) = a (ix2 r l) * b (ix3 0 0 l) + x (ix4 0 0 r l) :=
  Rt.pay9_at a b x r l

end Rt.Smp

end
-- ==== Proof.SmpRetLoops.lean ====
/- What the retention body's four loops leave in their buffers, over blocks whose every entry is a real number: the chunks'
   key–value products, the states after each chunk, the rows, and the output. Each by induction over the trips. -/
module

public import proofs.«01_k».proof.Proof.SmpRetRun
public import proofs.«01_k».proof.Proof.SmpRetPay
public import Idealize.ShloMosaic.Lib.WritesUnit
public import Idealize.ShloMosaic.Lib.VecWindow

@[expose] public section

set_option maxRecDepth 16384

noncomputable section

namespace Rt.Smp

open Idealize.ShloMosaic Idealize.ShloMosaic.TcCoe Idealize.SL.Sem
open Cert.SmpRetIdeal Cert.SmpRetIdeal.Gen

variable (c : Dev nD) (i : grid0.Coords)
  (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole)
  (arg6 : Memref sig .tc .vmem S2x512x256 .f32) (harg6 : arg6.IsWhole) (arg7 : Memref sig .tc .vmem S2x256x128 .f32) (harg7 : arg7.IsWhole) (arg8 : Memref sig .tc .vmem S2x256x128 .f32) (harg8 : arg8.IsWhole) (arg9 : Memref sig .tc .vmem S2x256x128 .f32) (harg9 : arg9.IsWhole)
  (arg10 : Memref sig .tc .vmem S2x256x128 .f32) (harg10 : arg10.IsWhole) (arg11 : Memref sig .tc .vmem S2x1x128 .f32) (harg11 : arg11.IsWhole) (arg12 : Memref sig .tc .vmem S2x1x128 .f32) (harg12 : arg12.IsWhole)
  (arg13 : Memref sig .tc .vmem S256x256 .bf16) (harg13 : arg13.IsWhole) (arg14 : Memref sig .tc .vmem S1x256 .f32) (harg14 : arg14.IsWhole) (arg15 : Memref sig .tc .vmem S1x256 .f32) (harg15 : arg15.IsWhole)
  (arg16 : Memref sig .tc .vmem S1x4096x256 .bf16) (harg16 : arg16.IsWhole) (arg17 : Memref sig .tc .vmem S4096x256 .f32) (harg17 : arg17.IsWhole) (arg18 : Memref sig .tc .vmem S16x2x256x128 .f32) (harg18 : arg18.IsWhole) (arg19 : Memref sig .tc .vmem S16x2x128x128 .bf16) (harg19 : arg19.IsWhole)
  (x0 : Vec Ideal S1x4096x256 .bf16) (x1 : Vec Ideal S1x4096x256 .bf16) (x2 : Vec Ideal S1x4096x256 .bf16) (x3 : Vec Ideal S1x4096x256 .bf16) (x4 : Vec Ideal S2x512x256 .f32) (x5 : Vec Ideal S2x256x128 .f32) (x6 : Vec Ideal S2x256x128 .f32) (x7 : Vec Ideal S2x256x128 .f32) (x8 : Vec Ideal S2x256x128 .f32) (x9 : Vec Ideal S2x1x128 .f32) (x10 : Vec Ideal S2x1x128 .f32) (x11 : Vec Ideal S256x256 .bf16) (x12 : Vec Ideal S1x256 .f32) (x13 : Vec Ideal S1x256 .f32)

variable (q k v : ℕ → ℕ → ℝ) (dm qdf kdf qdb kdb : ℕ → ℕ → ℕ → ℝ) (cdf cdb : ℕ → ℕ → ℝ)
  (hq : ∀ (s : Fin 4096) (j : Fin 256), x0 (ix3 0 s j) = ((q s.val j.val : ℝ) : EReal))
  (hk : ∀ (s : Fin 4096) (j : Fin 256), x1 (ix3 0 s j) = ((k s.val j.val : ℝ) : EReal))
  (hv : ∀ (s : Fin 4096) (j : Fin 256), x2 (ix3 0 s j) = ((v s.val j.val : ℝ) : EReal))
  (hdm : ∀ (p : Fin 2) (s : Fin 512) (j : Fin 256), x4 (ix3 p s j) = ((dm p.val s.val j.val : ℝ) : EReal))
  (hqdf : ∀ (p : Fin 2) (s : Fin 256) (j : Fin 128), x5 (ix3 p s j) = ((qdf p.val s.val j.val : ℝ) : EReal))
  (hkdf : ∀ (p : Fin 2) (s : Fin 256) (j : Fin 128), x6 (ix3 p s j) = ((kdf p.val s.val j.val : ℝ) : EReal))
  (hqdb : ∀ (p : Fin 2) (s : Fin 256) (j : Fin 128), x7 (ix3 p s j) = ((qdb p.val s.val j.val : ℝ) : EReal))
  (hkdb : ∀ (p : Fin 2) (s : Fin 256) (j : Fin 128), x8 (ix3 p s j) = ((kdb p.val s.val j.val : ℝ) : EReal))
  (hcdf : ∀ (p : Fin 2) (j : Fin 128), x9 (ix3 p 0 j) = ((cdf p.val j.val : ℝ) : EReal))
  (hcdb : ∀ (p : Fin 2) (j : Fin 128), x10 (ix3 p 0 j) = ((cdb p.val j.val : ℝ) : EReal))

include hk hv hkdf hkdb in
set_option maxHeartbeats 2000000 in
/-- The products of the chunks done so far. -/
theorem kv_upto (g : BufTy.Contents (Elt Ideal) arg18.view.ty) (n : ℕ) (hn : n ≤ k0_t1_loop.trips) (w : Fin 16) (hw : w.val < n) (p : Fin 2) (r : Fin 256) (l : Fin 128) :
    arg18.view.read (Elt Ideal) (arg18.view.writes (Elt Ideal) g (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg4.unread x2) (harg8.unread x6) (harg10.unread x8) n)) (ix4 w p r l)
      = ((kvS k v kdf kdb w.val p.val r.val l.val : ℝ) : EReal) := by
  induction n with
  | zero => omega
  | succ n ih =>
    have h := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg4.unread x2) (harg8.unread x6) (harg10.unread x8) ⟨n, hn⟩
    rw [show n + 1 = (⟨n, hn⟩ : Fin k0_t1_loop.trips).val + 1 from rfl, h]
    unfold tripL_k0_t1 trip_k0_t1
    dsimp only
    rw [List.cons_append, List.cons_append, List.nil_append]
    have hn16 : n < 16 := Nat.lt_of_lt_of_le hn k0_t1_abs.2.1
    by_cases hwn : w.val = n
    · by_cases hp : p.val = 1
      · refine (View.read_writes_cons_unit_of_mem _ _ _ _ _ _ (ix4 0 0 r l) (k0_off4_eq ⟨n, hn⟩) ?_).trans ?_
        · intro a; fin_cases a <;> simp [hwn, hp]
        · unfold trip_k0_t1.sl.r trip_k0_t1.sl.r_1 trip_k0_t1.sl.r_2
          rw [pay5_at _ _ _ _ (chunk k n 1) (chunk v n 1) (kdf 1) (kdb 1)]
          · unfold kvS; rw [hwn, hp]
          · intro u j
            rw [load_at _ _ _ _ (ix3 0 ⟨256 * n + u.val, by omega⟩ ⟨128 + j.val, by omega⟩) (k0_off3_eq ⟨n, hn⟩) (by intro a; fin_cases a <;> simp), harg3.read_unread, hk]
            simp only [chunk, Nat.mul_one]
          · intro u j
            rw [load_at _ _ _ _ (ix3 0 ⟨256 * n + u.val, by omega⟩ ⟨128 + j.val, by omega⟩) (k0_off3_eq ⟨n, hn⟩) (by intro a; fin_cases a <;> simp), harg4.read_unread, hv]
            simp only [chunk, Nat.mul_one]
          · intro u j
            rw [load_at _ _ _ _ (ix3 1 u j) rfl (by intro a; fin_cases a <;> simp), harg8.read_unread, hkdf]
            rfl
          · intro u j
            rw [load_at _ _ _ _ (ix3 1 u j) rfl (by intro a; fin_cases a <;> simp), harg10.read_unread, hkdb]
            rfl
      · replace hp : p.val = 0 := by omega
        refine (View.read_writes_cons_unit_of_not_mem _ _ _ _ _ _ (k0_off4_eq ⟨n, hn⟩) 1 (Or.inl (by simp [hp]))).trans ?_
        refine (View.read_writes_cons_unit_of_mem _ _ _ _ _ _ (ix4 0 0 r l) (k0_off2_eq ⟨n, hn⟩) ?_).trans ?_
        · intro a; fin_cases a <;> simp [hwn, hp]
        · rw [pay13_at _ _ _ _ (chunk k n 0) (chunk v n 0) (kdf 0) (kdb 0)]
          · unfold kvS; rw [hwn, hp]
          · intro u j
            rw [load_at _ _ _ _ (ix3 0 ⟨256 * n + u.val, by omega⟩ ⟨j.val, by omega⟩) (k0_off1_eq ⟨n, hn⟩) (by intro a; fin_cases a <;> simp), harg3.read_unread, hk]
            simp only [chunk, Nat.mul_zero, Nat.zero_add]
          · intro u j
            rw [load_at _ _ _ _ (ix3 0 ⟨256 * n + u.val, by omega⟩ ⟨j.val, by omega⟩) (k0_off1_eq ⟨n, hn⟩) (by intro a; fin_cases a <;> simp), harg4.read_unread, hv]
            simp only [chunk, Nat.mul_zero, Nat.zero_add]
          · intro u j
            rw [load_at _ _ _ _ (ix3 0 u j) rfl (by intro a; fin_cases a <;> simp), harg8.read_unread, hkdf]
            rfl
          · intro u j
            rw [load_at _ _ _ _ (ix3 0 u j) rfl (by intro a; fin_cases a <;> simp), harg10.read_unread, hkdb]
            rfl
    · refine (View.read_writes_cons_unit_of_not_mem _ _ _ _ _ _ (k0_off4_eq ⟨n, hn⟩) 0 (Or.inl ?_)).trans ?_
      · show w.val < n
        omega
      refine (View.read_writes_cons_unit_of_not_mem _ _ _ _ _ _ (k0_off2_eq ⟨n, hn⟩) 0 (Or.inl ?_)).trans ?_
      · show w.val < n
        omega
      exact ih (by omega) (by omega)

theorem trips1 : k0_t1_loop.trips = 16 := by decide +kernel
theorem trips2 : k0_t2_loop.trips = 16 := by decide +kernel
theorem trips3 : k0_t3_loop.trips = 16 := by decide +kernel
theorem trips4 : k0_t4_loop.trips = 8 := by decide +kernel

include hk hv hkdf hkdb in
/-- The first loop's buffer. -/
theorem kv_at (g : BufTy.Contents (Elt Ideal) arg18.view.ty) (w : Fin 16) (p : Fin 2) (r : Fin 256) (l : Fin 128) :
    arg18.view.read (Elt Ideal) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (ix4 w p r l) = ((kvS k v kdf kdb w.val p.val r.val l.val : ℝ) : EReal) := by
  unfold kv
  exact kv_upto (x1 := x1) (x2 := x2) (x6 := x6) (x8 := x8) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kdf kdb hk hv hkdf hkdb g _ le_rfl w (by rw [trips1]; exact w.isLt) p r l

include hk hv hkdf hkdb hcdb in
set_option maxHeartbeats 2000000 in
/-- The backward states so far, and the one carried. -/
theorem back_upto (g : BufTy.Contents (Elt Ideal) arg18.view.ty) (h : BufTy.Contents (Elt Ideal) arg19.view.ty) (n : ℕ) (hn : n ≤ k0_t2_loop.trips) :
    (∀ r l : Fin 128, (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).1.1 (ix2 r l) = ((stB k v kdf kdb cdb 0 n r.val l.val : ℝ) : EReal))
    ∧ (∀ r l : Fin 128, (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).1.2 (ix2 r l) = ((stB k v kdf kdb cdb 1 n r.val l.val : ℝ) : EReal))
    ∧ (∀ (w : Fin 16) (hw : 15 - w.val < n) (p : Fin 2) (r l : Fin 128),
      arg19.view.read (Elt Ideal) (arg19.view.writes (Elt Ideal) h (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) n).2) (ix4 w p r l)
      = ((stB k v kdf kdb cdb p.val (15 - w.val) r.val l.val : ℝ) : EReal)) := by
  induction n with
  | zero =>
    rw [st_k0_t2_zero]
    exact ⟨fun r l => pay3_at r l, fun r l => pay4_at r l, fun w hw => absurd hw (Nat.not_lt_zero _)⟩
  | succ n ih =>
    have hn16 : n < 16 := by rw [← trips2]; exact hn
    obtain ⟨ih0, ih1, ihw⟩ := ih (by omega)
    have hs := st_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x10) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (k0_pay3, k0_pay4) ⟨n, hn⟩
    rw [show n + 1 = (⟨n, hn⟩ : Fin k0_t2_loop.trips).val + 1 from rfl, hs]
    unfold tripR_k0_t2 tripL_k0_t2 trip_k0_t2
    dsimp only
    refine ⟨fun r l => ?_, fun r l => ?_, fun w hw p r l => ?_⟩
    · rw [pay7_at, ih0, load_at _ _ _ _ (ix3 0 0 l) rfl (by intro a; fin_cases a <;> simp), harg12.read_unread, hcdb,
        load_at _ _ _ _ (ix4 ⟨15 - n, by omega⟩ 0 ⟨128 + r.val, by omega⟩ l) (k0_off6_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [pay9_at, ih1, load_at _ _ _ _ (ix3 1 0 l) rfl (by intro a; fin_cases a <;> simp), harg12.read_unread, hcdb,
        load_at _ _ _ _ (ix4 ⟨15 - n, by omega⟩ 1 ⟨128 + r.val, by omega⟩ l) (k0_off8_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [List.cons_append, List.cons_append, List.nil_append]
      by_cases hwn : w.val = 15 - n
      · have hnw : 15 - w.val = n := by omega
        by_cases hp : p.val = 1
        · refine (View.read_writes_cons_unit_of_mem _ _ _ _ _ _ (ix4 0 0 r l) (k0_off7_eq ⟨n, hn⟩) ?_).trans ?_
          · intro a; fin_cases a <;> simp [hwn, hp]
          · rw [pay8_at, ih1, hnw, hp]
        · replace hp : p.val = 0 := by omega
          refine (View.read_writes_cons_unit_of_not_mem _ _ _ _ _ _ (k0_off7_eq ⟨n, hn⟩) 1 (Or.inl (by simp [hp]))).trans ?_
          refine (View.read_writes_cons_unit_of_mem _ _ _ _ _ _ (ix4 0 0 r l) (k0_off5_eq ⟨n, hn⟩) ?_).trans ?_
          · intro a; fin_cases a <;> simp [hwn, hp]
          · rw [pay6_at, ih0, hnw, hp]
      · have hw' : 15 - w.val < n + 1 := hw
        refine (View.read_writes_cons_unit_of_not_mem _ _ _ _ _ _ (k0_off7_eq ⟨n, hn⟩) 0 (Or.inr ?_)).trans ?_
        · show 15 - n + 1 ≤ w.val
          omega
        refine (View.read_writes_cons_unit_of_not_mem _ _ _ _ _ _ (k0_off5_eq ⟨n, hn⟩) 0 (Or.inr ?_)).trans ?_
        · show 15 - n + 1 ≤ w.val
          omega
        exact ihw w (by omega) p r l

include hk hv hkdf hkdb hcdb in
/-- The second loop's buffer. -/
theorem back_at (g : BufTy.Contents (Elt Ideal) arg18.view.ty) (h : BufTy.Contents (Elt Ideal) arg19.view.ty) (w : Fin 16) (p : Fin 2) (r l : Fin 128) :
    arg19.view.read (Elt Ideal) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (ix4 w p r l) = ((stB k v kdf kdb cdb p.val (15 - w.val) r.val l.val : ℝ) : EReal) := by
  unfold back
  exact (back_upto (x1 := x1) (x2 := x2) (x6 := x6) (x8 := x8) (x10 := x10) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kdf kdb cdb hk hv hkdf hkdb hcdb g h _ le_rfl).2.2 w (by rw [trips2]; omega) p r l

include hq hk hv hdm hqdf hkdf hqdb hkdb hcdf hcdb in
set_option maxHeartbeats 4000000 in
/-- The rows so far, and the forward state carried. -/
theorem rows_upto (e : BufTy.Contents (Elt Ideal) arg17.view.ty) (g : BufTy.Contents (Elt Ideal) arg18.view.ty) (h : BufTy.Contents (Elt Ideal) arg19.view.ty) (n : ℕ) (hn : n ≤ k0_t3_loop.trips) :
    (∀ r l : Fin 128, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).1.1 (ix2 r l) = ((stF k v kdf kdb cdf 0 n r.val l.val : ℝ) : EReal))
    ∧ (∀ r l : Fin 128, (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).1.2 (ix2 r l) = ((stF k v kdf kdb cdf 1 n r.val l.val : ℝ) : EReal))
    ∧ (∀ (s : Fin 4096) (hw : s.val < 256 * n) (j : Fin 256),
      arg17.view.read (Elt Ideal) (arg17.view.writes (Elt Ideal) e (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) n).2) (ix2 s j)
      = ((rowS q k v dm qdf kdf qdb kdb cdf cdb s.val j.val : ℝ) : EReal)) := by
  induction n with
  | zero =>
    rw [st_k0_t3_zero]
    exact ⟨fun r l => pay3_at r l, fun r l => pay4_at r l, fun w hw => absurd hw (Nat.not_lt_zero _)⟩
  | succ n ih =>
    have hn16 : n < 16 := by rw [← trips3]; exact hn
    obtain ⟨ih0, ih1, ihw⟩ := ih (by omega)
    have hs := st_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.ofBits .bf16 0x0000#16) (harg2.unread x0) (harg3.unread x1) (harg4.unread x2) (harg6.unread x4) (harg7.unread x5) (harg9.unread x7) (harg11.unread x9) (kv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 g) (back c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x6 x8 x10 g h) (k0_pay3, k0_pay4) ⟨n, hn⟩
    rw [show n + 1 = (⟨n, hn⟩ : Fin k0_t3_loop.trips).val + 1 from rfl, hs]
    unfold tripR_k0_t3 tripL_k0_t3 trip_k0_t3
    dsimp only
    refine ⟨fun r l => ?_, fun r l => ?_, fun s hw j => ?_⟩
    · unfold trip_k0_t3.sl.r_3
      rw [pay21_at, ih0, load_at _ _ _ _ (ix3 0 0 l) rfl (by intro a; fin_cases a <;> simp), harg11.read_unread, hcdf,
        load_at _ _ _ _ (ix4 ⟨n, by omega⟩ 0 ⟨r.val, by omega⟩ l) (k0_off12_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · unfold trip_k0_t3.sl.r_8
      rw [pay10_at, ih1, load_at _ _ _ _ (ix3 1 0 l) rfl (by intro a; fin_cases a <;> simp), harg11.read_unread, hcdf,
        load_at _ _ _ _ (ix4 ⟨n, by omega⟩ 1 ⟨r.val, by omega⟩ l) (k0_off16_eq ⟨n, hn⟩) (by intro a; fin_cases a <;> simp), kv_at (x1 := x1) (x2 := x2) (x6 := x6) (x8 := x8) (k := k) (v := v) (kdf := kdf) (kdb := kdb) (hk := hk) (hv := hv) (hkdf := hkdf) (hkdb := hkdb)]
      rw [← EReal.coe_mul, ← EReal.coe_add]
      rfl
    · rw [List.cons_append, List.cons_append, List.nil_append]
      have hw' : s.val < 256 * (n + 1) := hw
      by_cases hwn : 256 * n ≤ s.val
      · have hd : s.val / 256 = n := by omega
        have hm : s.val = 256 * n + s.val % 256 := by omega
        by_cases hp : 128 ≤ j.val
        · have hjd : j.val / 128 = 1 := by omega
          have hjm : j.val = 128 + j.val % 128 := by omega
          refine (View.read_writes_cons_unit_of_mem _ _ _ _ _ _ (ix2 (⟨s.val % 256, by omega⟩ : Fin 256) (⟨j.val % 128, by omega⟩ : Fin 128)) (k0_off15_eq ⟨n, hn⟩) ?_).trans ?_
          · intro a; fin_cases a
            · exact hm
            · exact hjm
          unfold rowS trip_k0_t3.sl.r_4 trip_k0_t3.sl.r_5 trip_k0_t3.sl.r_6 trip_k0_t3.sl.r_7 trip_k0_t3.sl.cst_50
          rw [hd, hjd]
          rw [pay26_at _ _ _ _ _ _ _ _ (chunk q n 1) (chunk k n 1) (chunk v n 1) (qdf 1) (qdb 1) (dm 1) (stF k v kdf kdb cdf 1 n) (stB k v kdf kdb cdb 1 (15 - n))]
          · intro u j
            rw [load_at _ _ _ _ (ix3 0 ⟨256 * n + u.val, by omega⟩ ⟨128 + j.val, by omega⟩) (k0_off13_eq ⟨n, hn⟩) (by intro a; fin_cases a <;> simp), harg2.read_unread, hq]
            simp only [chunk, Nat.mul_one]
          · intro u j
            rw [load_at _ _ _ _ (ix3 0 ⟨256 * n + u.val, by omega⟩ ⟨128 + j.val, by omega⟩) (k0_off13_eq ⟨n, hn⟩) (by intro a; fin_cases a <;> simp), harg3.read_unread, hk]
            simp only [chunk, Nat.mul_one]
          · intro u j
            rw [load_at _ _ _ _ (ix3 0 ⟨256 * n + u.val, by omega⟩ ⟨128 + j.val, by omega⟩) (k0_off13_eq ⟨n, hn⟩) (by intro a; fin_cases a <;> simp), harg4.read_unread, hv]
            simp only [chunk, Nat.mul_one]
          · exact ih1
          · intro u j
            rw [load_at _ _ _ _ (ix3 1 u j) rfl (by intro a; fin_cases a <;> simp), harg7.read_unread, hqdf]
            rfl
          · intro u j
            rw [load_at _ _ _ _ (ix3 1 u j) rfl (by intro a; fin_cases a <;> simp), harg9.read_unread, hqdb]
            rfl
          · intro u j
            rw [load_at _ _ _ _ (ix3 1 u j) rfl (by intro a; fin_cases a <;> simp), harg6.read_unread, hdm]
            rfl
          · intro u j
            rw [load_at _ _ _ _ (ix4 ⟨n, hn16⟩ 1 u j) (k0_off14_eq ⟨n, hn⟩) (by intro a; fin_cases a <;> simp), back_at (x10 := x10) (cdb := cdb) (hcdb := hcdb) (x1 := x1) (x2 := x2) (x6 := x6) (x8 := x8) (k := k) (v := v) (kdf := kdf) (kdb := kdb) (hk := hk) (hv := hv) (hkdf := hkdf) (hkdb := hkdb)]
            rfl
        · have hjd : j.val / 128 = 0 := by omega
          have hjm : j.val = 0 + j.val % 128 := by omega
          refine (View.read_writes_cons_unit_of_not_mem _ _ _ _ _ _ (k0_off15_eq ⟨n, hn⟩) 1 (Or.inl ?_)).trans ?_
          · show j.val < 128
            omega
          refine (View.read_writes_cons_unit_of_mem _ _ _ _ _ _ (ix2 (⟨s.val % 256, by omega⟩ : Fin 256) (⟨j.val % 128, by omega⟩ : Fin 128)) (k0_off11_eq ⟨n, hn⟩) ?_).trans ?_
          · intro a; fin_cases a
            · exact hm
            · exact hjm
          unfold rowS trip_k0_t3.sl.r trip_k0_t3.sl.r_1 trip_k0_t3.sl.r_2
          rw [hd, hjd]
          rw [pay20_at _ _ _ _ _ _ _ _ (chunk q n 0) (chunk k n 0) (chunk v n 0) (qdf 0) (qdb 0) (dm 0) (stF k v kdf kdb cdf 0 n) (stB k v kdf kdb cdb 0 (15 - n))]
          · intro u j
            rw [load_at _ _ _ _ (ix3 0 ⟨256 * n + u.val, by omega⟩ ⟨j.val, by omega⟩) (k0_off9_eq ⟨n, hn⟩) (by intro a; fin_cases a <;> simp), harg2.read_unread, hq]
            simp only [chunk, Nat.mul_zero, Nat.zero_add]
          · intro u j
            rw [load_at _ _ _ _ (ix3 0 ⟨256 * n + u.val, by omega⟩ ⟨j.val, by omega⟩) (k0_off9_eq ⟨n, hn⟩) (by intro a; fin_cases a <;> simp), harg3.read_unread, hk]
            simp only [chunk, Nat.mul_zero, Nat.zero_add]
          · intro u j
            rw [load_at _ _ _ _ (ix3 0 ⟨256 * n + u.val, by omega⟩ ⟨j.val, by omega⟩) (k0_off9_eq ⟨n, hn⟩) (by intro a; fin_cases a <;> simp), harg4.read_unread, hv]
            simp only [chunk, Nat.mul_zero, Nat.zero_add]
          · exact ih0
          · intro u j
            rw [load_at _ _ _ _ (ix3 0 u j) rfl (by intro a; fin_cases a <;> simp), harg7.read_unread, hqdf]
            rfl
          · intro u j
            rw [load_at _ _ _ _ (ix3 0 u j) rfl (by intro a; fin_cases a <;> simp), harg9.read_unread, hqdb]
            rfl
          · intro u j
            rw [load_at _ _ _ _ (ix3 0 u j) rfl (by intro a; fin_cases a <;> simp), harg6.read_unread, hdm]
            rfl
          · intro u j
            rw [load_at _ _ _ _ (ix4 ⟨n, hn16⟩ 0 u j) (k0_off10_eq ⟨n, hn⟩) (by intro a; fin_cases a <;> simp), back_at (x10 := x10) (cdb := cdb) (hcdb := hcdb) (x1 := x1) (x2 := x2) (x6 := x6) (x8 := x8) (k := k) (v := v) (kdf := kdf) (kdb := kdb) (hk := hk) (hv := hv) (hkdf := hkdf) (hkdb := hkdb)]
            rfl
      · refine (View.read_writes_cons_unit_of_not_mem _ _ _ _ _ _ (k0_off15_eq ⟨n, hn⟩) 0 (Or.inl ?_)).trans ?_
        · show s.val < 256 * n
          omega
        refine (View.read_writes_cons_unit_of_not_mem _ _ _ _ _ _ (k0_off11_eq ⟨n, hn⟩) 0 (Or.inl ?_)).trans ?_
        · show s.val < 256 * n
          omega
        exact ihw s (by omega) j

include hq hk hv hdm hqdf hkdf hqdb hkdb hcdf hcdb in
/-- The third loop's buffer. -/
theorem rows_at (e : BufTy.Contents (Elt Ideal) arg17.view.ty) (g : BufTy.Contents (Elt Ideal) arg18.view.ty) (h : BufTy.Contents (Elt Ideal) arg19.view.ty) (s : Fin 4096) (j : Fin 256) :
    arg17.view.read (Elt Ideal) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) (ix2 s j) = ((rowS q k v dm qdf kdf qdb kdb cdf cdb s.val j.val : ℝ) : EReal) := by
  unfold rows
  exact (rows_upto (x0 := x0) (x1 := x1) (x2 := x2) (x4 := x4) (x5 := x5) (x6 := x6) (x7 := x7) (x8 := x8) (x9 := x9) (x10 := x10) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q k v dm qdf kdf qdb kdb cdf cdb hq hk hv hdm hqdf hkdf hqdb hkdb hcdf hcdb e g h _ le_rfl).2.2 s (by rw [trips3]; omega) j

variable (A : ℕ → ℕ → ℝ) (E : ℕ → ℕ → EReal) (hA : ∀ r l : Fin 256, x11 (ix2 r l) = ((A r.val l.val : ℝ) : EReal))
  (hE : ∀ (s : Fin 4096) (j : Fin 256), x3 (ix3 0 s j) = E s.val j.val)

include hq hk hv hdm hqdf hkdf hqdb hkdb hcdf hcdb hA hE in
set_option maxHeartbeats 4000000 in
/-- The output so far. -/
theorem out_upto (d : BufTy.Contents (Elt Ideal) arg16.view.ty) (e : BufTy.Contents (Elt Ideal) arg17.view.ty) (g : BufTy.Contents (Elt Ideal) arg18.view.ty) (h : BufTy.Contents (Elt Ideal) arg19.view.ty) (n : ℕ) (hn : n ≤ k0_t4_loop.trips)
    (s : Fin 4096) (hw : s.val < 512 * n) (j : Fin 256) :
    arg16.view.read (Elt Ideal) (arg16.view.writes (Elt Ideal) d (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg13.view (Rect.unit (s := S256x256) ![0, 0] S256x256.size inb_S256x256_S256x256_0_0).toLoadRect (harg13.unread x11)) (harg5.unread x3) (harg14.unread x12) (harg15.unread x13) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) n)) (ix3 0 s j)
      = outOf (rowS q k v dm qdf kdf qdb kdb cdf cdb) A E (x12 (ix2 0 j)) (x13 (ix2 0 j)) s.val j.val := by
  induction n with
  | zero => omega
  | succ n ih =>
    have hn8 : n < 8 := by rw [← trips4]; exact hn
    have hs := pb_k0_t4_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (View.readAt (Elt Ideal) arg13.view (Rect.unit (s := S256x256) ![0, 0] S256x256.size inb_S256x256_S256x256_0_0).toLoadRect (harg13.unread x11)) (harg5.unread x3) (harg14.unread x12) (harg15.unread x13) (rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x4 x5 x6 x7 x8 x9 x10 e g h) ⟨n, hn⟩
    rw [show n + 1 = (⟨n, hn⟩ : Fin k0_t4_loop.trips).val + 1 from rfl, hs]
    unfold tripL_k0_t4 trip_k0_t4
    dsimp only
    rw [List.cons_append, List.nil_append]
    by_cases hwn : 512 * n ≤ s.val
    · have hm : s.val = 512 * n + (s.val - 512 * n) := by omega
      refine (View.read_writes_cons_unit_of_mem _ _ _ _ _ _ (ix3 0 (⟨s.val - 512 * n, by omega⟩ : Fin 512) j) (k0_off18_eq ⟨n, hn⟩) ?_).trans ?_
      · intro a; fin_cases a
        · rfl
        · exact hm
        · simp
      unfold trip_k0_t4.sl.r
      rw [pay12_at _ _ _ _ _ (fun u => rowS q k v dm qdf kdf qdb kdb cdf cdb (512 * n + u)) A (fun u => E (512 * n + u))]
      · rw [load_at _ _ _ _ (ix2 0 j) rfl (by intro a; fin_cases a <;> simp), harg14.read_unread, load_at _ _ _ _ (ix2 0 j) rfl (by intro a; fin_cases a <;> simp), harg15.read_unread]
        conv_rhs => rw [hm]
        rfl
      · intro u l
        rw [load_at _ _ _ _ (ix2 u l) rfl (by intro a; fin_cases a <;> simp), harg13.read_unread, hA]
      · intro u l
        rw [load_at _ _ _ _ (ix2 ⟨512 * n + u.val, by omega⟩ l) (k0_off17_eq ⟨n, hn⟩) (by intro a; fin_cases a <;> simp), rows_at (x0 := x0) (x1 := x1) (x2 := x2) (x4 := x4) (x5 := x5) (x6 := x6) (x7 := x7) (x8 := x8) (x9 := x9) (x10 := x10) (q := q) (k := k) (v := v) (dm := dm) (qdf := qdf) (kdf := kdf) (qdb := qdb) (kdb := kdb) (cdf := cdf) (cdb := cdb) (hq := hq) (hk := hk) (hv := hv) (hdm := hdm) (hqdf := hqdf) (hkdf := hkdf) (hqdb := hqdb) (hkdb := hkdb) (hcdf := hcdf) (hcdb := hcdb)]
      · intro u l
        rw [load_at _ _ _ _ (ix3 0 ⟨512 * n + u.val, by omega⟩ l) (k0_off18_eq ⟨n, hn⟩) (by intro a; fin_cases a <;> simp), harg5.read_unread, hE]
    · refine (View.read_writes_cons_unit_of_not_mem _ _ _ _ _ _ (k0_off18_eq ⟨n, hn⟩) 1 (Or.inl ?_)).trans ?_
      · show s.val < 512 * n
        omega
      exact ih (by omega) (by omega)

include hq hk hv hdm hqdf hkdf hqdb hkdb hcdf hcdb hA hE in
/-- The output's buffer after the body. -/
theorem left_at (d : BufTy.Contents (Elt Ideal) arg16.view.ty) (e : BufTy.Contents (Elt Ideal) arg17.view.ty) (g : BufTy.Contents (Elt Ideal) arg18.view.ty) (h : BufTy.Contents (Elt Ideal) arg19.view.ty) (s : Fin 4096) (j : Fin 256) :
    arg16.view.read (Elt Ideal) (left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 d e g h) (ix3 0 s j)
      = outOf (rowS q k v dm qdf kdf qdb kdb cdf cdb) A E (x12 (ix2 0 j)) (x13 (ix2 0 j)) s.val j.val := by
  unfold left
  exact out_upto (x0 := x0) (x1 := x1) (x2 := x2) (x3 := x3) (x4 := x4) (x5 := x5) (x6 := x6) (x7 := x7) (x8 := x8) (x9 := x9) (x10 := x10) (x11 := x11) (x12 := x12) (x13 := x13) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 q k v dm qdf kdf qdb kdb cdf cdb hq hk hv hdm hqdf hkdf hqdb hkdb hcdf hcdb A E hA hE d e g h _ le_rfl s (by rw [trips4]; omega) j

end Rt.Smp

end
-- ==== Proof.SmpRetTab.lean ====
/- The tables the retention kernel is called with, read at an entry and written as real numbers. -/
module

public import proofs.«01_k».proof.Proof.InpSpec
public import proofs.«01_k».proof.Proof.SmpRetFrame
public import proofs.«01_k».proof.Proof.RetSpec

@[expose] public section

set_option maxRecDepth 16384

noncomputable section

open Idealize.ShloMosaic Idealize.ShloMosaic.TcCoe Idealize.SL.Sem

namespace Rt.Smp

open Cert.SmpRetIdeal Cert.SmpRetIdeal.Gen

variable (m : (ℓ : Loc nD τ sig) → Buf (Elt Ideal) ℓ) (c : Dev nD)

set_option maxHeartbeats 4000000

/-- The diagonal blocks' decays. -/
theorem dm_at (p : Fin 4) (r : Fin 512) (j : Fin 256) :
    (show FVec Ideal S4x512x256 .f32 from V m c main_v45) (ix3 p r j)
      = ((dec (LF (p.val * 2 + r.val / 256)) (LB (p.val * 2 + r.val / 256)) (r.val % 256) j.val : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  simp -implicitDefEqProofs only [StableHlo.TRef.toBuf, StableHlo.TRef.ofBuf, cast_cast, cast_eq]
  pointwise
  rw [log_f _ (by omega), log_b _ (by omega), sit _ (by omega), sit _ (by omega)]
  simp only [select_not, sub_nonneg_coe]
  unfold dec
  by_cases h : j.val ≤ r.val % 256
  · simp only [if_pos h, ← EReal.coe_sub, ← EReal.coe_mul, Ideal.exp_coe, add_zero]
  · simp only [if_neg h, ← EReal.coe_sub, ← EReal.coe_mul, ← EReal.coe_neg, Ideal.exp_coe, zero_add, neg_sub]

theorem qdf_at (p : Fin 4) (r : Fin 256) (j : Fin 128) :
    (show FVec Ideal S4x256x128 .f32 from V m c main_v58) (ix3 p r j)
      = ((Real.exp (((r.val : ℝ) + 1) * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), sit _ (by omega)]
  rw [← EReal.coe_one]
  simp only [← EReal.coe_sub, ← EReal.coe_add, ← EReal.coe_mul, Ideal.exp_coe]

theorem kdf_at (p : Fin 4) (r : Fin 256) (j : Fin 128) :
    (show FVec Ideal S4x256x128 .f32 from V m c main_v71) (ix3 p r j)
      = ((Real.exp ((255 - (r.val : ℝ)) * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), sit _ (by omega), ofBits_255]
  skip
  simp only [← EReal.coe_sub, ← EReal.coe_add, ← EReal.coe_mul, Ideal.exp_coe]

theorem qdb_at (p : Fin 4) (r : Fin 256) (j : Fin 128) :
    (show FVec Ideal S4x256x128 .f32 from V m c main_v84) (ix3 p r j)
      = ((Real.exp ((256 - (r.val : ℝ)) * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), sit _ (by omega), ofBits_256]
  skip
  simp only [← EReal.coe_sub, ← EReal.coe_add, ← EReal.coe_mul, Ideal.exp_coe]

theorem kdb_at (p : Fin 4) (r : Fin 256) (j : Fin 128) :
    (show FVec Ideal S4x256x128 .f32 from V m c main_v95) (ix3 p r j)
      = ((Real.exp ((r.val : ℝ) * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), sit _ (by omega)]
  skip
  simp only [← EReal.coe_sub, ← EReal.coe_add, ← EReal.coe_mul, Ideal.exp_coe]

theorem cdf_at (p : Fin 4) (j : Fin 128) :
    (show FVec Ideal S4x1x128 .f32 from V m c main_v104) (ix3 p 0 j)
      = ((Real.exp (256 * LF (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_f _ (by omega), ofBits_256, ← EReal.coe_mul, Ideal.exp_coe]

theorem cdb_at (p : Fin 4) (j : Fin 128) :
    (show FVec Ideal S4x1x128 .f32 from V m c main_v113) (ix3 p 0 j)
      = ((Real.exp (256 * LB (p.val * 2 + j.val / 64)) : ℝ) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise
  rw [log_b _ (by omega), ofBits_256, ← EReal.coe_mul, Ideal.exp_coe]

theorem gnG_at (j : Fin 512) :
    (show FVec Ideal S1x512 .f32 from V m c main_v125) (ix2 0 j)
      = (show FVec Ideal S512 .f32 from m (c, Proc.tc.devRef main_arg1)) (ix1 j) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise

theorem gnB_at (j : Fin 512) :
    (show FVec Ideal S1x512 .f32 from V m c main_v126) (ix2 0 j)
      = (show FVec Ideal S512 .f32 from m (c, Proc.tc.devRef main_arg2)) (ix1 j) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  pointwise

/-- The averaging matrix: 1/64 within a head, 0 across. -/
theorem avg_at (r j : Fin 256) :
    (show FVec Ideal S256x256 .bf16 from V m c main_v124) (ix2 r j)
      = (((if r.val / 64 = j.val / 64 then 1 / 64 else 0 : ℝ)) : EReal) := by
  simp only [V, hostOps0, hostOps0_1, hostOps0_2, hostOps0_3, hostOps0_4, hostOps0_5, hostOps0_6,
    hostOps0_7, hostOps0_8, hostOps0_9, hostOps0_10, List.flatten_cons, List.flatten_nil,
    List.append_nil, List.cons_append, List.nil_append]
  entry_read
  simp -implicitDefEqProofs only [StableHlo.TRef.toBuf, StableHlo.TRef.ofBuf, cast_cast, cast_eq]
  pointwise
  refine (congrArg₂ (fun a b => Ideal.div (FloatOps.uitofp (F := Ideal) FTy.f32 (IntOp.cmpi CmpIPredicate.eq a b)) (Ideal.ofBits FTy.f32 1115684864#32))
    (head_word r) (head_word j)).trans ?_
  have h := head_eq ⟨r.val / 64, by omega⟩ ⟨j.val / 64, by omega⟩
  dsimp only at h
  rw [h, ofBits_64, Ideal.div_coe (by norm_num)]
  split
  · change (((((1#1 : BitVec 1).toNat : ℕ) : ℝ) : EReal)) * _ = _
    rw [← EReal.coe_mul]; norm_num
  · change (((((0#1 : BitVec 1).toNat : ℕ) : ℝ) : EReal)) * _ = _
    rw [← EReal.coe_mul]; norm_num

end Rt.Smp
-- ==== Proof.SmpRetVal.lean ====
/- The retention kernel's result array: what each grid point leaves is the mathematics of `RetSpec`, for a row of finite numbers. -/
module

public import proofs.«01_k».proof.Proof.SmpRetLoops
public import proofs.«01_k».proof.Proof.SmpRetTab
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Rt.Smp

open Cert.SmpRetIdeal Cert.SmpRetIdeal.Gen

variable (m : (ℓ : Loc nD τ sig) → Buf (Elt Ideal) ℓ) (ρ : Dev nD → PrngReg) (c : Dev nD)

/-- The projected row, and the norm's scale and shift. -/
def X : FVec Ideal ⟨3, ![4, 4096, 2048]⟩ .bf16 := m ((c.tc : Thread nD τ).loc main_arg0)
def G : FVec Ideal ⟨1, ![512]⟩ .f32 := m ((c.tc : Thread nD τ).loc main_arg1)
def H : FVec Ideal ⟨1, ![512]⟩ .f32 := m ((c.tc : Thread nD τ).loc main_arg2)

/-- The windows' index maps. -/
theorem idx : ∀ t : Fin cfg0.N,
    win0_0.index t = ![t.val % 4, 0, t.val / 4] ∧ win0_1.index t = ![t.val % 4, 0, 2 + t.val / 4]
    ∧ win0_2.index t = ![t.val % 4, 0, 4 + t.val / 4] ∧ win0_3.index t = ![t.val % 4, 0, 6 + t.val / 4]
    ∧ win0_4.index t = ![t.val / 4, 0, 0] ∧ win0_5.index t = ![t.val / 4, 0, 0] ∧ win0_6.index t = ![t.val / 4, 0, 0]
    ∧ win0_7.index t = ![t.val / 4, 0, 0] ∧ win0_8.index t = ![t.val / 4, 0, 0] ∧ win0_9.index t = ![t.val / 4, 0, 0]
    ∧ win0_10.index t = ![t.val / 4, 0, 0] ∧ win0_11.index t = ![0, 0] ∧ win0_12.index t = ![0, t.val / 4]
    ∧ win0_13.index t = ![0, t.val / 4] ∧ win0_14.index t = ![t.val % 4, 0, t.val / 4] ∧ t.val / 4 < 2 :=
  (by decide +kernel : ∀ t : Fin grid0.N, _)

theorem half_lt (t : Fin cfg0.N) : t.val / 4 < 2 := (idx t).2.2.2.2.2.2.2.2.2.2.2.2.2.2.2

/-- The batch row and the half of the columns a grid point works on. -/
def bt (t : Fin cfg0.N) : Fin 4 := ⟨t.val % 4, by omega⟩

set_option maxHeartbeats 4000000

theorem x0_at (hX : Fin' (X m c)) (t : Fin cfg0.N) (s : Fin 4096) (j : Fin 256) :
    (show FVec Ideal S1x4096x256 .bf16 from iblk m c 0 t) (ix3 0 s j) = ((xr (X m c) (bt t) s.val (t.val / 4 * 256 + j.val) : ℝ) : EReal) := by
  have hB := half_lt t
  refine Eq.trans ?_ (xr_at (X m c) hX (bt t) s (t.val / 4 * 256 + j.val) (by omega) (by omega))
  unfold X bt
  blk_ext [iblk, V, idx t]

theorem x1_at (hX : Fin' (X m c)) (t : Fin cfg0.N) (s : Fin 4096) (j : Fin 256) :
    (show FVec Ideal S1x4096x256 .bf16 from iblk m c 1 t) (ix3 0 s j) = ((xr (X m c) (bt t) s.val (512 + (t.val / 4 * 256 + j.val)) : ℝ) : EReal) := by
  have hB := half_lt t
  refine Eq.trans ?_ (xr_at (X m c) hX (bt t) s (512 + (t.val / 4 * 256 + j.val)) (by omega) (by omega))
  unfold X bt
  blk_ext [iblk, V, idx t]

theorem x2_at (hX : Fin' (X m c)) (t : Fin cfg0.N) (s : Fin 4096) (j : Fin 256) :
    (show FVec Ideal S1x4096x256 .bf16 from iblk m c 2 t) (ix3 0 s j) = ((xr (X m c) (bt t) s.val (1024 + (t.val / 4 * 256 + j.val)) : ℝ) : EReal) := by
  have hB := half_lt t
  refine Eq.trans ?_ (xr_at (X m c) hX (bt t) s (1024 + (t.val / 4 * 256 + j.val)) (by omega) (by omega))
  unfold X bt
  blk_ext [iblk, V, idx t]

theorem x3_at (t : Fin cfg0.N) (s : Fin 4096) (j : Fin 256) :
    (show FVec Ideal S1x4096x256 .bf16 from iblk m c 3 t) (ix3 0 s j) = xe (X m c) (bt t) s.val (1536 + (t.val / 4 * 256 + j.val)) := by
  have hB := half_lt t
  refine Eq.trans ?_ (xe_at (X m c) (bt t) s (1536 + (t.val / 4 * 256 + j.val)) (by omega))
  unfold X bt
  blk_ext [iblk, V, idx t]

theorem x4_at (t : Fin cfg0.N) (p : Fin 2) (r : Fin 512) (j : Fin 256) :
    (show FVec Ideal S2x512x256 .f32 from iblk m c 4 t) (ix3 p r j) = (((dmT (fun h => LF (4 * (t.val / 4) + h)) (fun h => LB (4 * (t.val / 4) + h))) p.val r.val j.val : ℝ) : EReal) := by
  have hB := half_lt t
  refine Eq.trans (b := (show FVec Ideal S4x512x256 .f32 from V m c main_v45) (ix3 ⟨t.val / 4 * 2 + p.val, by omega⟩ r j)) ?_ ?_
  · blk_ext [iblk, idx t]
  · refine (dm_at m c _ r j).trans ?_
    have e : (t.val / 4 * 2 + p.val) * 2 + r.val / 256 = 4 * (t.val / 4) + (2 * p.val + r.val / 256) := by omega
    dsimp only [dmT]
    rw [e]

theorem x5_at (t : Fin cfg0.N) (p : Fin 2) (r : Fin 256) (j : Fin 128) :
    (show FVec Ideal S2x256x128 .f32 from iblk m c 5 t) (ix3 p r j) = (((qdfT (fun h => LF (4 * (t.val / 4) + h))) p.val r.val j.val : ℝ) : EReal) := by
  have hB := half_lt t
  refine Eq.trans (b := (show FVec Ideal S4x256x128 .f32 from V m c main_v58) (ix3 ⟨t.val / 4 * 2 + p.val, by omega⟩ r j)) ?_ ?_
  · blk_ext [iblk, idx t]
  · refine (qdf_at m c _ r j).trans ?_
    have e : (t.val / 4 * 2 + p.val) * 2 + j.val / 64 = 4 * (t.val / 4) + (2 * p.val + j.val / 64) := by omega
    dsimp only [qdfT]
    rw [e]

theorem x6_at (t : Fin cfg0.N) (p : Fin 2) (r : Fin 256) (j : Fin 128) :
    (show FVec Ideal S2x256x128 .f32 from iblk m c 6 t) (ix3 p r j) = (((kdfT (fun h => LF (4 * (t.val / 4) + h))) p.val r.val j.val : ℝ) : EReal) := by
  have hB := half_lt t
  refine Eq.trans (b := (show FVec Ideal S4x256x128 .f32 from V m c main_v71) (ix3 ⟨t.val / 4 * 2 + p.val, by omega⟩ r j)) ?_ ?_
  · blk_ext [iblk, idx t]
  · refine (kdf_at m c _ r j).trans ?_
    have e : (t.val / 4 * 2 + p.val) * 2 + j.val / 64 = 4 * (t.val / 4) + (2 * p.val + j.val / 64) := by omega
    dsimp only [kdfT]
    rw [e]

theorem x7_at (t : Fin cfg0.N) (p : Fin 2) (r : Fin 256) (j : Fin 128) :
    (show FVec Ideal S2x256x128 .f32 from iblk m c 7 t) (ix3 p r j) = (((qdbT (fun h => LB (4 * (t.val / 4) + h))) p.val r.val j.val : ℝ) : EReal) := by
  have hB := half_lt t
  refine Eq.trans (b := (show FVec Ideal S4x256x128 .f32 from V m c main_v84) (ix3 ⟨t.val / 4 * 2 + p.val, by omega⟩ r j)) ?_ ?_
  · blk_ext [iblk, idx t]
  · refine (qdb_at m c _ r j).trans ?_
    have e : (t.val / 4 * 2 + p.val) * 2 + j.val / 64 = 4 * (t.val / 4) + (2 * p.val + j.val / 64) := by omega
    dsimp only [qdbT]
    rw [e]

theorem x8_at (t : Fin cfg0.N) (p : Fin 2) (r : Fin 256) (j : Fin 128) :
    (show FVec Ideal S2x256x128 .f32 from iblk m c 8 t) (ix3 p r j) = (((kdbT (fun h => LB (4 * (t.val / 4) + h))) p.val r.val j.val : ℝ) : EReal) := by
  have hB := half_lt t
  refine Eq.trans (b := (show FVec Ideal S4x256x128 .f32 from V m c main_v95) (ix3 ⟨t.val / 4 * 2 + p.val, by omega⟩ r j)) ?_ ?_
  · blk_ext [iblk, idx t]
  · refine (kdb_at m c _ r j).trans ?_
    have e : (t.val / 4 * 2 + p.val) * 2 + j.val / 64 = 4 * (t.val / 4) + (2 * p.val + j.val / 64) := by omega
    dsimp only [kdbT]
    rw [e]

theorem x9_at (t : Fin cfg0.N) (p : Fin 2) (j : Fin 128) :
    (show FVec Ideal S2x1x128 .f32 from iblk m c 9 t) (ix3 p 0 j) = (((cT (fun h => LF (4 * (t.val / 4) + h))) p.val j.val : ℝ) : EReal) := by
  have hB := half_lt t
  refine Eq.trans (b := (show FVec Ideal S4x1x128 .f32 from V m c main_v104) (ix3 ⟨t.val / 4 * 2 + p.val, by omega⟩ 0 j)) ?_ ?_
  · blk_ext [iblk, idx t]
  · refine (cdf_at m c _ j).trans ?_
    have e : (t.val / 4 * 2 + p.val) * 2 + j.val / 64 = 4 * (t.val / 4) + (2 * p.val + j.val / 64) := by omega
    dsimp only [cT]
    rw [e]

theorem x10_at (t : Fin cfg0.N) (p : Fin 2) (j : Fin 128) :
    (show FVec Ideal S2x1x128 .f32 from iblk m c 10 t) (ix3 p 0 j) = (((cT (fun h => LB (4 * (t.val / 4) + h))) p.val j.val : ℝ) : EReal) := by
  have hB := half_lt t
  refine Eq.trans (b := (show FVec Ideal S4x1x128 .f32 from V m c main_v113) (ix3 ⟨t.val / 4 * 2 + p.val, by omega⟩ 0 j)) ?_ ?_
  · blk_ext [iblk, idx t]
  · refine (cdb_at m c _ j).trans ?_
    have e : (t.val / 4 * 2 + p.val) * 2 + j.val / 64 = 4 * (t.val / 4) + (2 * p.val + j.val / 64) := by omega
    dsimp only [cT]
    rw [e]

theorem x11_at (t : Fin cfg0.N) (r j : Fin 256) :
    (show FVec Ideal S256x256 .bf16 from iblk m c 11 t) (ix2 r j) = (((if r.val / 64 = j.val / 64 then 1 / 64 else 0 : ℝ)) : EReal) := by
  refine Eq.trans (b := (show FVec Ideal S256x256 .bf16 from V m c main_v124) (ix2 r j)) ?_ (avg_at m c r j)
  blk_ext [iblk, idx t]

theorem x12_at (t : Fin cfg0.N) (j : Fin 256) :
    (show FVec Ideal S1x256 .f32 from iblk m c 12 t) (ix2 0 j) = G m c (ix1 ⟨t.val / 4 * 256 + j.val, by have := half_lt t; omega⟩) := by
  have hB := half_lt t
  refine Eq.trans (b := (show FVec Ideal S1x512 .f32 from V m c main_v125) (ix2 0 ⟨t.val / 4 * 256 + j.val, by omega⟩)) ?_ (gnG_at m c _)
  blk_ext [iblk, idx t]

theorem x13_at (t : Fin cfg0.N) (j : Fin 256) :
    (show FVec Ideal S1x256 .f32 from iblk m c 13 t) (ix2 0 j) = H m c (ix1 ⟨t.val / 4 * 256 + j.val, by have := half_lt t; omega⟩) := by
  have hB := half_lt t
  refine Eq.trans (b := (show FVec Ideal S1x512 .f32 from V m c main_v126) (ix2 0 ⟨t.val / 4 * 256 + j.val, by omega⟩)) ?_ (gnB_at m c _)
  blk_ext [iblk, idx t]

/-- The result array's entry at a batch row, a position and a column. -/
def res (b : Fin 4) (s : Fin 4096) (k : Fin 512) : EReal := result (X m c) b (G m c (ix1 k)) (H m c (ix1 k)) s.val k.val

/-- What a grid point leaves in the output's buffer. -/
def outBlk (c : Dev nD) (t : Fin cfg0.N) : Vec Ideal S1x4096x256 .bf16 := fun i =>
  res m c (bt t) (i 1) ⟨t.val / 4 * 256 + (i 2).val, by have := half_lt t; have : (i 2).val < 256 := (i 2).isLt; omega⟩

theorem left_named (hX : ∀ c, Fin' (X m c)) (c : Dev nD) (t : Fin cfg0.N) (d e g h) :
    (ms0_14 t).view.read (Elt Ideal) (leftAt m c t d e g h) = outBlk m c t := by
  funext i
  obtain ⟨s, j, rfl⟩ : ∃ s j, i = ix3 0 s j := ⟨i 1, i 2, by
    funext a
    fin_cases a
    · exact Subsingleton.elim (α := Fin 1) _ _
    · rfl
    · rfl⟩
  have hB := half_lt t
  unfold leftAt
  refine (left_at (x0 := iblk m c 0 t) (x1 := iblk m c 1 t) (x2 := iblk m c 2 t) (x3 := iblk m c 3 t) (x4 := iblk m c 4 t) (x5 := iblk m c 5 t)
    (x6 := iblk m c 6 t) (x7 := iblk m c 7 t) (x8 := iblk m c 8 t) (x9 := iblk m c 9 t) (x10 := iblk m c 10 t) (x11 := iblk m c 11 t)
    (x12 := iblk m c 12 t) (x13 := iblk m c 13 t) _ _ _ _ _ _ _ _ _ _ _ _ _ _ _ _ _ _ _ _ _ _ _ _ _ _ _ _ _ _ _ _ _ _ _ _ _ _
    (fun s j => xr (X m c) (bt t) s (t.val / 4 * 256 + j)) (fun s j => xr (X m c) (bt t) s (512 + (t.val / 4 * 256 + j)))
    (fun s j => xr (X m c) (bt t) s (1024 + (t.val / 4 * 256 + j)))
    (dmT (fun h => LF (4 * (t.val / 4) + h)) (fun h => LB (4 * (t.val / 4) + h))) (qdfT (fun h => LF (4 * (t.val / 4) + h))) (kdfT (fun h => LF (4 * (t.val / 4) + h)))
    (qdbT (fun h => LB (4 * (t.val / 4) + h))) (kdbT (fun h => LB (4 * (t.val / 4) + h))) (cT (fun h => LF (4 * (t.val / 4) + h))) (cT (fun h => LB (4 * (t.val / 4) + h)))
    (x0_at m c (hX c) t) (x1_at m c (hX c) t) (x2_at m c (hX c) t) (x4_at m c t) (x5_at m c t) (x6_at m c t) (x7_at m c t) (x8_at m c t)
    (x9_at m c t) (x10_at m c t) (fun r l => if r / 64 = l / 64 then 1 / 64 else 0) (fun s j => xe (X m c) (bt t) s (1536 + (t.val / 4 * 256 + j)))
    (x11_at m c t) (x3_at m c t) d e g h s j).trans ?_
  refine (outOf_result (X m c) (bt t) _ _ _ (t.val / 4) _ _ s.val j.val s.isLt j.isLt
    (fun l hl => (rowS_eq _ _ _ _ _ s.val l s.isLt hl).trans (whole_glob (X m c) (bt t) (t.val / 4) s.val l)) (fun _ _ => rfl) rfl).trans ?_
  unfold outBlk res
  rw [show (iblk m c 12 t) (ix2 0 j) = _ from x12_at m c t j, show (iblk m c 13 t) (ix2 0 j) = _ from x13_at m c t j]
  rfl

/-- The result array after the run. -/
theorem final14 : (dats m (outBlk m) 0 c).arrAt 14 cfg0.N = (fun i => res m c (i 0) (i 1) (i 2) : FVec Ideal S4x4096x512 .bf16) := by
  refine (dats m (outBlk m) 0 c).arrAt_eq_of_covers 14 _ (by decide +kernel) fun t _ y => ?_
  blk_simp
  dsimp only [dats]
  idx_vars y
  obtain rfl : y0 = 0 := Subsingleton.elim _ _
  unfold outBlk
  have e0 : bt t = ((cfg0.win 14).blk t).view.emb (ix3 0 y1 y2) 0 := Fin.ext (by unfold bt; blk_simp [idx t]; simp)
  have e1 : y1 = ((cfg0.win 14).blk t).view.emb (ix3 0 y1 y2) 1 := Fin.ext (by blk_simp [idx t])
  have e2 : (⟨t.val / 4 * 256 + y2.val, by have := half_lt t; omega⟩ : Fin 512) = ((cfg0.win 14).blk t).view.emb (ix3 0 y1 y2) 2 := Fin.ext (by blk_simp [idx t])
  exact congr (congr (congrArg (res m c) e0) e1) e2

end Rt.Smp

end
-- ==== Proof.SmpRetPair.lean ====
/- The retention call's value: its reference's frame, and kernel and reference ending with the same array where queries, keys and values are finite. -/
module

public import proofs.«01_k».proof.Defs
public import proofs.«01_k».proof.Proof.SmpRetRef
public import proofs.«01_k».proof.Proof.SmpRetVal
public import proofs.«01_k».proof.Proof.Gen.SmpRetRefIdeal
public import Idealize.ShloMosaic.Lib.Claim

@[expose] public section

set_option maxRecDepth 16384

noncomputable section

open Idealize.ShloMosaic Idealize.ShloMosaic.TcCoe Idealize.SL.Sem

namespace Rt.Smp

/-- The precondition's side conditions. -/
theorem pre_facts : Cert.Pre_finite_sample.Facts where
  bitsLt_bf16_f32 := by decide
  slices_S4x4096x2048_S4x4096x1536_0_0_0 := by decide
  bcast_S_S4x4096x1536 := by decide

/-- The reference runs, leaves its arguments as they were, and ends with every counter at zero. -/
theorem reference_frame_any (m g) : θ_run Cert.SmpRetRefIdeal.defs (onTc (τ := Cert.SmpRetRefIdeal.τ) (Cert.SmpRetRefIdeal.main (F := Ideal))) ⟨m, fun _ => 0, g⟩
    (fun r => (∀ c : Dev Cert.SmpRetRefIdeal.nD,
      r.2.mem ((c.tc : Thread Cert.SmpRetRefIdeal.nD Cert.SmpRetRefIdeal.τ).loc Cert.SmpRetRefIdeal.main_arg0) = m ((c.tc : Thread Cert.SmpRetRefIdeal.nD Cert.SmpRetRefIdeal.τ).loc Cert.SmpRetRefIdeal.main_arg0)
      ∧ r.2.mem ((c.tc : Thread Cert.SmpRetRefIdeal.nD Cert.SmpRetRefIdeal.τ).loc Cert.SmpRetRefIdeal.main_arg1) = m ((c.tc : Thread Cert.SmpRetRefIdeal.nD Cert.SmpRetRefIdeal.τ).loc Cert.SmpRetRefIdeal.main_arg1)
      ∧ r.2.mem ((c.tc : Thread Cert.SmpRetRefIdeal.nD Cert.SmpRetRefIdeal.τ).loc Cert.SmpRetRefIdeal.main_arg2) = m ((c.tc : Thread Cert.SmpRetRefIdeal.nD Cert.SmpRetRefIdeal.τ).loc Cert.SmpRetRefIdeal.main_arg2))
      ∧ r.2.sem = fun _ => 0) :=
  (θ_run Cert.SmpRetRefIdeal.defs _ _).mono (fun r h => ⟨fun c => (h c).2, sem_eq_zero_of_no_sems (by decide) r.2⟩)
    (Cert.SmpRetRefIdeal.Value.run (F := Ideal) m g)

theorem reference_frame : Cert.quiescent_SmpRetRefIdeal (hSmpRetRefIdeal := Cert.SmpRetRefIdeal.Gen.facts) := fun m g _ => reference_frame_any m g

theorem reference_frame_pre : Cert.quiescent_SmpRetRefIdeal_pre_finite_sample (hSmpRetRefIdeal := Cert.SmpRetRefIdeal.Gen.facts) (hPre_finite_sample := pre_facts) :=
  fun m g _ => reference_frame_any m g

theorem frame_pre : Cert.quiescent_SmpRetIdeal_pre_finite_sample (hSmpRetIdeal := Cert.SmpRetIdeal.Gen.facts) (hPre_finite_sample := pre_facts) :=
  fun m g _ => frame_any m g

open Cert.Pre_finite_sample in
/-- The precondition says every query, key and value of the row is a finite number. -/
theorem finite_row (a : FVec Ideal S4x4096x2048 .bf16) (g h : FVec Ideal S512 .f32)
    (hp : @Cert.Pre_finite_sample.fn pre_facts Ideal _ a g h = fun _ => 1#1) : Fin' a := by
  intro b s k hk
  have := congrFun hp (ix3 b s ⟨k.val, hk⟩)
  revert this
  pointwise [Cert.Pre_finite_sample.fn]
  have e : Ideal.ofBits FTy.f32 2139095040#32 = (⊤ : EReal) := by
    simp [Ideal.ofBits, Ideal.ieee]
  rw [e]
  intro hb
  have hlt := of_bit _ hb
  refine real_of_abs _ (fun ht => ?_) (fun ht => ?_) <;> rw [ht] at hlt <;> revert hlt
  · change ¬ (max (⊤ : EReal) (-⊤) < ⊤)
    simp
  · change ¬ (max (⊥ : EReal) (-⊥) < ⊤)
    simp

/-- Kernel and reference, on the same arguments with finite queries, keys and values, end with the same array. -/
theorem algebraic : Cert.algebraic_SmpRetIdeal_SmpRetRefIdeal_pre_finite_sample (hSmpRetIdeal := Cert.SmpRetIdeal.Gen.facts)
    (hSmpRetRefIdeal := Cert.SmpRetRefIdeal.Gen.facts) (hPre_finite_sample := pre_facts) := by
  intro m g m' g' hpre hagree
  have hX : ∀ c, Fin' (X m c) := fun c => finite_row _ _ _ (hpre c)
  refine ⟨fun c => (fun i => res m c (i 0) (i 1) (i 2) : FVec Ideal Cert.SmpRetIdeal.S4x4096x512 .bf16), ?_, ?_⟩
  · refine (θ_run Cert.SmpRetIdeal.defs _ _).mono (fun r h c => ?_) (run_named m g (outBlk m) (left_named m hX))
    open Cert.SmpRetIdeal Cert.SmpRetIdeal.Gen in
    exact ⟨((h.1 c).1 14).trans (final14 m c),
      ((h.1 c).1 3).trans (((dats m (outBlk m) 0 c).arrAt_in 3 rfl _).trans ((A_eq m (outBlk m) c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩
  · refine θ_run_mono (Cert.SmpRetRefIdeal.Value.run m' g') ?_
    intro r hr c
    obtain ⟨h0, h1, h2⟩ := hagree c
    have e0 : Rt.Smp.Ref.X m' c = X m c := h0
    have e1 : Rt.Smp.Ref.G m' c = G m c := h1
    have e2 : Rt.Smp.Ref.H m' c = H m c := h2
    refine ⟨(hr c).1.trans ?_, (hr c).2⟩
    funext i
    obtain ⟨b, p, k, rfl⟩ : ∃ b p k, i = ix3 b p k := ⟨i 0, i 1, i 2, by funext a; fin_cases a <;> rfl⟩
    refine (Rt.Smp.Ref.out_at m' c (by rw [e0]; exact hX c) b p k).trans ?_
    rw [e0, e1, e2]
    rfl

end Rt.Smp

end
-- ==== Proof.lean ====
/- The certificate's claim, assembled: the frames and the equal texts from the generated modules, the values from the chains below. -/
module

public import proofs.«01_k».proof.Defs
public import proofs.«01_k».proof.Proof.Gen.Ret
public import proofs.«01_k».proof.Proof.Gen.RetIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.RetRefIdeal
public import proofs.«01_k».proof.Proof.Gen.RetRefIdeal.Run
public import proofs.«01_k».proof.Proof.RetClaim
public import proofs.«01_k».proof.Proof.RetPair
public import proofs.«01_k».proof.Proof.FfnClaim
public import proofs.«01_k».proof.Proof.Gen.Smp
public import proofs.«01_k».proof.Proof.Gen.Smp.Frame
public import proofs.«01_k».proof.Proof.Gen.SmpIdeal
public import proofs.«01_k».proof.Proof.Gen.SmpIdeal.Frame
public import proofs.«01_k».proof.Proof.Gen.SmpRefIdeal
public import proofs.«01_k».proof.Proof.SmpClaim
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.InpClaim
public import proofs.«01_k».proof.Proof.Gen.SmpIn
public import proofs.«01_k».proof.Proof.Gen.SmpIn.Frame
public import proofs.«01_k».proof.Proof.Gen.SmpInIdeal
public import proofs.«01_k».proof.Proof.Gen.SmpInIdeal.Frame
public import proofs.«01_k».proof.Proof.Gen.SmpInRefIdeal
public import proofs.«01_k».proof.Proof.SmpInClaim
public import proofs.«01_k».proof.Proof.Gen.SmpRet
public import proofs.«01_k».proof.Proof.Gen.SmpRetIdeal
public import proofs.«01_k».proof.Proof.Gen.SmpRetRefIdeal
public import proofs.«01_k».proof.Proof.SmpRetClaim
public import proofs.«01_k».proof.Proof.SmpRetPair
public import Idealize.ShloMosaic.Adequacy
public import Idealize.ShloMosaic.Init

@[expose] public section

noncomputable section

namespace Cert.Proof

open Idealize.ShloMosaic Idealize.SL.Sem Cert.Ret

/-- Everything claimed: the frames, the equal texts, and the values of the mixing call, the input projection and the retention call, on both batches. -/
theorem claim : Cert.Claim :=
  ⟨Cert.Ret.Gen.facts, Cert.RetIdeal.Gen.facts, Cert.RetRefIdeal.Gen.facts, Cert.Ffn.Gen.facts, Cert.FfnIdeal.Gen.facts,
    Cert.FfnRefIdeal.Gen.facts, Cert.Smp.Gen.facts, Cert.SmpIdeal.Gen.facts,
    Cert.SmpRefIdeal.Gen.facts, Cert.Inp.Gen.facts, Cert.InpIdeal.Gen.facts, Cert.InpRefIdeal.Gen.facts,
    Cert.SmpIn.Gen.facts, Cert.SmpInIdeal.Gen.facts, Cert.SmpInRefIdeal.Gen.facts,
    Cert.SmpRet.Gen.facts, Cert.SmpRetIdeal.Gen.facts, Cert.SmpRetRefIdeal.Gen.facts, Rt.pre_facts, Rt.Smp.pre_facts,
    Rt.frame_bits, Rt.frame_ideal, Rt.frame_pre, Rt.reference_frame, Rt.reference_frame_pre,
    fun m ρ _ => Cert.Ffn.Gen.frame m ρ, fun m ρ _ => Cert.FfnIdeal.Gen.frame m ρ,
    Ffn.reference_frame, fun m ρ _ => Cert.Smp.Gen.frame m ρ, fun m ρ _ => Cert.SmpIdeal.Gen.frame m ρ,
    Ffn.Smp.reference_frame, fun m ρ _ => Cert.Inp.Gen.frame m ρ, fun m ρ _ => Cert.InpIdeal.Gen.frame m ρ, Inp.reference_frame,
    fun m ρ _ => Cert.SmpIn.Gen.frame m ρ, fun m ρ _ => Cert.SmpInIdeal.Gen.frame m ρ, Inp.Smp.reference_frame,
    Rt.Smp.frame_bits, Rt.Smp.frame_ideal, Rt.Smp.frame_pre, Rt.Smp.reference_frame, Rt.Smp.reference_frame_pre,
    trivial, Rt.algebraic, trivial, Ffn.algebraic, trivial, Ffn.Smp.algebraic, trivial, Inp.algebraic, trivial, Inp.Smp.algebraic,
    trivial, Rt.Smp.algebraic⟩

end Cert.Proof

end
